-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![1, 4096, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = Layout.block ⟨3, ![1, 1024, 1024]⟩ ⟨3, ![1, 4096, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x8x128 : S_.BroadcastsInDim S1x1024x8x128 (![] : Fin 0 → Fin S1x1024x8x128.rank)

variable [Facts]

def fn {F : FTy → Type} [FloatOps F] (main_arg0 : FVec F S1x1024x1024 .f32) (main_arg1 : FVec F S1024x1024 .f32) (main_arg2 : FVec F S1x1024x8x128 .f32) (main_arg3 : FVec F S1x1024x8x128 .f32) (main_arg4 : FVec F S1024x1024 .f32) : IVec S1x1024x1024 1 × IVec S1024x1024 1 × IVec S1x1024x8x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x1024x8x128 .f32 := Host.absf main_arg2
  let main_cst_1 : FVec F S_ .f32 := constant S_ .f32 0x7F800000#32
  let main_v7 : FVec F S1x1024x8x128 .f32 := broadcastInDim S1x1024x8x128 ![] bcast_S_S1x1024x8x128 main_cst_1
  let main_v8 : IVec S1x1024x8x128 1 := cmpf .olt main_v6 main_v7
  (main_v2, main_v5, main_v8)
-- ==== Pre_finite_ReferenceIdeal.lean ====
abbrev S1x4096x1024 : Shape := ⟨3, ![1, 4096, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x4096x1024 : S_.BroadcastsInDim S1x4096x1024 (![] : Fin 0 → Fin S1x4096x1024.rank)
  bcast_S_S1024x1024 : S_.BroadcastsInDim S1024x1024 (![] : Fin 0 → Fin S1024x1024.rank)
  bcast_S_S1x4096x8x128 : S_.BroadcastsInDim S1x4096x8x128 (![] : Fin 0 → Fin S1x4096x8x128.rank)

variable [Facts]

def fn {F : FTy → Type} [FloatOps F] (main_arg0 : FVec F S1x4096x1024 .f32) (main_arg1 : FVec F S1024x1024 .f32) (main_arg2 : FVec F S1x4096x8x128 .f32) (main_arg3 : FVec F S1x4096x8x128 .f32) (main_arg4 : FVec F S1024x1024 .f32) : IVec S1x4096x1024 1 × IVec S1024x1024 1 × IVec S1x4096x8x128 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x4096x8x128 .f32 := Host.absf main_arg2
  let main_cst_1 : FVec F S_ .f32 := constant S_ .f32 0x7F800000#32
  let main_v7 : FVec F S1x4096x8x128 .f32 := broadcastInDim S1x4096x8x128 ![] bcast_S_S1x4096x8x128 main_cst_1
  let main_v8 : IVec S1x4096x8x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S4x512x2048 : Shape := ⟨3, ![4, 512, 2048]⟩
abbrev S4 : Shape := ⟨1, ![4]⟩
abbrev S2 : Shape := ⟨1, ![2]⟩
abbrev S1024x512 : Shape := ⟨2, ![1024, 512]⟩
abbrev S1024x8 : Shape := ⟨2, ![1024, 8]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S1x512x2048 : Shape := ⟨3, ![1, 512, 2048]⟩
abbrev S512x2048 : Shape := ⟨2, ![512, 2048]⟩
abbrev S1024x128 : Shape := ⟨2, ![1024, 128]⟩
abbrev S1x512x128 : Shape := ⟨3, ![1, 512, 128]⟩
abbrev S512x128 : Shape := ⟨2, ![512, 128]⟩
abbrev S1024x1 : Shape := ⟨2, ![1024, 1]⟩
abbrev S1024 : Shape := ⟨1, ![1024]⟩
abbrev S1x256x2048 : Shape := ⟨3, ![1, 256, 2048]⟩
abbrev S256x2048 : Shape := ⟨2, ![256, 2048]⟩
abbrev S1024x256 : Shape := ⟨2, ![1024, 256]⟩
abbrev S1x256x128 : Shape := ⟨3, ![1, 256, 128]⟩
abbrev S256x128 : Shape := ⟨2, ![256, 128]⟩

abbrev nBuf : Space → Nat
  | .hbm => 15
  | .vmem => 8
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x8x128, .f32⟩
  | .hbm, ⟨3, _⟩ => ⟨S1x1024x8x128, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S1024x1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .f32⟩
  | .hbm, ⟨14, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S4x512x2048, .bf16⟩
  | .local _ .vmem, ⟨4, _⟩ => ⟨S1024x1024, .bf16⟩
  | .local _ .vmem, ⟨5, _⟩ => ⟨S1024x1024, .f32⟩
  | .local _ .vmem, ⟨6, _⟩ => ⟨S1024x512, .f32⟩
  | .local _ .vmem, ⟨7, _⟩ => ⟨S1024x8, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 3 23 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch7 : Ref sig .tc := ⟨.vmem, 4, rfl⟩
abbrev cc0_scratch8 : Ref sig .tc := ⟨.vmem, 5, rfl⟩
abbrev cc0_scratch9 : Ref sig .tc := ⟨.vmem, 6, rfl⟩
abbrev cc0_scratch10 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_25 : BitVec 32 := 1#32
  let v29 : BitVec 32 := Scalar.muli v5 c1_i32_25
  let v30 : BitVec 32 := Scalar.addi c0_i32_26 v29
  v30.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_28 : BitVec 32 := 1#32
  let v31 : BitVec 32 := Scalar.muli v7 c1_i32_28
  let v32 : BitVec 32 := Scalar.addi c0_i32_29 v31
  v32.toNat
def k0_dev3 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_59 : BitVec 32 := 1#32
  let v53 : BitVec 32 := Scalar.muli v7 c1_i32_59
  let v54 : BitVec 32 := Scalar.addi c0_i32_60 v53
  v54.toNat
def k0_dev4 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_69 : BitVec 32 := 1#32
  let v63 : BitVec 32 := Scalar.muli v5 c1_i32_69
  let v64 : BitVec 32 := Scalar.addi c0_i32_70 v63
  v64.toNat
def k0_dev5 (d0 : Dev nD) : Nat :=
  let c0_i32_492 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_491 : BitVec 32 := 1#32
  let v641 : BitVec 32 := Scalar.muli v5 c1_i32_491
  let v642 : BitVec 32 := Scalar.addi c0_i32_492 v641
  v642.toNat
def k0_dev6 (d0 : Dev nD) : Nat :=
  let c0_i32_496 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_495 : BitVec 32 := 1#32
  let v645 : BitVec 32 := Scalar.muli v7 c1_i32_495
  let v646 : BitVec 32 := Scalar.addi c0_i32_496 v645
  v646.toNat
def k0_dev7 (d0 : Dev nD) : Nat :=
  let c0_i32_508 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_507 : BitVec 32 := 1#32
  let v651 : BitVec 32 := Scalar.muli v7 c1_i32_507
  let v652 : BitVec 32 := Scalar.addi c0_i32_508 v651
  v652.toNat
def k0_dev8 (d0 : Dev nD) : Nat :=
  let c0_i32_518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_517 : BitVec 32 := 1#32
  let v661 : BitVec 32 := Scalar.muli v5 c1_i32_517
  let v662 : BitVec 32 := Scalar.addi c0_i32_518 v661
  v662.toNat
def k0_dev9 (d0 : Dev nD) : Nat :=
  let c0_i32_953 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_952 : BitVec 32 := 1#32
  let v1220 : BitVec 32 := Scalar.muli v5 c1_i32_952
  let v1221 : BitVec 32 := Scalar.addi c0_i32_953 v1220
  v1221.toNat
def k0_dev10 (d0 : Dev nD) : Nat :=
  let c0_i32_957 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_956 : BitVec 32 := 1#32
  let v1224 : BitVec 32 := Scalar.muli v7 c1_i32_956
  let v1225 : BitVec 32 := Scalar.addi c0_i32_957 v1224
  v1225.toNat
def k0_dev11 (d0 : Dev nD) : Nat :=
  let c0_i32_969 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_968 : BitVec 32 := 1#32
  let v1230 : BitVec 32 := Scalar.muli v7 c1_i32_968
  let v1231 : BitVec 32 := Scalar.addi c0_i32_969 v1230
  v1231.toNat
def k0_dev12 (d0 : Dev nD) : Nat :=
  let c0_i32_979 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_978 : BitVec 32 := 1#32
  let v1240 : BitVec 32 := Scalar.muli v5 c1_i32_978
  let v1241 : BitVec 32 := Scalar.addi c0_i32_979 v1240
  v1241.toNat
def k0_dev13 (d0 : Dev nD) : Nat :=
  let c0_i32_989 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_988 : BitVec 32 := 1#32
  let v1250 : BitVec 32 := Scalar.muli v7 c1_i32_988
  let v1251 : BitVec 32 := Scalar.addi c0_i32_989 v1250
  v1251.toNat
def k0_dev14 (d0 : Dev nD) : Nat :=
  let c0_i32_998 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_997 : BitVec 32 := 1#32
  let v1260 : BitVec 32 := Scalar.muli v5 c1_i32_997
  let v1261 : BitVec 32 := Scalar.addi c0_i32_998 v1260
  v1261.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x4096x1024 : Shape := ⟨3, ![1, 4096, 1024]⟩
abbrev S1024x1024 : Shape := ⟨2, ![1024, 1024]⟩
abbrev S1x4096x8x128 : Shape := ⟨4, ![1, 4096, 8, 128]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S1x8x4096x4096 : Shape := ⟨4, ![1, 8, 4096, 4096]⟩
abbrev S1x1x4096x4096 : Shape := ⟨4, ![1, 1, 4096, 4096]⟩
abbrev S1x8x4096 : Shape := ⟨3, ![1, 8, 4096]⟩
abbrev S1x8x4096x1 : Shape := ⟨4, ![1, 8, 4096, 1]⟩
abbrev S1x1x4096x1 : Shape := ⟨4, ![1, 1, 4096, 1]⟩
abbrev S1x8x128x4096 : Shape := ⟨4, ![1, 8, 128, 4096]⟩

abbrev nBuf : Space → Nat
  | .hbm => 123
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S1x4096x1024, .f32⟩
  | .hbm, ⟨6, _⟩ => ⟨S1x4096x8x128, .f32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S4096x4096, .i32⟩
  | .hbm, ⟨48, _⟩ => ⟨S4096x4096, .i32⟩
  | .hbm, ⟨49, _⟩ => ⟨S4096x4096, .i1⟩
  | .hbm, ⟨50, _⟩ => ⟨S_, .i32⟩
  | .hbm, ⟨51, _⟩ => ⟨S1x4096, .i32⟩
  | .hbm, ⟨52, _⟩ => ⟨S1x4096, .i1⟩
  | .hbm, ⟨53, _⟩ => ⟨S4096x4096, .i1⟩
  | .hbm, ⟨54, _⟩ => ⟨S4096x4096, .i1⟩
  | .hbm, ⟨55, _⟩ => ⟨S4096x4096, .i32⟩
  | .hbm, ⟨56, _⟩ => ⟨S4096x4096, .i32⟩
  | .hbm, ⟨57, _⟩ => ⟨S4096x4096, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S4096x4096, .i32⟩
  | .hbm, ⟨65, _⟩ => ⟨S4096x4096, .i32⟩
  | .hbm, ⟨66, _⟩ => ⟨S_, .i32⟩
  | .hbm, ⟨67, _⟩ => ⟨S4096x4096, .i32⟩
  | .hbm, ⟨68, _⟩ => ⟨S4096x4096, .i1⟩
  | .hbm, ⟨69, _⟩ => ⟨S_, .i32⟩
  | .hbm, ⟨70, _⟩ => ⟨S4096x4096, .i32⟩
  | .hbm, ⟨71, _⟩ => ⟨S4096x4096, .i1⟩
  | .hbm, ⟨72, _⟩ => ⟨S_, .i32⟩
  | .hbm, ⟨73, _⟩ => ⟨S_, .i1⟩
  | .hbm, ⟨74, _⟩ => ⟨S4096x4096, .i1⟩
  | .hbm, ⟨75, _⟩ => ⟨S4096x4096, .i1⟩
  | .hbm, ⟨76, _⟩ => ⟨S4096x4096, .i1⟩
  | .hbm, ⟨77, _⟩ => ⟨S4096x4096, .i32⟩
  | .hbm, ⟨78, _⟩ => ⟨S4096x4096, .i32⟩
  | .hbm, ⟨79, _⟩ => ⟨S4096x4096, .i32⟩
  | .hbm, ⟨80, _⟩ => ⟨S_, .i32⟩
  | .hbm, ⟨81, _⟩ => ⟨S4096x4096, .i32⟩
  | .hbm, ⟨82, _⟩ => ⟨S4096x4096, .i1⟩
  | .hbm, ⟨83, _⟩ => ⟨S4096x4096, .i1⟩
  | .hbm, ⟨84, _⟩ => ⟨S1x8x4096x4096, .f32⟩
  | .hbm, ⟨85, _⟩ => ⟨S_, .f32⟩
  | .hbm, ⟨86, _⟩ => ⟨S1x8x4096x4096, .f32⟩
  | .hbm, ⟨87, _⟩ => ⟨S1x8x4096x4096, .f32⟩
  | .hbm, ⟨88, _⟩ => ⟨S1x1x4096x4096, .i1⟩
  | .hbm, ⟨89, _⟩ => ⟨S_, .f32⟩
  | .hbm, ⟨90, _⟩ => ⟨S_, .f32⟩
  | .hbm, ⟨91, _⟩ => ⟨S1x8x4096x4096, .i1⟩
  | .hbm, ⟨92, _⟩ => ⟨S1x8x4096x4096, .f32⟩
  | .hbm, ⟨93, _⟩ => ⟨S1x8x4096x4096, .f32⟩
  | .hbm, ⟨94, _⟩ => ⟨S_, .f32⟩
  | .hbm, ⟨95, _⟩ => ⟨S1x8x4096, .f32⟩
  | .hbm, ⟨96, _⟩ => ⟨S1x8x4096x1, .f32⟩
  | .hbm, ⟨97, _⟩ => ⟨S1x8x4096x4096, .f32⟩
  | .hbm, ⟨98, _⟩ => ⟨S1x8x4096x4096, .f32⟩
  | .hbm, ⟨99, _⟩ => ⟨S1x8x4096x4096, .f32⟩
  | .hbm, ⟨100, _⟩ => ⟨S_, .i1⟩
  | .hbm, ⟨101, _⟩ => ⟨S4096, .i1⟩
  | .hbm, ⟨102, _⟩ => ⟨S1x1x4096x1, .i1⟩
  | .hbm, ⟨103, _⟩ => ⟨S_, .f32⟩
  | .hbm, ⟨104, _⟩ => ⟨S1x8x4096, .f32⟩
  | .hbm, ⟨105, _⟩ => ⟨S1x8x4096x1, .f32⟩
  | .hbm, ⟨106, _⟩ => ⟨S_, .f32⟩
  | .hbm, ⟨107, _⟩ => ⟨S_, .f32⟩
  | .hbm, ⟨108, _⟩ => ⟨S1x8x4096x1, .i1⟩
  | .hbm, ⟨109, _⟩ => ⟨S1x8x4096x1, .f32⟩
  | .hbm, ⟨110, _⟩ => ⟨S1x8x4096x1, .f32⟩
  | .hbm, ⟨111, _⟩ => ⟨S1x8x4096x4096, .f32⟩
  | .hbm, ⟨112, _⟩ => ⟨S1x8x4096x4096, .f32⟩
  | .hbm, ⟨113, _⟩ => ⟨S1x1x4096x1, .i1⟩
  | .hbm, ⟨114, _⟩ => ⟨S_, .f32⟩
  | .hbm, ⟨115, _⟩ => ⟨S_, .f32⟩
  | .hbm, ⟨116, _⟩ => ⟨S1x8x4096x4096, .i1⟩
  | .hbm, ⟨117, _⟩ => ⟨S1x8x4096x4096, .f32⟩
  | .hbm, ⟨118, _⟩ => ⟨S1x8x4096x4096, .f32⟩
  | .hbm, ⟨119, _⟩ => ⟨S1x8x128x4096, .f32⟩
  | .hbm, ⟨120, _⟩ => ⟨S1x4096x8x128, .f32⟩
  | .hbm, ⟨121, _⟩ => ⟨S1x4096x1024, .f32⟩
  | .hbm, ⟨122, _⟩ => ⟨S1x4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]

def κ : String → Option EReal := fun
  | "mask" => some ⊥
  | _ => none
-- ==== Proof.Struct.lean ====
/- The kernel's body in structured form: the prologue, ten folds of one shape, the exchanges between
   them, the epilogue — and the proof that it is the printed body. -/
module

public import proofs.«01_k».proof.Proof.Gen.KernelIdeal
public import Idealize.ShloMosaic.Lib.Tactic

@[expose] public section

set_option maxRecDepth 65536

noncomputable section

namespace Cert.KernelIdeal.Str

open Idealize.ShloMosaic Idealize.SL.Sem
open Cert.KernelIdeal Cert.KernelIdeal.Facts₀ Cert.KernelIdeal.Facts

variable {F : FTy → Type} [FloatOps F] [Named F]

/-- The programs the body is made of. -/
abbrev Pg (F : FTy → Type) (α : Type) := Prog (TpuEff nD τ sig (Elt F) Λ₀ .tc) α

/-! ## Offsets in bounds -/

/-- A head's columns lie within the array. -/
theorem inbQ (h : ℕ) (hh : h < 8) : ∀ a, (![0, 128 * h] : Fin 2 → Nat) a + S1024x128.size a ≤ S1024x1024.size a := by
  intro a; fin_cases a <;> simp <;> omega
/-- A head's denominators lie within the array. -/
theorem inbL (h : ℕ) (hh : h < 8) : ∀ a, (![0, h] : Fin 2 → Nat) a + S1024x1.size a ≤ S1024x8.size a := by
  intro a; fin_cases a <;> simp <;> omega
/-- A head's keys lie within the slots. -/
theorem inbK (s o : ℕ) (hs : s < 4) (ho : o + 128 ≤ 2048) :
    ∀ a, (![s, 0, o] : Fin 3 → Nat) a + S1x512x128.size a ≤ S4x512x2048.size a := by
  intro a; fin_cases a <;> simp <;> omega
/-- A head's keys of half a slot lie within the slots. -/
theorem inbK' (s r o : ℕ) (hs : s < 4) (hr : r ≤ 256) (ho : o + 128 ≤ 2048) :
    ∀ a, (![s, r, o] : Fin 3 → Nat) a + S1x256x128.size a ≤ S4x512x2048.size a := by
  intro a; fin_cases a <;> simp <;> omega
/-- A slot lies within the slots. -/
theorem inbS (s : ℕ) (hs : s < 4) :
    ∀ a, (![s, 0, 0] : Fin 3 → Nat) a + S1x512x2048.size a ≤ S4x512x2048.size a := by
  intro a; fin_cases a <;> simp <;> omega
/-- Half a slot lies within the slots. -/
theorem inbH (s r : ℕ) (hs : s < 4) (hr : r ≤ 256) :
    ∀ a, (![s, r, 0] : Fin 3 → Nat) a + S1x256x2048.size a ≤ S4x512x2048.size a := by
  intro a; fin_cases a <;> simp <;> omega

/-! ## Values -/

/-- Row and column block numbers, `x / 64` rounded down. -/
def blk512 (x : IVec S1024x512 32) : IVec S1024x512 32 :=
  select (andi
      (cmpi .ne
        (subi (extui 32 (cmpi .sgt x (broadcast S1024x512 (0#32 : BitVec 32))) natLt_1_32)
          (extui 32 (cmpi .slt x (broadcast S1024x512 (0#32 : BitVec 32))) natLt_1_32))
        (broadcast S1024x512 (Scalar.subi (Scalar.extui (Scalar.cmpi .sgt (64#32 : BitVec 32) 0#32)) (Scalar.extui (Scalar.cmpi .slt (64#32 : BitVec 32) 0#32)) : BitVec 32)))
      (cmpi .ne (remsi x (broadcast S1024x512 (64#32 : BitVec 32))) (broadcast S1024x512 (0#32 : BitVec 32))))
    (subi (divsi x (broadcast S1024x512 (64#32 : BitVec 32))) (broadcast S1024x512 (1#32 : BitVec 32)))
    (divsi x (broadcast S1024x512 (64#32 : BitVec 32)))

/-- The query rows' block numbers on the device whose word is `my`. -/
def qb512 (my : BitVec 32) : IVec S1024x512 32 :=
  addi (broadcast S1024x512 (Scalar.muli my 16#32)) (blk512 (iota .tc S1024x512 32 [0] iota_S1024x512_d0_w32))

/-- The key columns' block numbers: of the device whose word is `org`, from block `off` on. -/
def kb512 (org off : BitVec 32) : IVec S1024x512 32 :=
  addi (broadcast S1024x512 (Scalar.addi (Scalar.muli org 16#32) off)) (blk512 (iota .tc S1024x512 32 [1] iota_S1024x512_d1_w32))

/-- Which columns a row attends to. -/
def vis512 (my org off : BitVec 32) : IVec S1024x512 1 :=
  ori (ori (cmpi .eq (qb512 my) (kb512 org off)) (cmpi .eq (kb512 org off) (broadcast S1024x512 (0#32 : BitVec 32))))
    (cmpi .eq (remsi (addi (qb512 my) (kb512 org off)) (broadcast S1024x512 (3#32 : BitVec 32))) (broadcast S1024x512 (0#32 : BitVec 32)))

/-- The additive mask. -/
def bias512 (my org off : BitVec 32) : FVec F S1024x512 .f32 :=
  shapeCast S1024x512 (select (vis512 my org off) (broadcast S1024x512 (Scalar.ofBits .f32 0x00000000#32 : F .f32))
    (broadcast S1024x512 (Named.named κ "mask" 0xCE6E6B28#32 : F .f32))) shapeCasts_S1024x512_S1024x512

/-- One head's exponentials. -/
def pr512 (q : Vec F S1024x128 .bf16) (k : Vec F S1x512x128 .bf16) (b : Vec F S1024x512 .f32) : FVec F S1024x512 .f32 :=
  exp (addf (matmul dot_S1024x128_S512x128_S1024x512_1_1_0_0_n_n none q
    (shapeCast S512x128 k shapeCasts_S1x512x128_S512x128 : FVec F S512x128 .bf16) (constant S1024x512 .f32 0x00000000#32)) b)

/-- The running denominator's next value. -/
def lUp512 (q : Vec F S1024x128 .bf16) (k : Vec F S1x512x128 .bf16) (b : Vec F S1024x512 .f32) (l : Vec F S1024x1 .f32) : FVec F S1024x1 .f32 :=
  shapeCast S1024x1 (addf l (shapeCast S1024x1 (multiReduction .add [1] S1024 (pr512 q k b) 0x00000000#32 reduces_S1024x512_S1024 (.inl rfl) rfl)
    shapeCasts_S1024_S1024x1)) shapeCasts_S1024x1_S1024x1

/-- The running numerator's next value. -/
def aUp512 (q : Vec F S1024x128 .bf16) (k v : Vec F S1x512x128 .bf16) (b : Vec F S1024x512 .f32) (a : Vec F S1024x128 .f32) : FVec F S1024x128 .f32 :=
  shapeCast S1024x128 (addf a (matmul dot_S1024x512_S512x128_S1024x128_1_0_0_1_n_n none (truncf .bf16 (pr512 q k b) bitsLt_bf16_f32)
    (shapeCast S512x128 v shapeCasts_S1x512x128_S512x128 : FVec F S512x128 .bf16) (constant S1024x128 .f32 0x00000000#32))) shapeCasts_S1024x128_S1024x128

/-- Row and column block numbers, `x / 64` rounded down. -/
def blk256 (x : IVec S1024x256 32) : IVec S1024x256 32 :=
  select (andi
      (cmpi .ne
        (subi (extui 32 (cmpi .sgt x (broadcast S1024x256 (0#32 : BitVec 32))) natLt_1_32)
          (extui 32 (cmpi .slt x (broadcast S1024x256 (0#32 : BitVec 32))) natLt_1_32))
        (broadcast S1024x256 (Scalar.subi (Scalar.extui (Scalar.cmpi .sgt (64#32 : BitVec 32) 0#32)) (Scalar.extui (Scalar.cmpi .slt (64#32 : BitVec 32) 0#32)) : BitVec 32)))
      (cmpi .ne (remsi x (broadcast S1024x256 (64#32 : BitVec 32))) (broadcast S1024x256 (0#32 : BitVec 32))))
    (subi (divsi x (broadcast S1024x256 (64#32 : BitVec 32))) (broadcast S1024x256 (1#32 : BitVec 32)))
    (divsi x (broadcast S1024x256 (64#32 : BitVec 32)))

/-- The query rows' block numbers on the device whose word is `my`. -/
def qb256 (my : BitVec 32) : IVec S1024x256 32 :=
  addi (broadcast S1024x256 (Scalar.muli my 16#32)) (blk256 (iota .tc S1024x256 32 [0] iota_S1024x256_d0_w32))

/-- The key columns' block numbers: of the device whose word is `org`, from block `off` on. -/
def kb256 (org off : BitVec 32) : IVec S1024x256 32 :=
  addi (broadcast S1024x256 (Scalar.addi (Scalar.muli org 16#32) off)) (blk256 (iota .tc S1024x256 32 [1] iota_S1024x256_d1_w32))

/-- Which columns a row attends to. -/
def vis256 (my org off : BitVec 32) : IVec S1024x256 1 :=
  ori (ori (cmpi .eq (qb256 my) (kb256 org off)) (cmpi .eq (kb256 org off) (broadcast S1024x256 (0#32 : BitVec 32))))
    (cmpi .eq (remsi (addi (qb256 my) (kb256 org off)) (broadcast S1024x256 (3#32 : BitVec 32))) (broadcast S1024x256 (0#32 : BitVec 32)))

/-- The additive mask. -/
def bias256 (my org off : BitVec 32) : FVec F S1024x256 .f32 :=
  shapeCast S1024x256 (select (vis256 my org off) (broadcast S1024x256 (Scalar.ofBits .f32 0x00000000#32 : F .f32))
    (broadcast S1024x256 (Named.named κ "mask" 0xCE6E6B28#32 : F .f32))) shapeCasts_S1024x256_S1024x256

/-- One head's exponentials. -/
def pr256 (q : Vec F S1024x128 .bf16) (k : Vec F S1x256x128 .bf16) (b : Vec F S1024x256 .f32) : FVec F S1024x256 .f32 :=
  exp (addf (matmul dot_S1024x128_S256x128_S1024x256_1_1_0_0_n_n none q
    (shapeCast S256x128 k shapeCasts_S1x256x128_S256x128 : FVec F S256x128 .bf16) (constant S1024x256 .f32 0x00000000#32)) b)

/-- The running denominator's next value. -/
def lUp256 (q : Vec F S1024x128 .bf16) (k : Vec F S1x256x128 .bf16) (b : Vec F S1024x256 .f32) (l : Vec F S1024x1 .f32) : FVec F S1024x1 .f32 :=
  shapeCast S1024x1 (addf l (shapeCast S1024x1 (multiReduction .add [1] S1024 (pr256 q k b) 0x00000000#32 reduces_S1024x256_S1024 (.inl rfl) rfl)
    shapeCasts_S1024_S1024x1)) shapeCasts_S1024x1_S1024x1

/-- The running numerator's next value. -/
def aUp256 (q : Vec F S1024x128 .bf16) (k v : Vec F S1x256x128 .bf16) (b : Vec F S1024x256 .f32) (a : Vec F S1024x128 .f32) : FVec F S1024x128 .f32 :=
  shapeCast S1024x128 (addf a (matmul dot_S1024x256_S256x128_S1024x128_1_0_0_1_n_n none (truncf .bf16 (pr256 q k b) bitsLt_bf16_f32)
    (shapeCast S256x128 v shapeCasts_S1x256x128_S256x128 : FVec F S256x128 .bf16) (constant S1024x128 .f32 0x00000000#32))) shapeCasts_S1024x128_S1024x128

/-- The scaled queries. -/
def qUp (x w : Vec F S1024x1024 .bf16) : FVec F S1024x1024 .bf16 :=
  shapeCast S1024x1024 (truncf .bf16 (mulf (matmul dot_S1024x1024_S1024x1024_S1024x1024_1_0_0_1_n_n none
      (shapeCast S1024x1024 x shapeCasts_S1024x1024_S1024x1024 : FVec F S1024x1024 .bf16)
      (shapeCast S1024x1024 w shapeCasts_S1024x1024_S1024x1024 : FVec F S1024x1024 .bf16) (constant S1024x1024 .f32 0x00000000#32))
    (broadcast S1024x1024 (Scalar.ofBits .f32 0x3DB504F3#32 : F .f32))) bitsLt_bf16_f32) shapeCasts_S1024x1024_S1024x1024

/-- One head's normalised rows. -/
def nUp (a : Vec F S1024x128 .f32) (l : Vec F S1024x1 .f32) : FVec F S1024x128 .bf16 :=
  shapeCast S1024x128 (truncf .bf16 (divf a (broadcastTo S1024x128 l broadcasts_S1024x1_S1024x128)) bitsLt_bf16_f32)
    shapeCasts_S1024x128_S1024x128

/-- The output projection. -/
def oUp (q w : Vec F S1024x1024 .bf16) : FVec F S1024x1024 .f32 :=
  shapeCast S1024x1024 (matmul dot_S1024x1024_S1024x1024_S1024x1024_1_0_0_1_n_n none q
      (shapeCast S1024x1024 w shapeCasts_S1024x1024_S1024x1024 : FVec F S1024x1024 .bf16) (constant S1024x1024 .f32 0x00000000#32))
    shapeCasts_S1024x1024_S1024x1024

/-- Zeros. -/
def z8 : FVec F S1024x8 .f32 :=
  shapeCast S1024x8 (broadcast S1024x8 (Scalar.ofBits .f32 0x00000000#32 : F .f32)) shapeCasts_S1024x8_S1024x8
def z1024 : FVec F S1024x1024 .f32 :=
  shapeCast S1024x1024 (broadcast S1024x1024 (Scalar.ofBits .f32 0x00000000#32 : F .f32)) shapeCasts_S1024x1024_S1024x1024

/-! ## Rectangles -/

abbrev rQ (h : ℕ) (hh : h < 8) : Rect S1024x1024 := Rect.unit (s := S1024x1024) ![0, 128 * h] S1024x128.size (inbQ h hh)
abbrev rL (h : ℕ) (hh : h < 8) : Rect S1024x8 := Rect.unit (s := S1024x8) ![0, h] S1024x1.size (inbL h hh)
abbrev rK512 (s o : ℕ) (hs : s < 4) (ho : o + 128 ≤ 2048) : Rect S4x512x2048 :=
  Rect.unit (s := S4x512x2048) ![s, 0, o] S1x512x128.size (inbK s o hs ho)
abbrev rK256 (s r o : ℕ) (hs : s < 4) (hr : r ≤ 256) (ho : o + 128 ≤ 2048) : Rect S4x512x2048 :=
  Rect.unit (s := S4x512x2048) ![s, r, o] S1x256x128.size (inbK' s r o hs hr ho)
abbrev rB512 : Rect S1024x512 := Rect.unit (s := S1024x512) ![0, 0] S1024x512.size inb_S1024x512_S1024x512_0_0
abbrev rB256 : Rect S1024x512 := Rect.unit (s := S1024x512) ![0, 0] S1024x256.size inb_S1024x512_S1024x256_0_0
abbrev rF : Rect S1024x1024 := Rect.unit (s := S1024x1024) ![0, 0] S1024x1024.size inb_S1024x1024_S1024x1024_0_0
abbrev rF8 : Rect S1024x8 := Rect.unit (s := S1024x8) ![0, 0] S1024x8.size inb_S1024x8_S1024x8_0_0

/-! ## Pieces of the body -/

section Pieces

variable (a6 : Memref sig .tc .vmem S4x512x2048 .bf16) (a13 : Memref sig .tc .vmem S1024x1024 .bf16)
  (a14 : Memref sig .tc .vmem S1024x1024 .f32) (a15 : Memref sig .tc .vmem S1024x512 .f32) (a16 : Memref sig .tc .vmem S1024x8 .f32)

/-- One head of one fold over 512 rows of slot `s`. -/
def head512 (s h : ℕ) (hs : s < 4) (hh : h < 8) : Pg F PUnit := do
  let q : Vec F S1024x128 .bf16 ← Prog.lift (.load a13 (rQ h hh).toLoadRect (View.loadsAt_vmem h_S1024x128))
  let k : Vec F S1x512x128 .bf16 ← Prog.lift (.load a6 (rK512 s (128 * h) hs (by omega)).toLoadRect (View.loadsAt_vmem h_S1x512x128))
  let v : Vec F S1x512x128 .bf16 ← Prog.lift (.load a6 (rK512 s (1024 + 128 * h) hs (by omega)).toLoadRect (View.loadsAt_vmem h_S1x512x128))
  let b : Vec F S1024x512 .f32 ← Prog.lift (.load a15 rB512.toLoadRect (View.loadsAt_vmem h_S1024x512))
  let l : Vec F S1024x1 .f32 ← Prog.lift (.load a16 (rL h hh).toLoadRect (View.loadsAt_vmem h_S1024x1))
  let _ : Vec F S1024x1 .f32 ← Prog.lift (.load a16 (rL h hh).toLoadRect (View.loadsAt_vmem h_S1024x1))
  Prog.lift (.store a16 (rL h hh) (lUp512 q k b l) Finset.univ (View.stores_vmem_bits_univ h_S1024x1 rfl) (.inl rfl))
  let a : Vec F S1024x128 .f32 ← Prog.lift (.load a14 (rQ h hh).toLoadRect (View.loadsAt_vmem h_S1024x128))
  let _ : Vec F S1024x128 .f32 ← Prog.lift (.load a14 (rQ h hh).toLoadRect (View.loadsAt_vmem h_S1024x128))
  Prog.lift (.store a14 (rQ h hh) (aUp512 q k v b a) Finset.univ (View.stores_vmem_bits_univ h_S1024x128 rfl) (.inl rfl))

/-- One head of one fold over 256 rows of slot `s`. -/
def head256 (s r h : ℕ) (hs : s < 4) (hr : r ≤ 256) (hh : h < 8) : Pg F PUnit := do
  let q : Vec F S1024x128 .bf16 ← Prog.lift (.load a13 (rQ h hh).toLoadRect (View.loadsAt_vmem h_S1024x128))
  let k : Vec F S1x256x128 .bf16 ← Prog.lift (.load a6 (rK256 s r (128 * h) hs hr (by omega)).toLoadRect (View.loadsAt_vmem h_S1x256x128))
  let v : Vec F S1x256x128 .bf16 ← Prog.lift (.load a6 (rK256 s r (1024 + 128 * h) hs hr (by omega)).toLoadRect (View.loadsAt_vmem h_S1x256x128))
  let b : Vec F S1024x256 .f32 ← Prog.lift (.load a15 rB256.toLoadRect (View.loadsAt_vmem h_S1024x256))
  let l : Vec F S1024x1 .f32 ← Prog.lift (.load a16 (rL h hh).toLoadRect (View.loadsAt_vmem h_S1024x1))
  let _ : Vec F S1024x1 .f32 ← Prog.lift (.load a16 (rL h hh).toLoadRect (View.loadsAt_vmem h_S1024x1))
  Prog.lift (.store a16 (rL h hh) (lUp256 q k b l) Finset.univ (View.stores_vmem_bits_univ h_S1024x1 rfl) (.inl rfl))
  let a : Vec F S1024x128 .f32 ← Prog.lift (.load a14 (rQ h hh).toLoadRect (View.loadsAt_vmem h_S1024x128))
  let _ : Vec F S1024x128 .f32 ← Prog.lift (.load a14 (rQ h hh).toLoadRect (View.loadsAt_vmem h_S1024x128))
  Prog.lift (.store a14 (rQ h hh) (aUp256 q k v b a) Finset.univ (View.stores_vmem_bits_univ h_S1024x128 rfl) (.inl rfl))

/-- A fold: the mask for the rows from device `org`, then the eight heads. -/
def fold512 (s : ℕ) (hs : s < 4) (my org off : BitVec 32) : Pg F PUnit := do
  let _ : Vec F S1024x512 .f32 ← Prog.lift (.load a15 rB512.toLoadRect (View.loadsAt_vmem h_S1024x512))
  Prog.lift (.store a15 rB512 (bias512 my org off) Finset.univ (View.stores_vmem_bits_univ h_S1024x512 rfl) (.inl rfl))
  head512 a6 a13 a14 a15 a16 s 0 hs (by omega)
  head512 a6 a13 a14 a15 a16 s 1 hs (by omega)
  head512 a6 a13 a14 a15 a16 s 2 hs (by omega)
  head512 a6 a13 a14 a15 a16 s 3 hs (by omega)
  head512 a6 a13 a14 a15 a16 s 4 hs (by omega)
  head512 a6 a13 a14 a15 a16 s 5 hs (by omega)
  head512 a6 a13 a14 a15 a16 s 6 hs (by omega)
  head512 a6 a13 a14 a15 a16 s 7 hs (by omega)

/-- A fold: the mask for the rows from device `org`, then the eight heads. -/
def fold256 (s r : ℕ) (hs : s < 4) (hr : r ≤ 256) (my org off : BitVec 32) : Pg F PUnit := do
  let _ : Vec F S1024x256 .f32 ← Prog.lift (.load a15 rB256.toLoadRect (View.loadsAt_vmem h_S1024x256))
  Prog.lift (.store a15 rB256 (bias256 my org off) Finset.univ (View.stores_vmem_bits_univ h_S1024x256 rfl) (.inl rfl))
  head256 a6 a13 a14 a15 a16 s r 0 hs hr (by omega)
  head256 a6 a13 a14 a15 a16 s r 1 hs hr (by omega)
  head256 a6 a13 a14 a15 a16 s r 2 hs hr (by omega)
  head256 a6 a13 a14 a15 a16 s r 3 hs hr (by omega)
  head256 a6 a13 a14 a15 a16 s r 4 hs hr (by omega)
  head256 a6 a13 a14 a15 a16 s r 5 hs hr (by omega)
  head256 a6 a13 a14 a15 a16 s r 6 hs hr (by omega)
  head256 a6 a13 a14 a15 a16 s r 7 hs hr (by omega)

/-- The epilogue's head `h`: the head's rows divided by their denominators, over the queries' columns. -/
def epi1 (h13 : a13.IsWhole) (h : ℕ) (hh : h < 8) (hp : (rQ h hh).PackedRows (EltTy.packing .bf16)) : Pg F PUnit := do
  let a : Vec F S1024x128 .f32 ← Prog.lift (.load a14 (rQ h hh).toLoadRect (View.loadsAt_vmem h_S1024x128))
  let l : Vec F S1024x1 .f32 ← Prog.lift (.load a16 (rL h hh).toLoadRect (View.loadsAt_vmem h_S1024x1))
  let _ : Vec F S1024x128 .bf16 ← Prog.lift (.load a13 (rQ h hh).toLoadRect (View.loadsAt_vmem h_S1024x128))
  Prog.lift (.store a13 (rQ h hh) (nUp a l) Finset.univ (View.stores_vmem h_S1024x128 (h13.storeExact_slice rfl _ hp) (fun _ => rfl)) (.inl rfl))

/-- The epilogue up to the copy out. -/
def epi (h13 : a13.IsWhole) (a4 : Memref sig .tc .vmem S1024x1024 .bf16) : Pg F PUnit := do
  epi1 a13 a14 a16 h13 0 (by omega) packedbf16_S1024x1024_S1024x128_0_0
  epi1 a13 a14 a16 h13 1 (by omega) packedbf16_S1024x1024_S1024x128_0_128
  epi1 a13 a14 a16 h13 2 (by omega) packedbf16_S1024x1024_S1024x128_0_256
  epi1 a13 a14 a16 h13 3 (by omega) packedbf16_S1024x1024_S1024x128_0_384
  epi1 a13 a14 a16 h13 4 (by omega) packedbf16_S1024x1024_S1024x128_0_512
  epi1 a13 a14 a16 h13 5 (by omega) packedbf16_S1024x1024_S1024x128_0_640
  epi1 a13 a14 a16 h13 6 (by omega) packedbf16_S1024x1024_S1024x128_0_768
  epi1 a13 a14 a16 h13 7 (by omega) packedbf16_S1024x1024_S1024x128_0_896
  let q : Vec F S1024x1024 .bf16 ← Prog.lift (.load a13 rF.toLoadRect (View.loadsAt_vmem h_S1024x1024))
  let w : Vec F S1024x1024 .bf16 ← Prog.lift (.load a4 rF.toLoadRect (View.loadsAt_vmem h_S1024x1024))
  let _ : Vec F S1024x1024 .f32 ← Prog.lift (.load a14 rF.toLoadRect (View.loadsAt_vmem h_S1024x1024))
  Prog.lift (.store a14 rF (oUp q w) Finset.univ (View.stores_vmem_bits_univ h_S1024x1024 rfl) (.inl rfl))

/-- The queries, and the two running sums at zero. -/
def ini (h13 : a13.IsWhole) (a0 a1 : Memref sig .tc .vmem S1024x1024 .bf16) : Pg F PUnit := do
  let x : Vec F S1024x1024 .bf16 ← Prog.lift (.load a0 rF.toLoadRect (View.loadsAt_vmem h_S1024x1024))
  let w : Vec F S1024x1024 .bf16 ← Prog.lift (.load a1 rF.toLoadRect (View.loadsAt_vmem h_S1024x1024))
  let _ : Vec F S1024x1024 .bf16 ← Prog.lift (.load a13 rF.toLoadRect (View.loadsAt_vmem h_S1024x1024))
  Prog.lift (.store a13 rF (qUp x w) Finset.univ (View.stores_vmem h_S1024x1024 (h13.storeExact_slice rfl _ packedbf16_S1024x1024_S1024x1024_0_0) (fun _ => rfl)) (.inl rfl))
  let _ : Vec F S1024x8 .f32 ← Prog.lift (.load a16 rF8.toLoadRect (View.loadsAt_vmem h_S1024x8))
  Prog.lift (.store a16 rF8 z8 Finset.univ (View.stores_vmem_bits_univ h_S1024x8 rfl) (.inl rfl))
  let _ : Vec F S1024x1024 .f32 ← Prog.lift (.load a14 rF.toLoadRect (View.loadsAt_vmem h_S1024x1024))
  Prog.lift (.store a14 rF z1024 Finset.univ (View.stores_vmem_bits_univ h_S1024x1024 rfl) (.inl rfl))

end Pieces

/-! ## Slots, semaphores, transfers -/

section Comm

variable (a6 : Memref sig .tc .vmem S4x512x2048 .bf16) (h6 : a6.IsWhole)

/-- Slot `s`, whole. -/
abbrev slot (s : ℕ) (hs : s < 4) : Memref sig .tc .vmem S512x2048 .bf16 :=
  (a6.slice (Rect.unit (s := S4x512x2048) ![s, 0, 0] S1x512x2048.size (inbS s hs)) (fun _ => rfl)).squeeze S512x2048 squeezes_S1x512x2048_S512x2048
/-- 256 rows of slot `s`, from row `r`. -/
abbrev hslot (s r : ℕ) (hs : s < 4) (hr : r ≤ 256) : Memref sig .tc .vmem S256x2048 .bf16 :=
  (a6.slice (Rect.unit (s := S4x512x2048) ![s, r, 0] S1x256x2048.size (inbH s r hs hr)) (fun _ => rfl)).squeeze S256x2048 squeezes_S1x256x2048_S256x2048

include h6 in
/-- A slot is made of whole words. -/
theorem wS (s : ℕ) (hs : s < 4) : (slot a6 s hs).view.WordExact := by
  rcases s with _ | _ | _ | _ | s
  · exact (h6.wordExact_slice rfl _ wordsbf16_S4x512x2048_S1x512x2048_0_0_0).reshape _ _
  · exact (h6.wordExact_slice rfl _ wordsbf16_S4x512x2048_S1x512x2048_1_0_0).reshape _ _
  · exact (h6.wordExact_slice rfl _ wordsbf16_S4x512x2048_S1x512x2048_2_0_0).reshape _ _
  · exact (h6.wordExact_slice rfl _ wordsbf16_S4x512x2048_S1x512x2048_3_0_0).reshape _ _
  · omega

include h6 in
/-- Half a slot is made of whole words. -/
theorem wH (s r : ℕ) (hs : s < 4) (hr : r = 0 ∨ r = 256) : (hslot a6 s r hs (by omega)).view.WordExact := by
  rcases hr with rfl | rfl
  · rcases s with _ | _ | _ | _ | s
    · exact (h6.wordExact_slice rfl _ wordsbf16_S4x512x2048_S1x256x2048_0_0_0).reshape _ _
    · exact (h6.wordExact_slice rfl _ wordsbf16_S4x512x2048_S1x256x2048_1_0_0).reshape _ _
    · exact (h6.wordExact_slice rfl _ wordsbf16_S4x512x2048_S1x256x2048_2_0_0).reshape _ _
    · exact (h6.wordExact_slice rfl _ wordsbf16_S4x512x2048_S1x256x2048_3_0_0).reshape _ _
    · omega
  · rcases s with _ | _ | _ | _ | s
    · exact (h6.wordExact_slice rfl _ wordsbf16_S4x512x2048_S1x256x2048_0_256_0).reshape _ _
    · exact (h6.wordExact_slice rfl _ wordsbf16_S4x512x2048_S1x256x2048_1_256_0).reshape _ _
    · exact (h6.wordExact_slice rfl _ wordsbf16_S4x512x2048_S1x256x2048_2_256_0).reshape _ _
    · exact (h6.wordExact_slice rfl _ wordsbf16_S4x512x2048_S1x256x2048_3_256_0).reshape _ _
    · omega

/-- A semaphore lies within its array. -/
theorem inbM (i : ℕ) (hi : i < 4) : ∀ a, (![i] : Fin 1 → Nat) a + S1.size a ≤ S4.size a := by
  intro a; fin_cases a; simp; omega
/-- Transfer semaphore `i` of an array of four. -/
abbrev dsem (a : DmaSems sig S4) (i : ℕ) (hi : i < 4) : DmaSem sig :=
  ((a.slice (Rect.unit (s := S4) ![i] S1.size (inbM i hi))).squeeze S_ squeezes_S1_S_).sem
/-- Regular semaphore `0` or `1` of an array of two. -/
abbrev csem0 (a : Sems sig S2) : Sem sig := ((a.slice (Rect.unit (s := S2) ![0] S1.size inb_S2_S1_0)).squeeze S_ squeezes_S1_S_).sem
abbrev csem1 (a : Sems sig S2) : Sem sig := ((a.slice (Rect.unit (s := S2) ![1] S1.size inb_S2_S1_1)).squeeze S_ squeezes_S1_S_).sem
/-- The barrier semaphore. -/
abbrev bsem : Sem sig := (SemArray.scalar (sig.barrier 0 rfl) : Sems sig S_).sem

/-- Send slot `s` whole to slot `t` of device `d`. -/
def send (sa ra : DmaSems sig S4) (d : Dev nD) (s t i : ℕ) (hs : s < 4) (ht : t < 4) (hi : i < 4) : Pg F PUnit :=
  Prog.lift (.enqueueDma (slot a6 s hs) (.remote (Dev.tc d) (slot a6 t ht) (.dma (dsem sa i hi))) (.dma (dsem ra i hi))
    (wS a6 h6 s hs) (wS a6 h6 t ht) ⟨⟨rfl, Or.inl rfl⟩, trivial⟩)
/-- Send 256 rows of slot `s` to the same rows of slot `t` of device `d`. -/
def sendH (sa ra : DmaSems sig S4) (d : Dev nD) (s t r i : ℕ) (hs : s < 4) (ht : t < 4) (hr : r = 0 ∨ r = 256) (hi : i < 4) : Pg F PUnit :=
  Prog.lift (.enqueueDma (hslot a6 s r hs (by omega)) (.remote (Dev.tc d) (hslot a6 t r ht (by omega)) (.dma (dsem sa i hi))) (.dma (dsem ra i hi))
    (wH a6 h6 s r hs hr) (wH a6 h6 t r ht hr) ⟨⟨rfl, Or.inl rfl⟩, trivial⟩)
/-- Wait for a transfer from slot `s` to slot `t`: its reading, then the arrival of the one from the other side. -/
def fin (sa ra : DmaSems sig S4) (s t i : ℕ) (hs : s < 4) (ht : t < 4) (hi : i < 4) : Pg F PUnit := do
  Prog.lift (.waitDma2 (dsem sa i hi) (slot a6 t ht) (slot a6 s hs) (wS a6 h6 t ht) (wS a6 h6 s hs))
  Prog.lift (.waitDma2 (dsem ra i hi) (slot a6 s hs) (slot a6 t ht) (wS a6 h6 s hs) (wS a6 h6 t ht))
/-- The same for 256 rows. -/
def finH (sa ra : DmaSems sig S4) (s t r i : ℕ) (hs : s < 4) (ht : t < 4) (hr : r = 0 ∨ r = 256) (hi : i < 4) : Pg F PUnit := do
  Prog.lift (.waitDma2 (dsem sa i hi) (hslot a6 t r ht (by omega)) (hslot a6 s r hs (by omega)) (wH a6 h6 t r ht hr) (wH a6 h6 s r hs hr))
  Prog.lift (.waitDma2 (dsem ra i hi) (hslot a6 s r hs (by omega)) (hslot a6 t r ht (by omega)) (wH a6 h6 s r hs hr) (wH a6 h6 t r ht hr))

/-- Where a local copy lands: the keys' columns of slot 0 or 2, or the values'. -/
abbrev lslot (s o : ℕ) (h : ∀ a, (![s, 0, o] : Fin 3 → Nat) a + S1x512x1024.size a ≤ S4x512x2048.size a) : Memref sig .tc .vmem S512x1024 .bf16 :=
  (a6.slice (Rect.unit (s := S4x512x2048) ![s, 0, o] S1x512x1024.size h) (fun _ => rfl)).squeeze S512x1024 squeezes_S1x512x1024_S512x1024
/-- What a local copy reads: the first or second half of the rows. -/
abbrev hsrc (a : Memref sig .tc .hbm S1024x1024 .bf16) (r : ℕ) (h : ∀ a, (![r, 0] : Fin 2 → Nat) a + S512x1024.size a ≤ S1024x1024.size a) :
    Memref sig .tc .hbm S512x1024 .bf16 := a.slice (Rect.unit (s := S1024x1024) ![r, 0] S512x1024.size h) (fun _ => rfl)

variable (a2 : Memref sig .tc .hbm S1024x1024 .bf16) (h2 : a2.IsWhole) (a3 : Memref sig .tc .hbm S1024x1024 .bf16) (h3 : a3.IsWhole)
  (a11 : DmaSems sig S4)

/-- The four local copies of keys and values into slots 0 and 2. -/
def loads : Pg F PUnit := do
  Prog.lift (.enqueueDma (hsrc a2 0 inb_S1024x1024_S512x1024_0_0) (.here (lslot a6 0 0 inb_S4x512x2048_S1x512x1024_0_0_0)) (.dma (dsem a11 0 (by omega)))
    (h2.wordExact_slice rfl _ wordsbf16_S1024x1024_S512x1024_0_0) ((h6.wordExact_slice rfl _ wordsbf16_S4x512x2048_S1x512x1024_0_0_0).reshape _ _) ⟨Or.inl rfl, trivial⟩)
  Prog.lift (.enqueueDma (hsrc a3 0 inb_S1024x1024_S512x1024_0_0) (.here (lslot a6 0 1024 inb_S4x512x2048_S1x512x1024_0_0_1024)) (.dma (dsem a11 1 (by omega)))
    (h3.wordExact_slice rfl _ wordsbf16_S1024x1024_S512x1024_0_0) ((h6.wordExact_slice rfl _ wordsbf16_S4x512x2048_S1x512x1024_0_0_1024).reshape _ _) ⟨Or.inl rfl, trivial⟩)
  Prog.lift (.enqueueDma (hsrc a2 512 inb_S1024x1024_S512x1024_512_0) (.here (lslot a6 2 0 inb_S4x512x2048_S1x512x1024_2_0_0)) (.dma (dsem a11 2 (by omega)))
    (h2.wordExact_slice rfl _ wordsbf16_S1024x1024_S512x1024_512_0) ((h6.wordExact_slice rfl _ wordsbf16_S4x512x2048_S1x512x1024_2_0_0).reshape _ _) ⟨Or.inl rfl, trivial⟩)
  Prog.lift (.enqueueDma (hsrc a3 512 inb_S1024x1024_S512x1024_512_0) (.here (lslot a6 2 1024 inb_S4x512x2048_S1x512x1024_2_0_1024)) (.dma (dsem a11 3 (by omega)))
    (h3.wordExact_slice rfl _ wordsbf16_S1024x1024_S512x1024_512_0) ((h6.wordExact_slice rfl _ wordsbf16_S4x512x2048_S1x512x1024_2_0_1024).reshape _ _) ⟨Or.inl rfl, trivial⟩)

/-- The handshake with both neighbours. -/
def shake (l r : Dev nD) : Pg F PUnit := do
  semSignalWord l bsem 1#32
  semSignalWord r bsem 1#32
  semWaitWord bsem 2#32

/-- The local copies' arrivals. -/
def loaded : Pg F PUnit := do
  Prog.lift (.waitDma2 (dsem a11 0 (by omega)) (hsrc a2 0 inb_S1024x1024_S512x1024_0_0) (lslot a6 0 0 inb_S4x512x2048_S1x512x1024_0_0_0)
    (h2.wordExact_slice rfl _ wordsbf16_S1024x1024_S512x1024_0_0) ((h6.wordExact_slice rfl _ wordsbf16_S4x512x2048_S1x512x1024_0_0_0).reshape _ _))
  Prog.lift (.waitDma2 (dsem a11 1 (by omega)) (hsrc a3 0 inb_S1024x1024_S512x1024_0_0) (lslot a6 0 1024 inb_S4x512x2048_S1x512x1024_0_0_1024)
    (h3.wordExact_slice rfl _ wordsbf16_S1024x1024_S512x1024_0_0) ((h6.wordExact_slice rfl _ wordsbf16_S4x512x2048_S1x512x1024_0_0_1024).reshape _ _))
  Prog.lift (.waitDma2 (dsem a11 2 (by omega)) (hsrc a2 512 inb_S1024x1024_S512x1024_512_0) (lslot a6 2 0 inb_S4x512x2048_S1x512x1024_2_0_0)
    (h2.wordExact_slice rfl _ wordsbf16_S1024x1024_S512x1024_512_0) ((h6.wordExact_slice rfl _ wordsbf16_S4x512x2048_S1x512x1024_2_0_0).reshape _ _))
  Prog.lift (.waitDma2 (dsem a11 3 (by omega)) (hsrc a3 512 inb_S1024x1024_S512x1024_512_0) (lslot a6 2 1024 inb_S4x512x2048_S1x512x1024_2_0_1024)
    (h3.wordExact_slice rfl _ wordsbf16_S1024x1024_S512x1024_512_0) ((h6.wordExact_slice rfl _ wordsbf16_S4x512x2048_S1x512x1024_2_0_1024).reshape _ _))

/-- The exchange of credits. -/
def credits (a12 : Sems sig S2) (l r : Dev nD) : Pg F PUnit := do
  semSignalWord l (csem0 a12) 1#32
  semSignalWord r (csem1 a12) 1#32
  semWaitWord (csem0 a12) 1#32
  semWaitWord (csem1 a12) 1#32

end Comm

/-- The device's own word, and the words of the devices `k` places to the left and right. -/
abbrev myW (d : Dev nD) : BitVec 32 := Scalar.remsi (Scalar.divsi (Dev.word d) 1#32) 4#32
abbrev lfW (my k : BitVec 32) : BitVec 32 := Scalar.remsi (Scalar.addi (Scalar.subi my k) 4#32) 4#32
abbrev rtW (my k : BitVec 32) : BitVec 32 := Scalar.remsi (Scalar.addi my k) 4#32

section Body

variable (a0 : Memref sig .tc .vmem S1024x1024 .bf16) (h0 : a0.IsWhole) (a1 : Memref sig .tc .vmem S1024x1024 .bf16) (h1 : a1.IsWhole)
  (a2 : Memref sig .tc .hbm S1024x1024 .bf16) (h2 : a2.IsWhole) (a3 : Memref sig .tc .hbm S1024x1024 .bf16) (h3 : a3.IsWhole)
  (a4 : Memref sig .tc .vmem S1024x1024 .bf16) (h4 : a4.IsWhole) (a5 : Memref sig .tc .hbm S1024x1024 .f32) (h5 : a5.IsWhole)
  (a6 : Memref sig .tc .vmem S4x512x2048 .bf16) (h6 : a6.IsWhole) (a7 a8 a9 a10 a11 : DmaSems sig S4) (a12 : Sems sig S2)
  (a13 : Memref sig .tc .vmem S1024x1024 .bf16) (h13 : a13.IsWhole) (a14 : Memref sig .tc .vmem S1024x1024 .f32) (h14 : a14.IsWhole)
  (a15 : Memref sig .tc .vmem S1024x512 .f32) (h15 : a15.IsWhole) (a16 : Memref sig .tc .vmem S1024x8 .f32) (h16 : a16.IsWhole)

/-- Up to the end of the first exchange. -/
def body0 (d : Dev nD) : Pg F PUnit := do
  loads a6 h6 a2 h2 a3 h3 a11
  shake ⟨k0_dev1 d, k0_dev1_lt d⟩ ⟨k0_dev2 d, k0_dev2_lt d⟩
  loaded a6 h6 a2 h2 a3 h3 a11
  send a6 h6 a7 a8 ⟨k0_dev3 d, k0_dev3_lt d⟩ 0 1 0 (by omega) (by omega) (by omega)
  send a6 h6 a9 a10 ⟨k0_dev4 d, k0_dev4_lt d⟩ 2 3 0 (by omega) (by omega) (by omega)
  ini a13 a14 a16 h13 a0 a1
  fold512 a6 a13 a14 a15 a16 0 (by omega) (myW d) (lfW (myW d) 0#32) 0#32
  fold512 a6 a13 a14 a15 a16 2 (by omega) (myW d) (rtW (myW d) 0#32) 8#32
  fin a6 h6 a7 a8 0 1 0 (by omega) (by omega) (by omega)
  fin a6 h6 a9 a10 2 3 0 (by omega) (by omega) (by omega)

/-- The second exchange. -/
def body1 (d : Dev nD) : Pg F PUnit := do
  credits a12 ⟨k0_dev5 d, k0_dev5_lt d⟩ ⟨k0_dev6 d, k0_dev6_lt d⟩
  send a6 h6 a7 a8 ⟨k0_dev7 d, k0_dev7_lt d⟩ 1 0 1 (by omega) (by omega) (by omega)
  send a6 h6 a9 a10 ⟨k0_dev8 d, k0_dev8_lt d⟩ 3 2 1 (by omega) (by omega) (by omega)
  fold512 a6 a13 a14 a15 a16 1 (by omega) (myW d) (lfW (myW d) 1#32) 0#32
  fold512 a6 a13 a14 a15 a16 3 (by omega) (myW d) (rtW (myW d) 1#32) 8#32
  fin a6 h6 a7 a8 1 0 1 (by omega) (by omega) (by omega)
  fin a6 h6 a9 a10 3 2 1 (by omega) (by omega) (by omega)

/-- The third exchange, in two halves. -/
def body2 (d : Dev nD) : Pg F PUnit := do
  credits a12 ⟨k0_dev9 d, k0_dev9_lt d⟩ ⟨k0_dev10 d, k0_dev10_lt d⟩
  sendH a6 h6 a7 a8 ⟨k0_dev11 d, k0_dev11_lt d⟩ 0 1 0 2 (by omega) (by omega) (by omega) (by omega)
  sendH a6 h6 a9 a10 ⟨k0_dev12 d, k0_dev12_lt d⟩ 2 3 0 2 (by omega) (by omega) (by omega) (by omega)
  sendH a6 h6 a7 a8 ⟨k0_dev13 d, k0_dev13_lt d⟩ 0 1 256 3 (by omega) (by omega) (by omega) (by omega)
  sendH a6 h6 a9 a10 ⟨k0_dev14 d, k0_dev14_lt d⟩ 2 3 256 3 (by omega) (by omega) (by omega) (by omega)
  fold512 a6 a13 a14 a15 a16 0 (by omega) (myW d) (lfW (myW d) 2#32) 0#32
  fold512 a6 a13 a14 a15 a16 2 (by omega) (myW d) (rtW (myW d) 2#32) 8#32
  finH a6 h6 a7 a8 0 1 0 2 (by omega) (by omega) (by omega) (by omega)
  finH a6 h6 a9 a10 2 3 0 2 (by omega) (by omega) (by omega) (by omega)
  fold256 a6 a13 a14 a15 a16 1 0 (by omega) (by omega) (myW d) (rtW (myW d) 1#32) 0#32
  fold256 a6 a13 a14 a15 a16 3 0 (by omega) (by omega) (myW d) (lfW (myW d) 1#32) 8#32
  finH a6 h6 a7 a8 0 1 256 3 (by omega) (by omega) (by omega) (by omega)
  finH a6 h6 a9 a10 2 3 256 3 (by omega) (by omega) (by omega) (by omega)
  fold256 a6 a13 a14 a15 a16 1 256 (by omega) (by omega) (myW d) (rtW (myW d) 1#32) 4#32
  fold256 a6 a13 a14 a15 a16 3 256 (by omega) (by omega) (myW d) (lfW (myW d) 1#32) 12#32

/-- The copy of the result out. -/
def out : Pg F PUnit := do
  Prog.lift (.enqueueDma a14 (.here a5) (.dma (dsem a11 0 (by omega))) h14.wordExact h5.wordExact ⟨Or.inl rfl, trivial⟩)
  Prog.lift (.waitDma2 (dsem a11 0 (by omega)) a14 a5 h14.wordExact h5.wordExact)

/-- The body. -/
def body : Pg F PUnit := do
  let d : Dev nD ← Prog.lift .deviceId
  body0 a0 a1 a2 h2 a3 h3 a6 h6 a7 a8 a9 a10 a11 a13 h13 a14 a15 a16 d
  body1 a6 h6 a7 a8 a9 a10 a12 a13 a14 a15 a16 d
  body2 a6 h6 a7 a8 a9 a10 a12 a13 a14 a15 a16 d
  epi a13 a14 a16 h13 a4
  out a5 h5 a11 a14 h14

end Body

end Cert.KernelIdeal.Str

end
-- ==== Proof.Slots.lean ====
/- The communication buffer: its slots as sets of indices, the contents a slot holds, and what the transfers
   between slots and from the key and value arrays leave in them. -/
module

public import proofs.«01_k».proof.Proof.Struct
public import Idealize.ShloMosaic.Lib.ValueLayout
public import Idealize.ShloMosaic.Lib.ValueIdxCoords
public import Idealize.ShloMosaic.Lib.ViewIndex

@[expose] public section

set_option maxRecDepth 65536

noncomputable section

namespace Cert.KernelIdeal.Slots

open Idealize.ShloMosaic Idealize.ShloMosaic.ValueIdx Idealize.SL.Sem
open Cert.KernelIdeal Cert.KernelIdeal.Str

variable {F : FTy → Type}

/-- The communication buffer. -/
abbrev cm : Memref sig .tc .vmem S4x512x2048 .bf16 := Memref.whole cc0_scratch0

/-- Rows `r` to `r + n` of slot `s`. -/
def box (s r n : ℕ) : Finset S4x512x2048.Idx := Finset.univ.filter fun i => (i 0).val = s ∧ r ≤ (i 1).val ∧ (i 1).val < r + n
/-- Columns `o` to `o + 1024` of slot `s`. -/
def cbox (s o : ℕ) : Finset S4x512x2048.Idx := Finset.univ.filter fun i => (i 0).val = s ∧ o ≤ (i 2).val ∧ (i 2).val < o + 1024

/-- The indices of a slot's rows. -/
theorem mem_box {s r n : ℕ} {i : S4x512x2048.Idx} : i ∈ box s r n ↔ (i 0).val = s ∧ r ≤ (i 1).val ∧ (i 1).val < r + n := by
  simp [box]
/-- The indices of a slot's columns. -/
theorem mem_cbox {s o : ℕ} {i : S4x512x2048.Idx} : i ∈ cbox s o ↔ (i 0).val = s ∧ o ≤ (i 2).val ∧ (i 2).val < o + 1024 := by
  simp [cbox]

/-- The row's bound. -/
theorem lt1 (i : S4x512x2048.Idx) : (i 1).val < 512 := (i 1).isLt
/-- The column's bound. -/
theorem lt2 (i : S4x512x2048.Idx) : (i 2).val < 2048 := (i 2).isLt
/-- The slot's bound. -/
theorem lt0 (i : S4x512x2048.Idx) : (i 0).val < 4 := (i 0).isLt

/-- Half `h` of the keys (columns below 1024) and values (the others). -/
def kv (KB VB : S1024x1024.Idx → F .bf16) (h : Fin 2) : S4x512x2048.Idx → F .bf16 := fun i =>
  if hc : (i 2).val < 1024 then KB (ix2 ⟨h.val * 512 + (i 1).val, by have := lt1 i; omega⟩ ⟨(i 2).val, hc⟩)
  else VB (ix2 ⟨h.val * 512 + (i 1).val, by have := lt1 i; omega⟩ ⟨(i 2).val - 1024, by have := lt2 i; omega⟩)

/-- It is the same in every slot. -/
theorem kv_congr (KB VB : S1024x1024.Idx → F .bf16) (h : Fin 2) {i j : S4x512x2048.Idx} (h1 : (i 1).val = (j 1).val) (h2 : (i 2).val = (j 2).val) :
    kv KB VB h i = kv KB VB h j := by
  simp only [kv, h1, h2]

/-- Three axes. -/
theorem forall3 (p : Fin 3 → Prop) : (∀ a, p a) ↔ p 0 ∧ p 1 ∧ p 2 :=
  ⟨fun h => ⟨h 0, h 1, h 2⟩, fun h a => by fin_cases a <;> simp [h]⟩

/-! ## Views -/

/-- Where a slot's entries lie. -/
theorem slot_emb (s : ℕ) (hs : s < 4) (a : Fin 512) (b : Fin 2048) :
    (slot cm s hs).view.emb (ix2 a b) = (ix3 ⟨s, hs⟩ a b : S4x512x2048.Idx) := by
  show (Rect.unit (s := S4x512x2048) ![s, 0, 0] S1x512x2048.size (inbS s hs)).emb (Shape.reshapeEquiv _ (ix2 a b)) = _
  rw [reshapeEquiv_ix2_1ab]
  funext k; apply Fin.ext; fin_cases k <;> simp [Rect.emb_apply, ix3]

/-- Where half a slot's entries lie. -/
theorem hslot_emb (s r : ℕ) (hs : s < 4) (hr : r ≤ 256) (a : Fin 256) (b : Fin 2048) :
    (hslot cm s r hs hr).view.emb (ix2 a b) = (ix3 ⟨s, hs⟩ ⟨r + a.val, by omega⟩ b : S4x512x2048.Idx) := by
  show (Rect.unit (s := S4x512x2048) ![s, r, 0] S1x256x2048.size (inbH s r hs hr)).emb (Shape.reshapeEquiv _ (ix2 a b)) = _
  rw [reshapeEquiv_ix2_1ab]
  funext k; apply Fin.ext; fin_cases k <;> simp [Rect.emb_apply, ix3]

/-- Where the keys or values of a slot lie. -/
theorem lslot_emb (s o : ℕ) (hs : s < 4) (ho : o + 1024 ≤ 2048) (h) (a : Fin 512) (b : Fin 1024) :
    (lslot cm s o h).view.emb (ix2 a b) = (ix3 ⟨s, hs⟩ a ⟨o + b.val, by omega⟩ : S4x512x2048.Idx) := by
  show (Rect.unit (s := S4x512x2048) ![s, 0, o] S1x512x1024.size h).emb (Shape.reshapeEquiv _ (ix2 a b)) = _
  rw [reshapeEquiv_ix2_1ab]
  funext k; apply Fin.ext; fin_cases k <;> simp [Rect.emb_apply, ix3]

/-- The indices of a slot. -/
theorem slot_set (s : ℕ) (hs : s < 4) : (slot cm s hs).view.set = box s 0 512 := by
  show ((View.slice (View.whole cc0_scratch0) (Rect.unit (s := S4x512x2048) ![s, 0, 0] S1x512x2048.size (inbS s hs))).reshape _ _).set = _
  rw [View.set_reshape, View.set_slice_whole]
  ext i
  rw [Rect.mem_set_unit, mem_box]
  refine (forall3 _).trans ?_
  have := lt0 i; have := lt1 i; have := lt2 i
  simp; omega

/-- The indices of half a slot. -/
theorem hslot_set (s r : ℕ) (hs : s < 4) (hr : r ≤ 256) : (hslot cm s r hs hr).view.set = box s r 256 := by
  show ((View.slice (View.whole cc0_scratch0) (Rect.unit (s := S4x512x2048) ![s, r, 0] S1x256x2048.size (inbH s r hs hr))).reshape _ _).set = _
  rw [View.set_reshape, View.set_slice_whole]
  ext i
  rw [Rect.mem_set_unit, mem_box]
  refine (forall3 _).trans ?_
  have := lt0 i; have := lt1 i; have := lt2 i
  simp; omega

/-- The indices of the keys or values of a slot. -/
theorem lslot_set (s o : ℕ) (h) : (lslot cm s o h).view.set = cbox s o := by
  show ((View.slice (View.whole cc0_scratch0) (Rect.unit (s := S4x512x2048) ![s, 0, o] S1x512x1024.size h)).reshape _ _).set = _
  rw [View.set_reshape, View.set_slice_whole]
  ext i
  rw [Rect.mem_set_unit, mem_cbox]
  refine (forall3 _).trans ?_
  have := lt0 i; have := lt1 i; have := lt2 i
  simp; omega

/-! ## What transfers leave -/

variable (KB VB : S1024x1024.Idx → F .bf16) (h : Fin 2)

/-- An index of two axes is a pair. -/
theorem exists_ix2 {n0 n1 : ℕ} (x : (⟨2, ![n0, n1]⟩ : Shape).Idx) : ∃ a b, x = ix2 a b :=
  ⟨x 0, x 1, by funext k; fin_cases k <;> rfl⟩

/-- A slot copied whole onto another. -/
theorem slot_copied (s t : ℕ) (hs : s < 4) (ht : t < 4) (fd : S4x512x2048.Idx → F .bf16) :
    ∀ i ∈ (slot cm t ht).view.set,
      (slot cm t ht).view.write (Elt F) fd ((slot cm s hs).view.read (Elt F) (kv KB VB h)) Finset.univ i = kv KB VB h i := by
  intro i hi
  obtain ⟨x, -, rfl⟩ := Finset.mem_map.mp hi
  rw [View.write_emb_of_mem _ _ (Finset.mem_univ x)]
  obtain ⟨a, b, rfl⟩ := exists_ix2 x
  show kv KB VB h ((slot cm s hs).view.emb (ix2 a b)) = kv KB VB h ((slot cm t ht).view.emb (ix2 a b))
  rw [slot_emb, slot_emb]
  exact kv_congr _ _ _ rfl rfl

/-- 256 rows of a slot copied onto the same rows of another. -/
theorem hslot_copied (s t r : ℕ) (hs : s < 4) (ht : t < 4) (hr : r ≤ 256) (fd : S4x512x2048.Idx → F .bf16) :
    ∀ i ∈ (hslot cm t r ht hr).view.set,
      (hslot cm t r ht hr).view.write (Elt F) fd ((hslot cm s r hs hr).view.read (Elt F) (kv KB VB h)) Finset.univ i = kv KB VB h i := by
  intro i hi
  obtain ⟨x, -, rfl⟩ := Finset.mem_map.mp hi
  rw [View.write_emb_of_mem _ _ (Finset.mem_univ x)]
  obtain ⟨a, b, rfl⟩ := exists_ix2 x
  show kv KB VB h ((hslot cm s r hs hr).view.emb (ix2 a b)) = kv KB VB h ((hslot cm t r ht hr).view.emb (ix2 a b))
  rw [hslot_emb, hslot_emb]
  exact kv_congr _ _ _ rfl rfl

/-- Half `h` of the keys copied into the first columns of a slot. -/
theorem keys_copied (s r : ℕ) (hs : s < 4) (hsl) (hsr) (hr : r = h.val * 512) (fd : S4x512x2048.Idx → F .bf16) :
    ∀ i ∈ (lslot cm s 0 hsl).view.set,
      (lslot cm s 0 hsl).view.write (Elt F) fd ((hsrc (Memref.whole main_v4) r hsr).view.read (Elt F) KB) Finset.univ i = kv KB VB h i := by
  intro i hi
  obtain ⟨x, -, rfl⟩ := Finset.mem_map.mp hi
  rw [View.write_emb_of_mem _ _ (Finset.mem_univ x)]
  obtain ⟨a, b, rfl⟩ := exists_ix2 x
  show KB ((hsrc (Memref.whole main_v4) r hsr).view.emb (ix2 a b)) = kv KB VB h ((lslot cm s 0 hsl).view.emb (ix2 a b))
  rw [lslot_emb s 0 hs (by omega)]
  have hb : (0 : ℕ) + b.val < 1024 := by omega
  unfold kv
  rw [dif_pos (show ((ix3 (⟨s, hs⟩ : Fin 4) a (⟨0 + b.val, by omega⟩ : Fin 2048) : S4x512x2048.Idx) 2).val < 1024 from hb)]
  congr 1
  subst hr
  funext k; apply Fin.ext; fin_cases k
  · show h.val * 512 + 1 * a.val = h.val * 512 + a.val; omega
  · show 0 + 1 * b.val = 0 + b.val; omega

/-- Half `h` of the values copied into the last columns of a slot. -/
theorem values_copied (s r : ℕ) (hs : s < 4) (hsl) (hsr) (hr : r = h.val * 512) (fd : S4x512x2048.Idx → F .bf16) :
    ∀ i ∈ (lslot cm s 1024 hsl).view.set,
      (lslot cm s 1024 hsl).view.write (Elt F) fd ((hsrc (Memref.whole main_v6) r hsr).view.read (Elt F) VB) Finset.univ i = kv KB VB h i := by
  intro i hi
  obtain ⟨x, -, rfl⟩ := Finset.mem_map.mp hi
  rw [View.write_emb_of_mem _ _ (Finset.mem_univ x)]
  obtain ⟨a, b, rfl⟩ := exists_ix2 x
  show VB ((hsrc (Memref.whole main_v6) r hsr).view.emb (ix2 a b)) = kv KB VB h ((lslot cm s 1024 hsl).view.emb (ix2 a b))
  rw [lslot_emb s 1024 hs (by omega)]
  have hb : ¬ (1024 : ℕ) + b.val < 1024 := by omega
  unfold kv
  rw [dif_neg (show ¬ ((ix3 (⟨s, hs⟩ : Fin 4) a (⟨1024 + b.val, by omega⟩ : Fin 2048) : S4x512x2048.Idx) 2).val < 1024 from hb)]
  congr 1
  subst hr
  funext k; apply Fin.ext; fin_cases k
  · show h.val * 512 + 1 * a.val = h.val * 512 + a.val; omega
  · show 0 + 1 * b.val = 1024 + b.val - 1024; omega

/-! ## Splitting the buffer -/

/-- A slot's rows are two halves. -/
theorem box_split (s : ℕ) : box s 0 512 = box s 0 256 ∪ box s 256 256 := by
  ext i; rw [Finset.mem_union, mem_box, mem_box, mem_box]; omega
/-- The halves of the rows are apart. -/
theorem box_disj (s : ℕ) : Disjoint (box s 0 256) (box s 256 256) := by
  rw [Finset.disjoint_left]; intro i; rw [mem_box, mem_box]; omega
/-- A slot's columns are keys and values. -/
theorem cbox_split (s : ℕ) : box s 0 512 = cbox s 0 ∪ cbox s 1024 := by
  ext i; have := lt1 i; have := lt2 i; rw [Finset.mem_union, mem_box, mem_cbox, mem_cbox]; omega
/-- Keys and values are apart. -/
theorem cbox_disj (s : ℕ) : Disjoint (cbox s 0) (cbox s 1024) := by
  rw [Finset.disjoint_left]; intro i; rw [mem_cbox, mem_cbox]; omega
/-- The four slots are all. -/
theorem slots_split : (Finset.univ : Finset S4x512x2048.Idx) = (box 0 0 512 ∪ box 1 0 512) ∪ (box 2 0 512 ∪ box 3 0 512) := by
  ext i; have := lt0 i; have := lt1 i
  simp only [Finset.mem_union, mem_box, Finset.mem_univ, true_iff]; omega
/-- The two directions' slots are apart. -/
theorem slots_disj : Disjoint (box 0 0 512 ∪ box 1 0 512) (box 2 0 512 ∪ box 3 0 512) := by
  rw [Finset.disjoint_left]; intro i; simp only [Finset.mem_union, mem_box]; omega
/-- Two slots are apart. -/
theorem slot_disj {s t : ℕ} (h : s ≠ t) (r n r' n' : ℕ) : Disjoint (box s r n) (box t r' n') := by
  rw [Finset.disjoint_left]; intro i; rw [mem_box, mem_box]; omega

/-! ## Where the folds read -/

/-- A head's keys lie in their slot. -/
theorem rK512_sub (s o : ℕ) (hs : s < 4) (ho : o + 128 ≤ 2048) : (cm.access (rK512 s o hs ho)).set ⊆ box s 0 512 := by
  intro i hi
  rw [show (cm.access (rK512 s o hs ho)).set = (rK512 s o hs ho).set from View.set_slice_whole _ _, Rect.mem_set_unit] at hi
  have h0 := hi 0; have h1 := hi 1
  simp at h0 h1
  rw [mem_box]; omega
/-- A head's keys lie in their half slot. -/
theorem rK256_sub (s r o : ℕ) (hs : s < 4) (hr : r ≤ 256) (ho : o + 128 ≤ 2048) :
    (cm.access (rK256 s r o hs hr ho)).set ⊆ box s r 256 := by
  intro i hi
  rw [show (cm.access (rK256 s r o hs hr ho)).set = (rK256 s r o hs hr ho).set from View.set_slice_whole _ _, Rect.mem_set_unit] at hi
  have h0 := hi 0; have h1 := hi 1
  simp at h0 h1
  rw [mem_box]; omega

end Cert.KernelIdeal.Slots

end
-- ==== Proof.Sched.lean ====
/- The protocol of the ring exchange as a schedule of rounds: which cell is paid by whom, how much, and what
   each payment hands over; what each device owes at the start, and the order in which waits may happen. -/
module

public import proofs.«01_k».proof.Proof.Slots
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.Regions
public import Idealize.ShloMosaic.Lib.Ring
public import Idealize.ShloMosaic.Lib.Tactic
public import Idealize.ShloMosaic.Lib.WordCmp

@[expose] public section

set_option maxRecDepth 65536

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.KernelIdeal.Str Cert.KernelIdeal.Slots

variable {F : FTy → Type} [FloatOps F]

/-- The exchange's copy: a payment's number within its round is a truth value. -/
abbrev U2 : Type := Rounds.URounds (GSem nD τ sig) Bool
/-- Two copies of the rounds algebra: the pipeline's and the exchange's. -/
abbrev UU : Type := UR sig nD τ × U2

local notation "𝕄" => MT nD τ sig ℕ (Elt F) ℕ UU ℕ

abbrev EP : Emb (UR sig nD τ) (MT nD τ sig ℕ (Elt F) ℕ UU ℕ) := embL
abbrev ER : Emb U2 (MT nD τ sig ℕ (Elt F) ℕ UU ℕ) := embR

/-! ## The ring -/

/-- The left neighbour. -/
def lf (c : Dev nD) : Dev nD := ⟨(c.val + 3) % 4, Nat.mod_lt _ (by decide)⟩
/-- The right neighbour. -/
def rt (c : Dev nD) : Dev nD := ⟨(c.val + 1) % 4, Nat.mod_lt _ (by decide)⟩

/-- Left of the right neighbour. -/
theorem lf_rt (c : Dev nD) : lf (rt c) = c := by revert c; decide
/-- Right of the left neighbour. -/
theorem rt_lf (c : Dev nD) : rt (lf c) = c := by revert c; decide
/-- The device that transfer or signal 1 names. -/
theorem dv1 (c : Dev nD) : (⟨k0_dev1 c, k0_dev1_lt c⟩ : Dev nD) = lf c := by revert c; decide
/-- The device that transfer or signal 2 names. -/
theorem dv2 (c : Dev nD) : (⟨k0_dev2 c, k0_dev2_lt c⟩ : Dev nD) = rt c := by revert c; decide
/-- The device that transfer or signal 3 names. -/
theorem dv3 (c : Dev nD) : (⟨k0_dev3 c, k0_dev3_lt c⟩ : Dev nD) = rt c := by revert c; decide
/-- The device that transfer or signal 4 names. -/
theorem dv4 (c : Dev nD) : (⟨k0_dev4 c, k0_dev4_lt c⟩ : Dev nD) = lf c := by revert c; decide
/-- The device that transfer or signal 5 names. -/
theorem dv5 (c : Dev nD) : (⟨k0_dev5 c, k0_dev5_lt c⟩ : Dev nD) = lf c := by revert c; decide
/-- The device that transfer or signal 6 names. -/
theorem dv6 (c : Dev nD) : (⟨k0_dev6 c, k0_dev6_lt c⟩ : Dev nD) = rt c := by revert c; decide
/-- The device that transfer or signal 7 names. -/
theorem dv7 (c : Dev nD) : (⟨k0_dev7 c, k0_dev7_lt c⟩ : Dev nD) = rt c := by revert c; decide
/-- The device that transfer or signal 8 names. -/
theorem dv8 (c : Dev nD) : (⟨k0_dev8 c, k0_dev8_lt c⟩ : Dev nD) = lf c := by revert c; decide
/-- The device that transfer or signal 9 names. -/
theorem dv9 (c : Dev nD) : (⟨k0_dev9 c, k0_dev9_lt c⟩ : Dev nD) = lf c := by revert c; decide
/-- The device that transfer or signal 10 names. -/
theorem dv10 (c : Dev nD) : (⟨k0_dev10 c, k0_dev10_lt c⟩ : Dev nD) = rt c := by revert c; decide
/-- The device that transfer or signal 11 names. -/
theorem dv11 (c : Dev nD) : (⟨k0_dev11 c, k0_dev11_lt c⟩ : Dev nD) = rt c := by revert c; decide
/-- The device that transfer or signal 12 names. -/
theorem dv12 (c : Dev nD) : (⟨k0_dev12 c, k0_dev12_lt c⟩ : Dev nD) = lf c := by revert c; decide
/-- The device that transfer or signal 13 names. -/
theorem dv13 (c : Dev nD) : (⟨k0_dev13 c, k0_dev13_lt c⟩ : Dev nD) = rt c := by revert c; decide
/-- The device that transfer or signal 14 names. -/
theorem dv14 (c : Dev nD) : (⟨k0_dev14 c, k0_dev14_lt c⟩ : Dev nD) = lf c := by revert c; decide

/-! ## Cells -/

/-- The number of a semaphore: the credits 0 and 1, the barrier 2, the transfers' 3 to 22 (the pipeline's own get 100). -/
def code : SemLoc sig → ℕ
  | .reg s => s.val
  | .dma s => if s.val < 3 then 100 else s.val
/-- The semaphore of a number. -/
def smk (k : ℕ) : SemLoc sig := if h : k < 3 then .reg ⟨k, h⟩ else if h : k < 23 then .dma ⟨k, h⟩ else .reg 0
/-- Cell `k` of device `c`. -/
abbrev cell (c : Dev nD) (k : ℕ) : GSem nD τ sig := ((c : Thread nD τ), smk k)

/-- A number's semaphore has that number. -/
theorem code_smk (k : ℕ) (hk : k < 23) : code (smk k) = k := by
  unfold smk
  by_cases h : k < 3
  · rw [dif_pos h]; rfl
  · rw [dif_neg h, dif_pos hk]; exact if_neg h

/-! ## Contents and points-tos -/

/-- What the arrays hold on each device: the keys, the values, and the output once written. -/
structure Cts (F : FTy → Type) where
  K : Dev nD → S1024x1024.Idx → F .bf16
  V : Dev nD → S1024x1024.Idx → F .bf16
  O : Dev nD → S1024x1024.Idx → F .f32

variable (D : Cts F)

/-- Half `h` of device `c`'s keys and values, as a slot holds it. -/
abbrev Cts.kv (c : Dev nD) (h : Fin 2) : S4x512x2048.Idx → F .bf16 := Slots.kv (D.K c) (D.V c) h

/-- Part `S` of device `c`'s communication buffer at contents `f`. -/
abbrev sl (c : Dev nD) (S : Finset S4x512x2048.Idx) (q : PosShare TreeShare) (f : S4x512x2048.Idx → F .bf16) : sProp 𝕄 :=
  cm.view.loc (c : Thread nD τ) ↦[S]{q} f
/-- The same at contents not named. -/
abbrev slAny (c : Dev nD) (S : Finset S4x512x2048.Idx) : sProp 𝕄 := iprop(∃ f : S4x512x2048.Idx → F .bf16, sl c S fullShare f)

/-- Rows `r` to `r + 512` of a 1024 by 1024 array. -/
abbrev rws (r : ℕ) (h : ∀ a, (![r, 0] : Fin 2 → Nat) a + S512x1024.size a ≤ S1024x1024.size a) : Finset S1024x1024.Idx :=
  (Rect.unit (s := S1024x1024) ![r, 0] S512x1024.size h).set

abbrev kPts (c : Dev nD) (S : Finset S1024x1024.Idx) : sProp 𝕄 := (Memref.whole main_v4).view.loc (c : Thread nD τ) ↦[S]{fullShare} D.K c
abbrev vPts (c : Dev nD) (S : Finset S1024x1024.Idx) : sProp 𝕄 := (Memref.whole main_v6).view.loc (c : Thread nD τ) ↦[S]{fullShare} D.V c
abbrev oPts (c : Dev nD) (f : S1024x1024.Idx → F .f32) : sProp 𝕄 := (Memref.whole main_v9).view.loc (c : Thread nD τ) ↦{fullShare} f
abbrev aPts (c : Dev nD) (f : S1024x1024.Idx → F .f32) : sProp 𝕄 := (Memref.whole cc0_scratch8).view.loc (c : Thread nD τ) ↦{fullShare} f

/-! ## The schedule -/

/-- The full, half, local and output transfers' amounts. -/
def NF : ℕ := (slot cm 0 (by omega)).view.dmaCredit
def NH : ℕ := (hslot cm 0 0 (by omega) (by omega)).view.dmaCredit
def NL : ℕ := (lslot cm 0 0 inb_S4x512x2048_S1x512x1024_0_0_0).view.dmaCredit
def NO : ℕ := (Memref.whole main_v9).view.dmaCredit

/-- A full copy credits something. -/
theorem NF_pos : 0 < NF := View.dmaCredit_pos _ (by decide)
/-- A half copy credits something. -/
theorem NH_pos : 0 < NH := View.dmaCredit_pos _ (by decide)
/-- A load credits something. -/
theorem NL_pos : 0 < NL := View.dmaCredit_pos _ (by decide)
/-- The output's copy credits something. -/
theorem NO_pos : 0 < NO := View.dmaCredit_pos _ (by decide)

/-- The duties of round `r` of cell number `k`. -/
def dut (k r : ℕ) : Finset Bool :=
  if k = 2 then (if r = 0 then Finset.univ else ∅)
  else if k < 2 then (if r < 2 then {false} else ∅)
  else if k < 23 then (if r = 0 ∨ (k = 19 ∧ r = 1) then {false} else ∅)
  else ∅
/-- What one duty of round `r` of cell number `k` pays. -/
def amt (k r : ℕ) : ℕ :=
  if k < 3 then 1
  else if k = 3 ∨ k = 4 ∨ k = 7 ∨ k = 8 ∨ k = 11 ∨ k = 12 ∨ k = 15 ∨ k = 16 then NF
  else if k < 19 then NH
  else if r = 0 then NL else NO

/-- What the payment hands over. -/
def pay (c : Dev nD) (k r : ℕ) (d : Bool) : sProp 𝕄 :=
  match k, r, d with
  | 0, 0, _ => slAny (rt c) (box 0 0 512)
  | 0, _, _ => slAny (rt c) (box 1 0 512)
  | 1, 0, _ => slAny (lf c) (box 2 0 512)
  | 1, _, _ => slAny (lf c) (box 3 0 512)
  | 2, _, false => iprop(slAny (rt c) (box 1 0 512) ∗ reached ER (cell (rt c) 7) 0 ∗ reached ER (cell (rt c) 8) 0 ∗ reached ER (cell (rt c) 9) 0
      ∗ reached ER (cell (rt c) 10) 0 ∗ reached ER (cell (rt c) 1) 0)
  | 2, _, true => iprop(slAny (lf c) (box 3 0 512) ∗ reached ER (cell (lf c) 15) 0 ∗ reached ER (cell (lf c) 16) 0 ∗ reached ER (cell (lf c) 17) 0
      ∗ reached ER (cell (lf c) 18) 0 ∗ reached ER (cell (lf c) 0) 0)
  | 3, _, _ => sl c (box 0 0 512) fullShare.left (D.kv c 0)
  | 4, _, _ => sl c (box 1 0 512) fullShare.left (D.kv (lf c) 0)
  | 5, _, _ => sl c (box 0 0 256) fullShare.left (D.kv (lf (lf c)) 0)
  | 6, _, _ => sl c (box 0 256 256) fullShare.left (D.kv (lf (lf c)) 0)
  | 7, _, _ => sl c (box 1 0 512) fullShare (D.kv (lf c) 0)
  | 8, _, _ => iprop(sl c (box 0 0 512) fullShare (D.kv (lf (lf c)) 0) ∗ reached ER (cell (lf c) 0) 1)
  | 9, _, _ => sl c (box 1 0 256) fullShare (D.kv (lf (lf (lf c))) 0)
  | 10, _, _ => sl c (box 1 256 256) fullShare (D.kv (lf (lf (lf c))) 0)
  | 11, _, _ => sl c (box 2 0 512) fullShare.left (D.kv c 1)
  | 12, _, _ => sl c (box 3 0 512) fullShare.left (D.kv (rt c) 1)
  | 13, _, _ => sl c (box 2 0 256) fullShare.left (D.kv (rt (rt c)) 1)
  | 14, _, _ => sl c (box 2 256 256) fullShare.left (D.kv (rt (rt c)) 1)
  | 15, _, _ => sl c (box 3 0 512) fullShare (D.kv (rt c) 1)
  | 16, _, _ => iprop(sl c (box 2 0 512) fullShare (D.kv (rt (rt c)) 1) ∗ reached ER (cell (rt c) 1) 1)
  | 17, _, _ => sl c (box 3 0 256) fullShare (D.kv (rt (rt (rt c))) 1)
  | 18, _, _ => sl c (box 3 256 256) fullShare (D.kv (rt (rt (rt c))) 1)
  | 19, 0, _ => iprop(sl c (cbox 0 0) fullShare (D.kv c 0) ∗ kPts D c (rws 0 inb_S1024x1024_S512x1024_0_0))
  | 19, _, _ => iprop(oPts c (D.O c) ∗ aPts c (D.O c))
  | 20, _, _ => iprop(sl c (cbox 0 1024) fullShare (D.kv c 0) ∗ vPts D c (rws 0 inb_S1024x1024_S512x1024_0_0))
  | 21, _, _ => iprop(sl c (cbox 2 0) fullShare (D.kv c 1) ∗ kPts D c (rws 512 inb_S1024x1024_S512x1024_512_0))
  | 22, _, _ => iprop(sl c (cbox 2 1024) fullShare (D.kv c 1) ∗ vPts D c (rws 512 inb_S1024x1024_S512x1024_512_0))
  | _, _, _ => iprop(emp)

instance pay_storable (c : Dev nD) (k r : ℕ) (d : Bool) : BI.Storable (upEmb : UEmb _ 𝕄) (pay D c k r d) := by
  unfold pay
  split <;> infer_instance

/-- Every payment is positive. -/
theorem amt_pos (k r : ℕ) : 0 < amt k r := by
  unfold amt
  split; · exact Nat.one_pos
  split; · exact NF_pos
  split; · exact NH_pos
  split; · exact NL_pos
  exact NO_pos

/-- The schedule. -/
def Rd : Rounds.Schedule (GSem nD τ sig) Bool 𝕄 where
  duties g r := if g.1.2 = .tc then dut (code g.2) r else ∅
  unitless _ := False
  amount g r _ := amt (code g.2) r
  payload g r d := pay D g.1.1 (code g.2) r d
  amount_pos g r _ _ := amt_pos _ _

instance Rd_payload_storable (g : GSem nD τ sig) (r : ℕ) (d : Bool) : BI.Storable (upEmb : UEmb _ 𝕄) ((Rd D).payload g r d) :=
  pay_storable D _ _ _ _

section Sched

variable (c : Dev nD) (sm : SemLoc sig) (r : ℕ)

/-- The payments of a round. -/
theorem duties_eq : (Rd D).duties ((c : Thread nD τ), sm) r = dut (code sm) r := by
  show (if (c : Thread nD τ).2 = .tc then dut (code sm) r else ∅) = _; exact if_pos rfl
/-- Their amounts. -/
theorem amount_eq (d : Bool) : (Rd D).amount ((c : Thread nD τ), sm) r d = amt (code sm) r := rfl
/-- What they hand over. -/
theorem payload_eq (d : Bool) : (Rd D).payload ((c : Thread nD τ), sm) r d = pay D c (code sm) r d := rfl

/-- The units of a round with one payment. -/
theorem expect_one (h : dut (code sm) r = {false}) : (Rd D).expect ((c : Thread nD τ), sm) r = amt (code sm) r := by
  unfold Schedule.expect Schedule.amountOf; rw [duties_eq, h, Finset.sum_singleton, amount_eq]
/-- The units of a round with two payments. -/
theorem expect_two (h : dut (code sm) r = Finset.univ) : (Rd D).expect ((c : Thread nD τ), sm) r = amt (code sm) r + amt (code sm) r := by
  unfold Schedule.expect Schedule.amountOf; rw [duties_eq, h]; rfl
/-- All that a round with one payment hands over. -/
theorem rest_one (h : dut (code sm) r = {false}) :
    bigSep ((Rd D).duties ((c : Thread nD τ), sm) r \ ∅) (fun u => (Rd D).payload ((c : Thread nD τ), sm) r u) = pay D c (code sm) r false := by
  rw [Finset.sdiff_empty, duties_eq, h, bigSep_singleton, payload_eq]
/-- All that a round with two payments hands over. -/
theorem rest_two (h : dut (code sm) r = Finset.univ) :
    bigSep ((Rd D).duties ((c : Thread nD τ), sm) r \ ∅) (fun u => (Rd D).payload ((c : Thread nD τ), sm) r u)
      = iprop(pay D c (code sm) r false ∗ pay D c (code sm) r true) := by
  rw [Finset.sdiff_empty, duties_eq, h, show (Finset.univ : Finset Bool) = insert false {true} by decide,
    bigSep_insert (by decide), bigSep_singleton, payload_eq, payload_eq]; rfl

/-- After its last round a cell has no more duties. -/
theorem duties_after (n : ℕ) (h : ∀ r, n ≤ r → dut (code sm) r = ∅) : ∀ r, n ≤ r → (Rd D).duties ((c : Thread nD τ), sm) r = ∅ :=
  fun r hr => by rw [duties_eq]; exact h r hr

end Sched

/-- No payments come after the last round. -/
theorem dut_after (k n : ℕ) (h : if k < 2 ∨ k = 19 then n = 2 else n = 1) (r : ℕ) (hr : n ≤ r) : dut k r = ∅ := by
  unfold dut
  split at h
  all_goals (repeat' split) <;> first | rfl | omega

/-! ## What a device owes -/

/-- The payments a device makes to others, the last first: the cell's number, whether it goes right, its index. -/
def itK : ℕ → ℕ | 0 => 18 | 1 => 10 | 2 => 17 | 3 => 9 | 4 => 1 | 5 => 0 | 6 => 16 | 7 => 8 | 8 => 1 | 9 => 0 | 10 => 15 | 11 => 7 | _ => 2
def itD (c : Dev nD) : ℕ → Dev nD
  | 0 => lf c | 1 => rt c | 2 => lf c | 3 => rt c | 4 => rt c | 5 => lf c | 6 => lf c | 7 => rt c | 8 => rt c | 9 => lf c | 10 => lf c
  | 11 => rt c | 12 => rt c | _ => lf c
def itI : ℕ → ℕ | 4 => 1 | 5 => 1 | _ => 0

/-- What device `c` owes with `k` payments left. -/
def Ow (c : Dev nD) : ℕ → CellTallies nD τ sig ℕ
  | 0 => 0
  | k + 1 => Ow c k + tallyAt (cell (itD c k) (itK k)) (itI k) (amt (itK k) 0)
/-- What it owes at the start. -/
def O₀ (c : Dev nD) : CellTallies nD τ sig ℕ := Ow c 14

/-- The cell of a payment is one of the exchange's. -/
theorem itK_lt (k : ℕ) : itK k < 23 := by unfold itK; split <;> decide
/-- The index of a payment is below two. -/
theorem itI_lt (k : ℕ) : itI k < 2 := by unfold itI; split <;> decide

/-- What a device owes is among the payments that it has left. -/
theorem Ow_pos (c : Dev nD) (k : ℕ) (g : GSem nD τ sig) (ι : ℕ) (h : 0 < Ow c k g ι) :
    ∃ j < k, g = cell (itD c j) (itK j) ∧ ι = itI j := by
  induction k with
  | zero => exact absurd h (Nat.lt_irrefl 0)
  | succ k ih =>
    by_cases hg : g = cell (itD c k) (itK k) ∧ ι = itI k
    · exact ⟨k, Nat.lt_succ_self k, hg⟩
    · have : 0 < Ow c k g ι := by
        have h' : 0 < Ow c k g ι + tallyAt (cell (itD c k) (itK k)) (itI k) (amt (itK k) 0) g ι := h
        rwa [tallyAt_apply, if_neg hg, Nat.add_zero] at h'
      obtain ⟨j, hj, e⟩ := ih this
      exact ⟨j, Nat.lt_succ_of_lt hj, e⟩

/-! ## Levels -/

/-- The level of index `ι` of cell number `k`. -/
def lvl (k ι : ℕ) : ℕ :=
  if k < 2 then (if ι = 0 then 3 else 5)
  else if k = 7 ∨ k = 15 then 2
  else if k = 8 ∨ k = 16 then 4
  else if k = 9 ∨ k = 10 ∨ k = 17 ∨ k = 18 then 6
  else if k < 23 then 1
  else 0

def L (g : GSem nD τ sig) : Finset ℕ := if g.1.2 = .tc then {0, 1} else ∅
def lv (g : GSem nD τ sig) (ι : ℕ) : ℕ := lvl (code g.2) ι

/-- Other processors' cells have no levels. -/
theorem L_of_ne (g : GSem nD τ sig) (h : g.1.2 ≠ .tc) : L g = ∅ := if_neg h
/-- Each cell has two levels. -/
theorem L_tc (c : Dev nD) (sm : SemLoc sig) : L ((c : Thread nD τ), sm) = {0, 1} := if_pos rfl
/-- Both are levels of a cell. -/
theorem mem_L (c : Dev nD) (sm : SemLoc sig) (ι : ℕ) (h : ι < 2) : ι ∈ L ((c : Thread nD τ), sm) := by
  rw [L_tc, Finset.mem_insert, Finset.mem_singleton]; omega
/-- The level of a cell. -/
theorem lv_cell (c : Dev nD) (k ι : ℕ) (hk : k < 23) : lv (cell c k) ι = lvl k ι := by
  show lvl (code (smk k)) ι = _; rw [code_smk k hk]

/-- A device may wait on a cell whose level is below everything it still owes. -/
theorem mayWait (c : Dev nD) (sm : SemLoc sig) (ι k : ℕ) (hι : ι < 2) (h : ∀ j < k, lvl (code sm) ι < lvl (itK j) (itI j)) :
    (levAts L lv : sProp 𝕄) ⊢ MayWait (c : Thread nD τ) sm ι (Ow c k) :=
  MayOwe.of_cut (L := L) (lev := lv) (lvl (code sm) ι) (fun p hp => by rw [Finset.mem_singleton.mp hp]; exact mem_L c sm ι hι)
    (fun g u hg => by obtain ⟨j, hj, rfl, rfl⟩ := Ow_pos c k g u hg; exact mem_L _ _ _ (itI_lt j))
    (fun p hp => by rw [Finset.mem_singleton.mp hp]; exact le_refl _)
    (fun g u hg => by obtain ⟨j, hj, rfl, rfl⟩ := Ow_pos c k g u hg; rw [lv_cell _ _ _ (itK_lt j)]; exact h j hj)

/-! ## The records of all cells -/

/-- The cells the exchange runs on: the barriers, which are there from the start, and the kernel's own. -/
def allCells : Finset (GSem nD τ sig) := (Finset.univ : Finset (Dev nD × Fin 23)).image fun p => cell p.1 p.2.val

/-- A cell of the exchange is one of all. -/
theorem mem_allCells (c : Dev nD) (k : ℕ) (hk : k < 23) : cell c k ∈ allCells := Finset.mem_image.mpr ⟨(c, ⟨k, hk⟩), Finset.mem_univ _, rfl⟩

/-- Every cell's invariant, at the names `κ`. -/
def recs (κ : GSem nD τ sig → ℕ) : sProp 𝕄 := bigSep allCells fun g => cellInv ER (Rd D) (κ g) g

instance recs_persistent (κ : GSem nD τ sig → ℕ) : BI.Persistent (recs D κ) := by unfold recs; infer_instance

/-- The invariant of one cell. -/
theorem inv_at (κ : GSem nD τ sig → ℕ) (c : Dev nD) (k : ℕ) (hk : k < 23) :
    (recs D κ : sProp 𝕄) ⊢ cellInv ER (Rd D) (κ (cell c k)) (cell c k) := bigSep_elim (mem_allCells c k hk)

end Cert.KernelIdeal.Talk

end
-- ==== Proof.Comm.lean ====
/- One lemma for each kind of communication step: a signal, a wait, a transfer between neighbours, a local copy. -/
module

public import proofs.«01_k».proof.Proof.Sched

@[expose] public section

set_option maxRecDepth 65536

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.KernelIdeal.Str Cert.KernelIdeal.Slots

variable {F : FTy → Type} [FloatOps F] [Named F]

local notation "𝕄" => MT nD τ sig ℕ (Elt F) ℕ UU ℕ

abbrev 𝒱₀ : Variants := Variants.none

/-- Running `p` on device `c`. -/
abbrev WP (c : Dev nD) (p : Pg F PUnit) (Q : PUnit → sProp 𝕄) : sProp 𝕄 :=
  wp frame (wpE (defs₀ (F := F)) 𝒱₀ (c : Thread nD τ) none) Set.univ p Q

variable (D : Cts F) (κ : GSem nD τ sig → ℕ)

/-- What every step may use again and again. -/
def env : sProp 𝕄 := iprop(recs D κ ∗ levAts L lv)
instance env_persistent : BI.Persistent (env D κ) := by unfold env; infer_instance

/-- What the device still owes. -/
def ow (c : Dev nD) (n : ℕ) : sProp 𝕄 := iprop(∃ W, owes (c : Thread nD τ) (Ow c n) W)

/-- A copy into a whole slot credits a full half block. -/
theorem amount_slot (s : ℕ) (hs : s < 4) (sm : DmaSem sig) : (slot cm s hs).view.amount (.dma sm) = NF := rfl
/-- A copy into half of a slot credits half of that. -/
theorem amount_hslot (s r : ℕ) (hs : s < 4) (hr : r ≤ 256) (sm : DmaSem sig) : (hslot cm s r hs hr).view.amount (.dma sm) = NH := rfl

/-- A wait for the whole of a round with one payment. -/
theorem wp_take (c : Dev nD) (k r ι n : ℕ) (hk : k < 23) (hι : ι < 2) (hd : dut k r = {false})
    (hl : ∀ j < n, lvl k ι < lvl (itK j) (itI j)) (w : TpuEff nD τ sig (Elt F) Λ₀ .tc PUnit)
    (hw : ∀ K : PUnit → sProp 𝕄, wpE (defs₀ (F := F)) 𝒱₀ (c : Thread nD τ) none Set.univ w K = waitSpec (c : Thread nD τ) Set.univ (smk k) (amt k r) K)
    (Q : PUnit → sProp 𝕄) :
    iprop(env D κ ∗ cred (tallyAt (cell c k) ι (amt k r)) ∗ ow c n ∗ atPos ER (cell c k) r ∅ 0)
      ⊢ iprop((ow c n ∗ atPos ER (cell c k) (r + 1) ∅ 0 ∗ reached ER (cell c k) (r + 1) ∗ pay D c k r false -∗ Q ⟨⟩) -∗ WP c (Prog.lift w) Q) := by
  unfold env ow
  iintro ⟨⟨#HI, #HL⟩, Hc, ⟨%W, HO⟩, Ha⟩ HQ
  have hc := code_smk k hk
  iapply (Rounds.wp_wait_rest_token 𝒱₀ ER (Rd D) (c : Thread nD τ) none (κ := κ (cell c k)) hw (Set.mem_univ _) ι (O := Ow c n) (W := W)
      (R := r) (m := 0) (T := ∅) ((Nat.zero_add _).trans (by rw [expect_one D c (smk k) r (by rw [hc]; exact hd), hc]))) $$ [Hc HO Ha]
  · isplitr; · iapply (inv_at D κ c k hk); iexact HI
    isplitl [Hc]; · iexact Hc
    isplitl [HO]; · iexact HO
    isplitr; · iapply (mayWait c (smk k) ι n hι (by rw [hc]; exact hl)); iexact HL
    iexact Ha
  iintro ⟨HO, Ha, Hr, Hp⟩
  ihave Hp := (Entails.of_eq (rest_one D c (smk k) r (by rw [hc]; exact hd))) $$ Hp
  rw [hc, wp_ret]
  imodintro
  iapply HQ
  isplitl [HO]; · iexists _; iexact HO
  iframe Ha Hr Hp

/-- The wait for both neighbours at the barrier. -/
theorem wp_take2 (c : Dev nD) (n : ℕ) (hl : ∀ j < n, lvl 2 0 < lvl (itK j) (itI j)) (Q : PUnit → sProp 𝕄) :
    iprop(env D κ ∗ cred (tallyAt (cell c 2) 0 2) ∗ ow c n ∗ atPos ER (cell c 2) 0 ∅ 0)
      ⊢ iprop((ow c n ∗ atPos ER (cell c 2) 1 ∅ 0 ∗ pay D c 2 0 false ∗ pay D c 2 0 true -∗ Q ⟨⟩)
          -∗ WP c (semWaitWord bsem 2#32) Q) := by
  unfold env ow
  iintro ⟨⟨#HI, #HL⟩, Hc, ⟨%W, HO⟩, Ha⟩ HQ
  have hc := code_smk 2 (by omega)
  have hd : dut 2 0 = Finset.univ := rfl
  iapply (Rounds.wp_wait_rest_token (sm := smk 2) (k' := 2) 𝒱₀ ER (Rd D) (c : Thread nD τ) none (κ := κ (cell c 2)) (w := .semWait bsem (2#32).toInt)
      (fun K => rfl) (Set.mem_univ _) 0 (O := Ow c n) (W := W)
      (R := 0) (m := 0) (T := ∅) (by rw [expect_two D c (smk 2) 0 (by rw [hc]; exact hd), hc]; rfl)) $$ [Hc HO Ha]
  · isplitr; · iapply (inv_at D κ c 2 (by omega)); iexact HI
    isplitl [Hc]; · iexact Hc
    isplitl [HO]; · iexact HO
    isplitr; · iapply (mayWait c (smk 2) 0 n (by omega) (by rw [hc]; exact hl)); iexact HL
    iexact Ha
  iintro ⟨HO, Ha, -, Hp⟩
  ihave Hp := (Entails.of_eq (rest_two D c (smk 2) 0 (by rw [hc]; exact hd))) $$ Hp
  rw [hc, wp_ret]
  imodintro
  iapply HQ
  isplitl [HO]; · iexists _; iexact HO
  iframe Ha Hp

/-- A signal to a neighbour, handing it what the schedule says. -/
theorem wp_give (c d : Dev nD) (sem : Sem sig) (k r n ι : ℕ) (b : Bool) (hk : k < 3) (e : smk k = .reg sem) (hb : b ∈ dut k r)
    (hO : Ow c (n + 1) = Ow c n + tallyAt (cell d k) ι 1) (Q : PUnit → sProp 𝕄) :
    iprop(env D κ ∗ ow c (n + 1) ∗ dutyTok ER (cell d k) r b ∗ pay D d k r b ∗ reached ER (cell d k) r)
      ⊢ iprop((ow c n -∗ Q ⟨⟩) -∗ WP c (semSignalWord d sem 1#32) Q) := by
  unfold env ow
  have hc := code_smk k (by omega)
  have hI := inv_at D κ d k (by omega)
  rw [e] at hc
  rw [show cell d k = ((d : Thread nD τ), .reg sem) by rw [cell, e]] at hO hI ⊢
  iintro ⟨⟨#HI, #HL⟩, ⟨%W, HO⟩, Ht, Hp, Hr⟩ HQ
  iapply (Rounds.wp_signal 𝒱₀ ER (Rd D) (c : Thread nD τ) none (dst := (d : Thread nD τ)) (sem := sem) (r := r) (d := b) (k' := 1)
      (κ := κ ((d : Thread nD τ), .reg sem)) (by rw [duties_eq, hc]; exact hb) (by rw [amount_eq, hc]; exact if_pos hk) ι (Ow c n) hO) $$ [HO Ht Hp Hr]
  · isplitr; · iapply hI; iexact HI
    isplitl [HO]; · iexact HO
    isplitl [Ht]; · iexact Ht
    isplitl [Hp]; · rw [payload_eq, hc]; iexact Hp
    iexact Hr
  iintro HO
  rw [wp_ret]
  imodintro
  iapply HQ
  iexists _; iexact HO

variable (KB VB : S1024x1024.Idx → F .bf16) (h : Fin 2)

/-- A whole slot sent to a neighbour's slot. -/
theorem wp_send (c d : Dev nD) (h6 : cm.IsWhole) (sa ra : DmaSems sig S4) (s t i : ℕ) (hs : s < 4) (ht : t < 4) (hi : i < 4) (ka kr n : ℕ)
    (hka : ka < 23) (hkr : kr < 23) (eA : smk ka = .dma (dsem sa i hi)) (eR : smk kr = .dma (dsem ra i hi))
    (dA : dut ka 0 = {false}) (dR : dut kr 0 = {false}) (aA : amt ka 0 = NF) (aR : amt kr 0 = NF) (X : sProp 𝕄)
    (pA : (sl c (box s 0 512) fullShare.left (kv KB VB h) : sProp 𝕄) ⊢ pay D c ka 0 false)
    (pR : iprop(sl d (box t 0 512) fullShare (kv KB VB h) ∗ X) ⊢ pay D d kr 0 false)
    (hO : Ow c (n + 1) = Ow c n + tallyAt (cell d kr) 0 NF) (Q : PUnit → sProp 𝕄) :
    iprop(env D κ ∗ sl c (box s 0 512) fullShare.left (kv KB VB h) ∗ (slAny d (box t 0 512) ∗ X) ∗ ow c (n + 1)
        ∗ dutyTok ER (cell c ka) 0 false ∗ reached ER (cell c ka) 0 ∗ dutyTok ER (cell d kr) 0 false ∗ reached ER (cell d kr) 0)
      ⊢ iprop((cred (tallyAt (cell c ka) 0 NF) ∗ ow c n -∗ Q ⟨⟩) -∗ WP c (send cm h6 sa ra d s t i hs ht hi) Q) := by
  unfold env ow
  have hcA := code_smk ka hka
  have hcR := code_smk kr hkr
  have hIA := inv_at D κ c ka hka
  have hIR := inv_at D κ d kr hkr
  rw [eA] at hcA
  rw [eR] at hcR
  rw [show cell c ka = ((c : Thread nD τ), .dma (dsem sa i hi)) by rw [cell, eA]] at hIA ⊢
  rw [show cell d kr = ((d : Thread nD τ), .dma (dsem ra i hi)) by rw [cell, eR]] at hO hIR ⊢
  iintro ⟨⟨#HI, #HL⟩, Hs, ⟨⟨%fd, Hd⟩, HX⟩, ⟨%W, HO⟩, HtA, HrA, HtR, HrR⟩ HQ
  iapply (Rounds.wp_send_pointsTo_with 𝒱₀ ER (Rd D) (c : Thread nD τ) none (c' := (d : Thread nD τ)) (src := slot cm s hs) (dst := slot cm t ht)
      (sS := .dma (dsem sa i hi)) (sem := .dma (dsem ra i hi)) (q := fullShare.left) (fs := kv KB VB h) (F := X)
      (κ₁ := κ ((c : Thread nD τ), .dma (dsem sa i hi))) (κ₂ := κ ((d : Thread nD τ), .dma (dsem ra i hi)))
      (r₁ := 0) (r₂ := 0) (d₁ := false) (d₂ := false) (fd := fd)
      (by rw [duties_eq, hcA, dA]; exact Finset.mem_singleton_self _) (by rw [duties_eq, hcR, dR]; exact Finset.mem_singleton_self _)
      0 0 NF (amount_slot t ht _) (by rw [amount_eq, hcA, aA]) (by rw [amount_eq, hcR, aR]) (Ow c n) hO (W := W)
      (by rw [payload_eq, hcA, slot_set]; exact pA)
      (by rw [payload_eq, hcR, pointsTo_congr (slot_copied KB VB h s t hs ht fd), slot_set]; exact pR)) $$ [Hs Hd HX HO HtA HrA HtR HrR]
  · rw [slot_set, slot_set]
    isplitr; · iapply hIA; iexact HI
    isplitr; · iapply hIR; iexact HI
    isplitl [Hs]; · iexact Hs
    isplitl [Hd HX]; · iframe Hd HX
    iframe HO HtA HrA HtR HrR
  iintro ⟨Hc, HO⟩
  rw [wp_ret]
  imodintro
  iapply HQ
  isplitl [Hc]; · iexact Hc
  iexists _; iexact HO

/-- Half a slot sent to the same half of a neighbour's slot. -/
theorem wp_sendH (c d : Dev nD) (h6 : cm.IsWhole) (sa ra : DmaSems sig S4) (s t r i : ℕ) (hs : s < 4) (ht : t < 4) (hr : r = 0 ∨ r = 256) (hi : i < 4)
    (ka kr n : ℕ)
    (hka : ka < 23) (hkr : kr < 23) (eA : smk ka = .dma (dsem sa i hi)) (eR : smk kr = .dma (dsem ra i hi))
    (dA : dut ka 0 = {false}) (dR : dut kr 0 = {false}) (aA : amt ka 0 = NH) (aR : amt kr 0 = NH)
    (pA : (sl c (box s r 256) fullShare.left (kv KB VB h) : sProp 𝕄) ⊢ pay D c ka 0 false)
    (pR : (sl d (box t r 256) fullShare (kv KB VB h) : sProp 𝕄) ⊢ pay D d kr 0 false)
    (hO : Ow c (n + 1) = Ow c n + tallyAt (cell d kr) 0 NH) (Q : PUnit → sProp 𝕄) :
    iprop(env D κ ∗ sl c (box s r 256) fullShare.left (kv KB VB h) ∗ slAny d (box t r 256) ∗ ow c (n + 1)
        ∗ dutyTok ER (cell c ka) 0 false ∗ reached ER (cell c ka) 0 ∗ dutyTok ER (cell d kr) 0 false ∗ reached ER (cell d kr) 0)
      ⊢ iprop((cred (tallyAt (cell c ka) 0 NH) ∗ ow c n -∗ Q ⟨⟩) -∗ WP c (sendH cm h6 sa ra d s t r i hs ht hr hi) Q) := by
  unfold env ow
  have hcA := code_smk ka hka
  have hcR := code_smk kr hkr
  have hIA := inv_at D κ c ka hka
  have hIR := inv_at D κ d kr hkr
  have hr' : r ≤ 256 := by omega
  rw [eA] at hcA
  rw [eR] at hcR
  rw [show cell c ka = ((c : Thread nD τ), .dma (dsem sa i hi)) by rw [cell, eA]] at hIA ⊢
  rw [show cell d kr = ((d : Thread nD τ), .dma (dsem ra i hi)) by rw [cell, eR]] at hO hIR ⊢
  iintro ⟨⟨#HI, #HL⟩, Hs, ⟨%fd, Hd⟩, ⟨%W, HO⟩, HtA, HrA, HtR, HrR⟩ HQ
  iapply (Rounds.wp_send_pointsTo 𝒱₀ ER (Rd D) (c : Thread nD τ) none (c' := (d : Thread nD τ)) (src := hslot cm s r hs hr') (dst := hslot cm t r ht hr')
      (sS := .dma (dsem sa i hi)) (sem := .dma (dsem ra i hi)) (q := fullShare.left) (fs := kv KB VB h)
      (κ₁ := κ ((c : Thread nD τ), .dma (dsem sa i hi))) (κ₂ := κ ((d : Thread nD τ), .dma (dsem ra i hi)))
      (r₁ := 0) (r₂ := 0) (d₁ := false) (d₂ := false) (fd := fd)
      (by rw [duties_eq, hcA, dA]; exact Finset.mem_singleton_self _) (by rw [duties_eq, hcR, dR]; exact Finset.mem_singleton_self _)
      0 0 NH (amount_hslot t r ht hr' _) (by rw [amount_eq, hcA, aA]) (by rw [amount_eq, hcR, aR]) (Ow c n) hO (W := W)
      (by rw [payload_eq, hcA, hslot_set]; exact pA)
      (by rw [payload_eq, hcR, pointsTo_congr (hslot_copied KB VB h s t r hs ht hr' fd), hslot_set]; exact pR)) $$ [Hs Hd HO HtA HrA HtR HrR]
  · rw [hslot_set, hslot_set]
    isplitr; · iapply hIA; iexact HI
    isplitr; · iapply hIR; iexact HI
    isplitl [Hs]; · iexact Hs
    isplitl [Hd]; · iexact Hd
    iframe HO HtA HrA HtR HrR
  iintro ⟨Hc, HO⟩
  rw [wp_ret]
  imodintro
  iapply HQ
  isplitl [Hc]; · iexact Hc
  iexists _; iexact HO

/-- A device's own copy, paying its own cell. -/
theorem wp_own {sp sp' : Space} {sh : Shape} {ty : EltTy} (c : Dev nD) (src : Memref sig .tc sp sh ty) (dst : Memref sig .tc sp' sh ty)
    (sem : DmaSem sig) (hsrc : src.view.WordExact) (hdst : dst.view.WordExact) (hsem) (k r : ℕ) (hk : k < 23) (e : smk k = .dma sem)
    (hd : dut k r = {false}) (ha : dst.view.amount (.dma sem) = amt k r)
    (fs : Buf (Elt F) (src.view.loc (c : Thread nD τ))) (fd : Buf (Elt F) (dst.view.loc (c : Thread nD τ)))
    (hp : iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ pay D c k r false) (Q : PUnit → sProp 𝕄) :
    iprop(env D κ ∗ (src.view.loc (c : Thread nD τ) ↦[src.view.set]{fullShare} fs) ∗ (dst.view.loc (c : Thread nD τ) ↦[dst.view.set]{fullShare} fd)
        ∗ dutyTok ER (cell c k) r false ∗ reached ER (cell c k) r)
      ⊢ iprop((cred (tallyAt (cell c k) 0 (amt k r)) -∗ Q ⟨⟩)
          -∗ WP c (Prog.lift (.enqueueDma src (.here dst) (.dma sem) hsrc hdst hsem)) Q) := by
  unfold env
  have hc := code_smk k hk
  have hI := inv_at D κ c k hk
  rw [e] at hc
  rw [show cell c k = ((c : Thread nD τ), .dma sem) by rw [cell, e]] at hI ⊢
  iintro ⟨⟨#HI, #HL⟩, Hs, Hd, Ht, Hr⟩ HQ
  iapply (Rounds.wp_copy_pointsTo 𝒱₀ ER (Rd D) (c : Thread nD τ) none (src := src) (dst := dst) (sem := .dma sem) (q := fullShare) (fs := fs) (fd := fd)
      (κ := κ ((c : Thread nD τ), .dma sem)) (r := r) (d := false)
      (by rw [duties_eq, hc, hd]; exact Finset.mem_singleton_self _) 0 (amt k r) ha (by rw [amount_eq, hc])
      (by rw [payload_eq, hc]; exact hp)) $$ [Hs Hd Ht Hr]
  · isplitr; · iapply hI; iexact HI
    iframe Hs Hd Ht Hr
  iintro Hc
  rw [wp_ret]
  imodintro
  iapply HQ
  iexact Hc

end Cert.KernelIdeal.Talk

end
-- ==== Proof.Fold.lean ====
/- What the compute pieces of the body leave: the queries and the running sums as functions of what they read. -/
module

public import proofs.«01_k».proof.Proof.Comm

@[expose] public section

set_option maxRecDepth 65536

noncomputable section

namespace Cert.KernelIdeal.Talk

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.KernelIdeal.Str Cert.KernelIdeal.Slots

variable {F : FTy → Type} [FloatOps F] [Named F]

local notation "𝕄" => MT nD τ sig ℕ (Elt F) ℕ UU ℕ

/-! ## Parts of the buffers -/

/-- The head a column belongs to. -/
def hd (j : Fin 1024) : Fin 8 := ⟨j.val / 128, by omega⟩
/-- Its place within the head. -/
def pl (j : Fin 1024) : Fin 128 := ⟨j.val % 128, by omega⟩
/-- Head `h`'s column `e`. -/
def col (h : Fin 8) (e : Fin 128) : Fin 1024 := ⟨128 * h.val + e.val, by omega⟩

/-- The head of a head's column. -/
theorem hd_col (h : Fin 8) (e : Fin 128) : hd (col h e) = h := Fin.ext (by show (128 * h.val + e.val) / 128 = _; omega)
/-- The place of a column within its head. -/
theorem pl_col (h : Fin 8) (e : Fin 128) : pl (col h e) = e := Fin.ext (by show (128 * h.val + e.val) % 128 = _; omega)
/-- A column is its head's and place's column. -/
theorem col_hd (j : Fin 1024) : col (hd j) (pl j) = j := Fin.ext (by show 128 * (j.val / 128) + j.val % 128 = _; omega)

/-- An index's column. -/
def cl (j : S1024x1024.Idx) : Fin 1024 := j 1
def cl8 (j : S1024x8.Idx) : Fin 8 := j 1

/-- Head `h`'s columns. -/
def rdQ {T : Type} (f : S1024x1024.Idx → T) (h : Fin 8) : S1024x128.Idx → T := fun i => f (ix2 (i 0) (col h (i 1)))
/-- Head `h`'s column of denominators. -/
def rdL {T : Type} (f : S1024x8.Idx → T) (h : Fin 8) : S1024x1.Idx → T := fun i => f (ix2 (i 0) h)
/-- Head `h`'s keys (`o = 0`) or values (`o = 1024`), from row `r` on, as a slot holds them. -/
def rdK (f : S4x512x2048.Idx → F .bf16) (o : ℕ) (ho : o ≤ 1024) (h : Fin 8) : S1x512x128.Idx → F .bf16 := fun i =>
  f (ix3 0 (i 1) ⟨o + (col h (i 2)).val, by have := (col h (i 2)).isLt; omega⟩)
def rdK' (f : S4x512x2048.Idx → F .bf16) (r : ℕ) (hr : r ≤ 256) (o : ℕ) (ho : o ≤ 1024) (h : Fin 8) : S1x256x128.Idx → F .bf16 := fun i =>
  f (ix3 0 ⟨r + (i 1).val, by have : (i 1).val < 256 := (i 1).isLt; omega⟩ ⟨o + (col h (i 2)).val, by have := (col h (i 2)).isLt; omega⟩)
/-- Head `h`'s columns replaced. -/
def putQ {T : Type} (f : S1024x1024.Idx → T) (h : Fin 8) (w : S1024x128.Idx → T) : S1024x1024.Idx → T := fun j =>
  if hd (cl j) = h then w (ix2 (j 0) (pl (cl j))) else f j
def putL {T : Type} (f : S1024x8.Idx → T) (h : Fin 8) (w : S1024x1.Idx → T) : S1024x8.Idx → T := fun j =>
  if cl8 j = h then w (ix2 (j 0) 0) else f j

/-- Where a head's columns lie in the whole array. -/
theorem rQ_emb (h : Fin 8) (x : S1024x128.Idx) : (rQ h.val h.isLt).emb x = (ix2 (x 0) (col h (x 1)) : S1024x1024.Idx) := by
  funext k; apply Fin.ext; fin_cases k <;> simp [Rect.emb_apply, ix2, col]
/-- Where a head's column of denominators lies. -/
theorem rL_emb (h : Fin 8) (x : S1024x1.Idx) : (rL h.val h.isLt).emb x = (ix2 (x 0) h : S1024x8.Idx) := by
  have : (x 1).val = 0 := by have : (x 1).val < 1 := (x 1).isLt; omega
  funext k; apply Fin.ext; fin_cases k
  · simp [Rect.emb_apply, ix2]
  · show h.val + 1 * (x 1).val = h.val; omega
/-- The whole array lies where it is. -/
theorem rF_emb (x : S1024x1024.Idx) : rF.emb x = x := by
  funext k; apply Fin.ext; fin_cases k <;> simp [Rect.emb_apply]
/-- The whole array of denominators lies where it is. -/
theorem rF8_emb (x : S1024x8.Idx) : rF8.emb x = x := by
  funext k; apply Fin.ext; fin_cases k <;> simp [Rect.emb_apply]
/-- Where a head's keys of a slot lie. -/
theorem rK512_emb (s o : ℕ) (hs : s < 4) (ho : o + 128 ≤ 2048) (x : S1x512x128.Idx) :
    (rK512 s o hs ho).emb x = (ix3 ⟨s, hs⟩ (x 1) ⟨o + (x 2).val, by have : (x 2).val < 128 := (x 2).isLt; omega⟩ : S4x512x2048.Idx) := by
  have : (x 0).val = 0 := by have : (x 0).val < 1 := (x 0).isLt; omega
  funext k; apply Fin.ext; fin_cases k
  · show s + 1 * (x 0).val = s; omega
  · simp [Rect.emb_apply, ix3]
  · simp [Rect.emb_apply, ix3]
/-- Where a head's keys of half a slot lie. -/
theorem rK256_emb (s r o : ℕ) (hs : s < 4) (hr : r ≤ 256) (ho : o + 128 ≤ 2048) (x : S1x256x128.Idx) :
    (rK256 s r o hs hr ho).emb x = (ix3 ⟨s, hs⟩ ⟨r + (x 1).val, by have : (x 1).val < 256 := (x 1).isLt; omega⟩
      ⟨o + (x 2).val, by have : (x 2).val < 128 := (x 2).isLt; omega⟩ : S4x512x2048.Idx) := by
  have : (x 0).val = 0 := by have : (x 0).val < 1 := (x 0).isLt; omega
  funext k; apply Fin.ext; fin_cases k
  · show s + 1 * (x 0).val = s; omega
  · simp [Rect.emb_apply, ix3]
  · simp [Rect.emb_apply, ix3]

/-- Writing a rectangle of a whole buffer, at an index inside and at one outside. -/
theorem write_in {b : Ref sig .tc} (r : Rect b.ty.shape) (f : b.ty.Contents (Elt F)) (w : r.shape.Idx → Elt F b.ty.elt) (x : r.shape.Idx) :
    ((Memref.whole b).access r).write (Elt F) f w Finset.univ (r.emb x) = w x :=
  View.write_emb_of_mem (v := (Memref.whole b).access r) f w (Finset.mem_univ x)
/-- A store changes nothing outside its rectangle. -/
theorem write_out {b : Ref sig .tc} (r : Rect b.ty.shape) (f : b.ty.Contents (Elt F)) (w : r.shape.Idx → Elt F b.ty.elt) (j : b.ty.shape.Idx)
    (h : ∀ x, r.emb x ≠ j) : ((Memref.whole b).access r).write (Elt F) f w Finset.univ j = f j :=
  View.write_of_not_mem (v := (Memref.whole b).access r) f w _ fun hm => by
    obtain ⟨x, -, e⟩ := Finset.mem_map.mp hm
    exact h x e

/-- A store of a head's numerators. -/
theorem wrA (h : Fin 8) (f : S1024x1024.Idx → F .f32) (w : S1024x128.Idx → F .f32) :
    ((Memref.whole cc0_scratch8).access (rQ h.val h.isLt)).write (Elt F) f w Finset.univ = putQ f h w := by
  funext (j : S1024x1024.Idx)
  unfold putQ
  by_cases hj : hd (cl j) = h
  · rw [if_pos hj]
    have e : (rQ h.val h.isLt).emb (ix2 (j 0) (pl (cl j))) = j := by
      rw [rQ_emb, ← hj]; show ix2 (j 0) (col (hd (cl j)) (pl (cl j))) = j; rw [col_hd]; funext k; fin_cases k <;> rfl
    have := write_in (F := F) (b := cc0_scratch8) (rQ h.val h.isLt) f w (ix2 (j 0) (pl (cl j)))
    rw [e] at this; exact this
  · rw [if_neg hj]
    exact write_out (F := F) (b := cc0_scratch8) (rQ h.val h.isLt) f w j fun x e => hj (by
      rw [← e, rQ_emb]; exact hd_col h (x 1))
/-- A store of a head's queries. -/
theorem wrQ (h : Fin 8) (f : S1024x1024.Idx → F .bf16) (w : S1024x128.Idx → F .bf16) :
    ((Memref.whole cc0_scratch7).access (rQ h.val h.isLt)).write (Elt F) f w Finset.univ = putQ f h w := by
  funext (j : S1024x1024.Idx)
  unfold putQ
  by_cases hj : hd (cl j) = h
  · rw [if_pos hj]
    have e : (rQ h.val h.isLt).emb (ix2 (j 0) (pl (cl j))) = j := by
      rw [rQ_emb, ← hj]; show ix2 (j 0) (col (hd (cl j)) (pl (cl j))) = j; rw [col_hd]; funext k; fin_cases k <;> rfl
    have := write_in (F := F) (b := cc0_scratch7) (rQ h.val h.isLt) f w (ix2 (j 0) (pl (cl j)))
    rw [e] at this; exact this
  · rw [if_neg hj]
    exact write_out (F := F) (b := cc0_scratch7) (rQ h.val h.isLt) f w j fun x e => hj (by
      rw [← e, rQ_emb]; exact hd_col h (x 1))
/-- A store of a head's denominators. -/
theorem wrL (h : Fin 8) (f : S1024x8.Idx → F .f32) (w : S1024x1.Idx → F .f32) :
    ((Memref.whole cc0_scratch10).access (rL h.val h.isLt)).write (Elt F) f w Finset.univ = putL f h w := by
  funext (j : S1024x8.Idx)
  unfold putL
  by_cases hj : cl8 j = h
  · rw [if_pos hj]
    have e : (rL h.val h.isLt).emb (ix2 (j 0) 0) = j := by
      rw [rL_emb, ← hj]; funext k; fin_cases k <;> rfl
    have := write_in (F := F) (b := cc0_scratch10) (rL h.val h.isLt) f w (ix2 (j 0) 0)
    rw [e] at this; exact this
  · rw [if_neg hj]
    exact write_out (F := F) (b := cc0_scratch10) (rL h.val h.isLt) f w j fun x e => hj (by
      rw [← e, rL_emb]; rfl)
/-- A store of the whole accumulator. -/
theorem wrF (f w : S1024x1024.Idx → F .f32) : ((Memref.whole cc0_scratch8).access rF).write (Elt F) f w Finset.univ = w := by
  funext j
  have := write_in (F := F) (b := cc0_scratch8) rF f w j
  rw [rF_emb] at this; exact this
/-- A store of the whole query array. -/
theorem wrFq (f w : S1024x1024.Idx → F .bf16) : ((Memref.whole cc0_scratch7).access rF).write (Elt F) f w Finset.univ = w := by
  funext j
  have := write_in (F := F) (b := cc0_scratch7) rF f w j
  rw [rF_emb] at this; exact this
/-- A store of all denominators. -/
theorem wrF8 (f w : S1024x8.Idx → F .f32) : ((Memref.whole cc0_scratch10).access rF8).write (Elt F) f w Finset.univ = w := by
  funext j
  have := write_in (F := F) (b := cc0_scratch10) rF8 f w j
  rw [rF8_emb] at this; exact this

/-- A load of a head's queries. -/
theorem rdQ_eq (h : Fin 8) (f : S1024x1024.Idx → F .bf16) : ((Memref.whole cc0_scratch7).access (rQ h.val h.isLt)).read (Elt F) f = rdQ f h := by
  funext x; show f ((rQ h.val h.isLt).emb x) = _; rw [rQ_emb]; rfl
/-- A load of a head's numerators. -/
theorem rdA_eq (h : Fin 8) (f : S1024x1024.Idx → F .f32) : ((Memref.whole cc0_scratch8).access (rQ h.val h.isLt)).read (Elt F) f = rdQ f h := by
  funext x; show f ((rQ h.val h.isLt).emb x) = _; rw [rQ_emb]; rfl
/-- A load of a head's denominators. -/
theorem rdL_eq (h : Fin 8) (f : S1024x8.Idx → F .f32) : ((Memref.whole cc0_scratch10).access (rL h.val h.isLt)).read (Elt F) f = rdL f h := by
  funext x; show f ((rL h.val h.isLt).emb x) = _; rw [rL_emb]; rfl
/-- A load of the whole query array. -/
theorem rdFq_eq (f : S1024x1024.Idx → F .bf16) : ((Memref.whole cc0_scratch7).access rF).read (Elt F) f = f := by
  funext x; show f (rF.emb x) = _; rw [rF_emb]
/-- A load of the staged rows. -/
theorem rdF0_eq (f : S1024x1024.Idx → F .bf16) : ((Memref.whole cc0_stg0_0).access rF).read (Elt F) f = f := by
  funext x; show f (rF.emb x) = _; rw [rF_emb]
/-- A load of the staged query weights. -/
theorem rdF1_eq (f : S1024x1024.Idx → F .bf16) : ((Memref.whole cc0_stg1_0).access rF).read (Elt F) f = f := by
  funext x; show f (rF.emb x) = _; rw [rF_emb]
/-- A load of the staged output weights. -/
theorem rdF2_eq (f : S1024x1024.Idx → F .bf16) : ((Memref.whole cc0_stg2_0).access rF).read (Elt F) f = f := by
  funext x; show f (rF.emb x) = _; rw [rF_emb]

section KV
variable (KB VB : S1024x1024.Idx → F .bf16) (hf : Fin 2)

/-- A load of a head's columns of a slot. -/
theorem rdK_eq (s o : ℕ) (hs : s < 4) (ho : o ≤ 1024) (h : Fin 8) (hh : o + 128 * h.val + 128 ≤ 2048) :
    (cm.access (rK512 s (o + 128 * h.val) hs hh)).read (Elt F) (kv KB VB hf) = rdK (kv KB VB hf) o ho h := by
  funext x; show kv KB VB hf ((rK512 s (o + 128 * h.val) hs hh).emb x) = _; rw [rK512_emb]
  exact kv_congr KB VB hf rfl (by show o + 128 * h.val + (x 2).val = o + (128 * h.val + (x 2).val); omega)
/-- A load of a head's keys of a slot. -/
theorem rdK0_eq (s : ℕ) (hs : s < 4) (h : Fin 8) (hh : 128 * h.val + 128 ≤ 2048) :
    (cm.access (rK512 s (128 * h.val) hs hh)).read (Elt F) (kv KB VB hf) = rdK (kv KB VB hf) 0 (by omega) h := by
  funext x; show kv KB VB hf ((rK512 s (128 * h.val) hs hh).emb x) = _; rw [rK512_emb]
  exact kv_congr KB VB hf rfl (by show 128 * h.val + (x 2).val = 0 + (128 * h.val + (x 2).val); omega)
/-- A load of a head's keys of half a slot. -/
theorem rdK0'_eq (s r : ℕ) (hs : s < 4) (hr : r ≤ 256) (h : Fin 8) (hh : 128 * h.val + 128 ≤ 2048) :
    (cm.access (rK256 s r (128 * h.val) hs hr hh)).read (Elt F) (kv KB VB hf) = rdK' (kv KB VB hf) r hr 0 (by omega) h := by
  funext x; show kv KB VB hf ((rK256 s r (128 * h.val) hs hr hh).emb x) = _; rw [rK256_emb]
  exact kv_congr KB VB hf rfl (by show 128 * h.val + (x 2).val = 0 + (128 * h.val + (x 2).val); omega)
/-- A load of a head's columns of half a slot. -/
theorem rdK'_eq (s r o : ℕ) (hs : s < 4) (hr : r ≤ 256) (ho : o ≤ 1024) (h : Fin 8) (hh : o + 128 * h.val + 128 ≤ 2048) :
    (cm.access (rK256 s r (o + 128 * h.val) hs hr hh)).read (Elt F) (kv KB VB hf) = rdK' (kv KB VB hf) r hr o ho h := by
  funext x; show kv KB VB hf ((rK256 s r (o + 128 * h.val) hs hr hh).emb x) = _; rw [rK256_emb]
  exact kv_congr KB VB hf rfl (by show o + 128 * h.val + (x 2).val = o + (128 * h.val + (x 2).val); omega)
end KV

/-! ## The folds' values -/

section Val
variable (Q : S1024x1024.Idx → F .bf16) (f : S4x512x2048.Idx → F .bf16)

/-- The numerators after a fold of a slot's 512 rows with contents `f`. -/
def stA (b : S1024x512.Idx → F .f32) (A : S1024x1024.Idx → F .f32) : S1024x1024.Idx → F .f32 := fun j =>
  aUp512 (rdQ Q (hd (cl j))) (rdK f 0 (by omega) (hd (cl j))) (rdK f 1024 (by omega) (hd (cl j))) b (rdQ A (hd (cl j))) (ix2 (j 0) (pl (cl j)))
/-- The denominators. -/
def stL (b : S1024x512.Idx → F .f32) (Lc : S1024x8.Idx → F .f32) : S1024x8.Idx → F .f32 := fun j =>
  lUp512 (rdQ Q (cl8 j)) (rdK f 0 (by omega) (cl8 j)) b (rdL Lc (cl8 j)) (ix2 (j 0) 0)
/-- The same for 256 rows. -/
def stA' (r : ℕ) (hr : r ≤ 256) (b : S1024x256.Idx → F .f32) (A : S1024x1024.Idx → F .f32) : S1024x1024.Idx → F .f32 := fun j =>
  aUp256 (rdQ Q (hd (cl j))) (rdK' f r hr 0 (by omega) (hd (cl j))) (rdK' f r hr 1024 (by omega) (hd (cl j))) b (rdQ A (hd (cl j))) (ix2 (j 0) (pl (cl j)))
def stL' (r : ℕ) (hr : r ≤ 256) (b : S1024x256.Idx → F .f32) (Lc : S1024x8.Idx → F .f32) : S1024x8.Idx → F .f32 := fun j =>
  lUp256 (rdQ Q (cl8 j)) (rdK' f r hr 0 (by omega) (cl8 j)) b (rdL Lc (cl8 j)) (ix2 (j 0) 0)
end Val

/-- The normalised rows. -/
def nrm (A : S1024x1024.Idx → F .f32) (Lc : S1024x8.Idx → F .f32) : S1024x1024.Idx → F .bf16 := fun j =>
  nUp (rdQ A (hd (cl j))) (rdL Lc (hd (cl j))) (ix2 (j 0) (pl (cl j)))

/-- The heads below `h` taken from `g`, the others from `f`. -/
def mixQ {T : Type} (f g : S1024x1024.Idx → T) (h : ℕ) : S1024x1024.Idx → T := fun j => if (hd (cl j)).val < h then g j else f j
def mixL {T : Type} (f g : S1024x8.Idx → T) (h : ℕ) : S1024x8.Idx → T := fun j => if (cl8 j).val < h then g j else f j

/-- Before the first head all is old. -/
theorem mixQ_zero {T : Type} (f g : S1024x1024.Idx → T) : mixQ f g 0 = f := by
  funext j; exact if_neg (Nat.not_lt_zero _)
/-- Before the first head all denominators are old. -/
theorem mixL_zero {T : Type} (f g : S1024x8.Idx → T) : mixL f g 0 = f := by
  funext j; exact if_neg (Nat.not_lt_zero _)
/-- After the last head all is new. -/
theorem mixQ_eight {T : Type} (f g : S1024x1024.Idx → T) : mixQ f g 8 = g := by
  funext j; exact if_pos (hd (cl j)).isLt
/-- After the last head all denominators are new. -/
theorem mixL_eight {T : Type} (f g : S1024x8.Idx → T) : mixL f g 8 = g := by
  funext j; exact if_pos (cl8 j).isLt
/-- A head not yet done reads the old contents. -/
theorem rdQ_mix {T : Type} (f g : S1024x1024.Idx → T) (h : Fin 8) : rdQ (mixQ f g h.val) h = rdQ f h := by
  funext i; exact if_neg (fun hlt => Nat.lt_irrefl h.val (lt_of_eq_of_lt (congrArg Fin.val (hd_col h (i 1))).symm hlt))
/-- A head not yet done reads the old denominators. -/
theorem rdL_mix {T : Type} (f g : S1024x8.Idx → T) (h : Fin 8) : rdL (mixL f g h.val) h = rdL f h := by
  funext i; exact if_neg (by show ¬ h.val < h.val; exact Nat.lt_irrefl _)
/-- Storing a head's new contents does one head more. -/
theorem putQ_mix {T : Type} (f g : S1024x1024.Idx → T) (h : Fin 8) (w : S1024x128.Idx → T) (hw : ∀ j : S1024x1024.Idx, hd (cl j) = h → w (ix2 (j 0) (pl (cl j))) = g j) :
    putQ (mixQ f g h.val) h w = mixQ f g (h.val + 1) := by
  funext j
  unfold putQ mixQ
  by_cases hj : hd (cl j) = h
  · rw [if_pos hj, if_pos (by rw [hj]; exact Nat.lt_succ_self _), hw j hj]
  · rw [if_neg hj]
    have : (hd (cl j)).val ≠ h.val := fun e => hj (Fin.ext e)
    by_cases hl : (hd (cl j)).val < h.val
    · rw [if_pos hl, if_pos (by omega)]
    · rw [if_neg hl, if_neg (by omega)]
/-- Storing a head's new denominators does one head more. -/
theorem putL_mix {T : Type} (f g : S1024x8.Idx → T) (h : Fin 8) (w : S1024x1.Idx → T) (hw : ∀ j : S1024x8.Idx, cl8 j = h → w (ix2 (j 0) 0) = g j) :
    putL (mixL f g h.val) h w = mixL f g (h.val + 1) := by
  funext j
  unfold putL mixL
  by_cases hj : cl8 j = h
  · rw [if_pos hj, if_pos (by rw [hj]; exact Nat.lt_succ_self _), hw j hj]
  · rw [if_neg hj]
    have : (cl8 j).val ≠ h.val := fun e => hj (Fin.ext e)
    by_cases hl : (cl8 j).val < h.val
    · rw [if_pos hl, if_pos (by omega)]
    · rw [if_neg hl, if_neg (by omega)]

/-! ## Running the pieces -/

/-- The kernel's own buffers, whole: queries, denominators, mask. -/
abbrev qPts (c : Dev nD) (f : S1024x1024.Idx → F .bf16) : sProp 𝕄 := (Memref.whole cc0_scratch7).view.loc (c : Thread nD τ) ↦{fullShare} f
abbrev lPts (c : Dev nD) (f : S1024x8.Idx → F .f32) : sProp 𝕄 := (Memref.whole cc0_scratch10).view.loc (c : Thread nD τ) ↦{fullShare} f
abbrev bPts (c : Dev nD) (f : S1024x512.Idx → F .f32) : sProp 𝕄 := (Memref.whole cc0_scratch9).view.loc (c : Thread nD τ) ↦{fullShare} f

variable {α : Type}
abbrev WPa (c : Dev nD) (p : Pg F α) (Q : α → sProp 𝕄) : sProp 𝕄 :=
  wp frame (wpE (defs₀ (F := F)) 𝒱₀ (c : Thread nD τ) none) Set.univ p Q

/-- A load: the program goes on with what is read. -/
theorem wp_ld {sp : CoreSpace} {sh : Shape} {e : EltTy} (c : Dev nD) (m : Memref sig .tc sp sh e) (r : Rect sh) (hl : m.view.LoadsAt r.toLoadRect)
    (S : Finset (Idx ((m.access r).loc (c : Thread nD τ)))) (q : PosShare TreeShare) (f : Buf (Elt F) ((m.access r).loc (c : Thread nD τ)))
    (hS : (m.access r).set ⊆ S) (w : r.shape.Idx → Elt F e) (hw : (m.access r).read (Elt F) f = w) (Q : (r.shape.Idx → Elt F e) → sProp 𝕄) :
    ((m.access r).loc (c : Thread nD τ) ↦[S]{q} f : sProp 𝕄)
      ⊢ iprop((((m.access r).loc (c : Thread nD τ) ↦[S]{q} f) -∗ Q w) -∗ WPa c (Prog.lift (.load m r.toLoadRect hl)) Q) := by
  subst hw
  iintro H HQ
  iapply (wp_load_rect 𝒱₀ (c : Thread nD τ) none Set.univ hS) $$ H
  iintro H
  rw [wp_ret]
  imodintro
  iapply HQ; iexact H

/-- A load from the communication buffer. -/
theorem wp_ldS (c : Dev nD) (r : Rect S4x512x2048) (hl : cm.view.LoadsAt r.toLoadRect) (S : Finset S4x512x2048.Idx) (q : PosShare TreeShare)
    (f : S4x512x2048.Idx → F .bf16) (hS : (cm.access r).set ⊆ S) (w : r.shape.Idx → F .bf16) (hw : (cm.access r).read (Elt F) f = w)
    (Q : (r.shape.Idx → F .bf16) → sProp 𝕄) :
    (sl c S q f : sProp 𝕄) ⊢ iprop((sl c S q f -∗ Q w) -∗ WPa c (Prog.lift (.load cm r.toLoadRect hl)) Q) :=
  wp_ld c cm r hl S q f hS w hw Q

/-- A store over a rectangle of a buffer held whole. -/
theorem wp_st {sp : CoreSpace} {sh : Shape} {e : EltTy} (c : Dev nD) (m : Memref sig .tc sp sh e) (r : Rect sh) (w : r.shape.Idx → Elt F e) (hx) (hm)
    (f g : Buf (Elt F) ((m.access r).loc (c : Thread nD τ))) (hg : (m.access r).write (Elt F) f w Finset.univ = g) (Q : PUnit → sProp 𝕄) :
    ((m.access r).loc (c : Thread nD τ) ↦{fullShare} f : sProp 𝕄)
      ⊢ iprop((((m.access r).loc (c : Thread nD τ) ↦{fullShare} g) -∗ Q ⟨⟩) -∗ WP c (Prog.lift (.store m r w Finset.univ hx hm)) Q) := by
  subst hg
  iintro H HQ
  iapply (wp_store 𝒱₀ (c : Thread nD τ) none Set.univ (Finset.subset_univ _)) $$ H
  iintro H
  rw [wp_ret]
  imodintro
  iapply HQ; iexact H

section Run
variable (c : Dev nD) (KB VB : S1024x1024.Idx → F .bf16) (hf : Fin 2) (Qc : S1024x1024.Idx → F .bf16)

/-- One head of a fold over 512 rows. -/
theorem wp_head512 (s : ℕ) (hs : s < 4) (h : Fin 8) (q : PosShare TreeShare) (B : S1024x512.Idx → F .f32) (b : S1024x512.Idx → F .f32)
    (hB : ((Memref.whole cc0_scratch9).access rB512).read (Elt F) B = b)
    (A : S1024x1024.Idx → F .f32) (Lc : S1024x8.Idx → F .f32) (Q : PUnit → sProp 𝕄) :
    iprop(qPts c Qc ∗ sl c (box s 0 512) q (kv KB VB hf) ∗ bPts c B ∗ aPts c (mixQ A (stA Qc (kv KB VB hf) b A) h.val)
        ∗ lPts c (mixL Lc (stL Qc (kv KB VB hf) b Lc) h.val))
      ⊢ iprop((qPts c Qc ∗ sl c (box s 0 512) q (kv KB VB hf) ∗ bPts c B ∗ aPts c (mixQ A (stA Qc (kv KB VB hf) b A) (h.val + 1))
        ∗ lPts c (mixL Lc (stL Qc (kv KB VB hf) b Lc) (h.val + 1)) -∗ Q ⟨⟩)
        -∗ WP c (head512 cm (Memref.whole cc0_scratch7) (Memref.whole cc0_scratch8) (Memref.whole cc0_scratch9) (Memref.whole cc0_scratch10) s h.val hs h.isLt) Q) := by
  have h0 : 128 * h.val + 128 ≤ 2048 := by have := h.isLt; omega
  have h1 : 1024 + 128 * h.val + 128 ≤ 2048 := by have := h.isLt; omega
  unfold head512
  simp only [wp_bind]
  iintro ⟨Hq, Hs, Hb, Ha, Hl⟩ HQ
  iapply (wp_ld c (Memref.whole cc0_scratch7) (rQ h.val h.isLt) _ Finset.univ fullShare Qc (Finset.subset_univ _) _ (rdQ_eq h Qc)) $$ Hq
  iintro Hq
  iapply (wp_ldS c (rK512 s (128 * h.val) hs h0) _ (box s 0 512) q (kv KB VB hf) (rK512_sub _ _ _ _) (rdK (kv KB VB hf) 0 (by omega) h)
    (rdK0_eq KB VB hf s hs h h0)) $$ Hs
  iintro Hs
  iapply (wp_ldS c (rK512 s (1024 + 128 * h.val) hs h1) _ (box s 0 512) q (kv KB VB hf) (rK512_sub _ _ _ _) _
    (rdK_eq KB VB hf s 1024 hs (Nat.le_refl _) h h1)) $$ Hs
  iintro Hs
  iapply (wp_ld c (Memref.whole cc0_scratch9) rB512 _ Finset.univ fullShare B (Finset.subset_univ _) b hB) $$ Hb
  iintro Hb
  iapply (wp_ld c (Memref.whole cc0_scratch10) (rL h.val h.isLt) _ Finset.univ fullShare _ (Finset.subset_univ _) _ ((rdL_eq h _).trans (rdL_mix _ _ h))) $$ Hl
  iintro Hl
  iapply (wp_ld c (Memref.whole cc0_scratch10) (rL h.val h.isLt) _ Finset.univ fullShare _ (Finset.subset_univ _) _ ((rdL_eq h _).trans (rdL_mix _ _ h))) $$ Hl
  iintro Hl
  iapply (wp_st c (Memref.whole cc0_scratch10) (rL h.val h.isLt) _ _ _ _ (mixL Lc (stL Qc (kv KB VB hf) b Lc) (h.val + 1))
    ((wrL h _ _).trans (putL_mix _ _ h _ fun j hj => by subst hj; rfl))) $$ Hl
  iintro Hl
  iapply (wp_ld c (Memref.whole cc0_scratch8) (rQ h.val h.isLt) _ Finset.univ fullShare _ (Finset.subset_univ _) _ ((rdA_eq h _).trans (rdQ_mix _ _ h))) $$ Ha
  iintro Ha
  iapply (wp_ld c (Memref.whole cc0_scratch8) (rQ h.val h.isLt) _ Finset.univ fullShare _ (Finset.subset_univ _) _ ((rdA_eq h _).trans (rdQ_mix _ _ h))) $$ Ha
  iintro Ha
  iapply (wp_st c (Memref.whole cc0_scratch8) (rQ h.val h.isLt) _ _ _ _ (mixQ A (stA Qc (kv KB VB hf) b A) (h.val + 1))
    ((wrA h _ _).trans (putQ_mix _ _ h _ fun j hj => by subst hj; rfl))) $$ Ha
  iintro Ha
  iapply HQ
  iframe Hq Hs Hb Ha Hl

/-- One head of a fold over 256 rows. -/
theorem wp_head256 (s r : ℕ) (hs : s < 4) (hr : r ≤ 256) (h : Fin 8) (q : PosShare TreeShare) (B : S1024x512.Idx → F .f32) (b : S1024x256.Idx → F .f32)
    (hB : ((Memref.whole cc0_scratch9).access rB256).read (Elt F) B = b)
    (A : S1024x1024.Idx → F .f32) (Lc : S1024x8.Idx → F .f32) (Q : PUnit → sProp 𝕄) :
    iprop(qPts c Qc ∗ sl c (box s r 256) q (kv KB VB hf) ∗ bPts c B ∗ aPts c (mixQ A (stA' Qc (kv KB VB hf) r hr b A) h.val)
        ∗ lPts c (mixL Lc (stL' Qc (kv KB VB hf) r hr b Lc) h.val))
      ⊢ iprop((qPts c Qc ∗ sl c (box s r 256) q (kv KB VB hf) ∗ bPts c B ∗ aPts c (mixQ A (stA' Qc (kv KB VB hf) r hr b A) (h.val + 1))
        ∗ lPts c (mixL Lc (stL' Qc (kv KB VB hf) r hr b Lc) (h.val + 1)) -∗ Q ⟨⟩)
        -∗ WP c (head256 cm (Memref.whole cc0_scratch7) (Memref.whole cc0_scratch8) (Memref.whole cc0_scratch9) (Memref.whole cc0_scratch10) s r h.val hs hr h.isLt) Q) := by
  have h0 : 128 * h.val + 128 ≤ 2048 := by have := h.isLt; omega
  have h1 : 1024 + 128 * h.val + 128 ≤ 2048 := by have := h.isLt; omega
  unfold head256
  simp only [wp_bind]
  iintro ⟨Hq, Hs, Hb, Ha, Hl⟩ HQ
  iapply (wp_ld c (Memref.whole cc0_scratch7) (rQ h.val h.isLt) _ Finset.univ fullShare Qc (Finset.subset_univ _) _ (rdQ_eq h Qc)) $$ Hq
  iintro Hq
  iapply (wp_ldS c (rK256 s r (128 * h.val) hs hr h0) _ (box s r 256) q (kv KB VB hf) (rK256_sub _ _ _ _ _ _) (rdK' (kv KB VB hf) r hr 0 (by omega) h)
    (rdK0'_eq KB VB hf s r hs hr h h0)) $$ Hs
  iintro Hs
  iapply (wp_ldS c (rK256 s r (1024 + 128 * h.val) hs hr h1) _ (box s r 256) q (kv KB VB hf) (rK256_sub _ _ _ _ _ _) _
    (rdK'_eq KB VB hf s r 1024 hs hr (Nat.le_refl _) h h1)) $$ Hs
  iintro Hs
  iapply (wp_ld c (Memref.whole cc0_scratch9) rB256 _ Finset.univ fullShare B (Finset.subset_univ _) b hB) $$ Hb
  iintro Hb
  iapply (wp_ld c (Memref.whole cc0_scratch10) (rL h.val h.isLt) _ Finset.univ fullShare _ (Finset.subset_univ _) _ ((rdL_eq h _).trans (rdL_mix _ _ h))) $$ Hl
  iintro Hl
  iapply (wp_ld c (Memref.whole cc0_scratch10) (rL h.val h.isLt) _ Finset.univ fullShare _ (Finset.subset_univ _) _ ((rdL_eq h _).trans (rdL_mix _ _ h))) $$ Hl
  iintro Hl
  iapply (wp_st c (Memref.whole cc0_scratch10) (rL h.val h.isLt) _ _ _ _ (mixL Lc (stL' Qc (kv KB VB hf) r hr b Lc) (h.val + 1))
    ((wrL h _ _).trans (putL_mix _ _ h _ fun j hj => by subst hj; rfl))) $$ Hl
  iintro Hl
  iapply (wp_ld c (Memref.whole cc0_scratch8) (rQ h.val h.isLt) _ Finset.univ fullShare _ (Finset.subset_univ _) _ ((rdA_eq h _).trans (rdQ_mix _ _ h))) $$ Ha
  iintro Ha
  iapply (wp_ld c (Memref.whole cc0_scratch8) (rQ h.val h.isLt) _ Finset.univ fullShare _ (Finset.subset_univ _) _ ((rdA_eq h _).trans (rdQ_mix _ _ h))) $$ Ha
  iintro Ha
  iapply (wp_st c (Memref.whole cc0_scratch8) (rQ h.val h.isLt) _ _ _ _ (mixQ A (stA' Qc (kv KB VB hf) r hr b A) (h.val + 1))
    ((wrA h _ _).trans (putQ_mix _ _ h _ fun j hj => by subst hj; rfl))) $$ Ha
  iintro Ha
  iapply HQ
  iframe Hq Hs Hb Ha Hl

end Run

end Cert.KernelIdeal.Talk

end
-- ==== Proof.Pieces.lean ====
/- The folds, the start and the epilogue run as wholes. -/
module

public import proofs.«01_k».proof.Proof.Fold

@[expose] public section

set_option maxRecDepth 65536

noncomputable section

namespace Cert.KernelIdeal.Talk

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.KernelIdeal.Str Cert.KernelIdeal.Slots

variable {F : FTy → Type} [FloatOps F] [Named F]

local notation "𝕄" => MT nD τ sig ℕ (Elt F) ℕ UU ℕ

/-- The mask buffer at contents not named. -/
abbrev bAny (c : Dev nD) : sProp 𝕄 := iprop(∃ B : S1024x512.Idx → F .f32, bPts c B)

section Run
variable (c : Dev nD) (KB VB : S1024x1024.Idx → F .bf16) (hf : Fin 2) (Qc : S1024x1024.Idx → F .bf16)

/-- A fold over the 512 rows of a slot. -/
theorem wp_fold512 (s : ℕ) (hs : s < 4) (my org off : BitVec 32) (q : PosShare TreeShare)
    (A : S1024x1024.Idx → F .f32) (Lc : S1024x8.Idx → F .f32) (Q : PUnit → sProp 𝕄) :
    iprop(qPts c Qc ∗ sl c (box s 0 512) q (kv KB VB hf) ∗ bAny c ∗ aPts c A ∗ lPts c Lc)
      ⊢ iprop((qPts c Qc ∗ sl c (box s 0 512) q (kv KB VB hf) ∗ bAny c ∗ aPts c (stA Qc (kv KB VB hf) (bias512 my org off) A)
          ∗ lPts c (stL Qc (kv KB VB hf) (bias512 my org off) Lc) -∗ Q ⟨⟩)
        -∗ WP c (fold512 cm (Memref.whole cc0_scratch7) (Memref.whole cc0_scratch8) (Memref.whole cc0_scratch9) (Memref.whole cc0_scratch10) s hs my org off) Q) := by
  unfold fold512
  simp only [wp_bind]
  iintro ⟨Hq, Hs, ⟨%B, Hb⟩, Ha, Hl⟩ HQ
  iapply (wp_ld c (Memref.whole cc0_scratch9) rB512 _ Finset.univ fullShare B (Finset.subset_univ _) _ rfl) $$ Hb
  iintro Hb
  iapply (wp_st c (Memref.whole cc0_scratch9) rB512 _ _ _ _ _ rfl) $$ Hb
  iintro Hb
  ihave Ha := (Entails.of_eq (congrArg (aPts c) (mixQ_zero A (stA Qc (kv KB VB hf) (bias512 my org off) A)).symm)) $$ Ha
  ihave Hl := (Entails.of_eq (congrArg (lPts c) (mixL_zero Lc (stL Qc (kv KB VB hf) (bias512 my org off) Lc)).symm)) $$ Hl
  have hB := View.read_write_univ (v := (Memref.whole cc0_scratch9).access rB512) (Val := Elt F) B (bias512 my org off)
  iapply (wp_head512 c KB VB hf Qc s hs ⟨0, by omega⟩ q _ _ hB A Lc) $$ [Hq Hs Hb Ha Hl]
  · iframe Hq Hs Hb Ha Hl
  iintro ⟨Hq, Hs, Hb, Ha, Hl⟩
  iapply (wp_head512 c KB VB hf Qc s hs ⟨1, by omega⟩ q _ _ hB A Lc) $$ [Hq Hs Hb Ha Hl]
  · iframe Hq Hs Hb Ha Hl
  iintro ⟨Hq, Hs, Hb, Ha, Hl⟩
  iapply (wp_head512 c KB VB hf Qc s hs ⟨2, by omega⟩ q _ _ hB A Lc) $$ [Hq Hs Hb Ha Hl]
  · iframe Hq Hs Hb Ha Hl
  iintro ⟨Hq, Hs, Hb, Ha, Hl⟩
  iapply (wp_head512 c KB VB hf Qc s hs ⟨3, by omega⟩ q _ _ hB A Lc) $$ [Hq Hs Hb Ha Hl]
  · iframe Hq Hs Hb Ha Hl
  iintro ⟨Hq, Hs, Hb, Ha, Hl⟩
  iapply (wp_head512 c KB VB hf Qc s hs ⟨4, by omega⟩ q _ _ hB A Lc) $$ [Hq Hs Hb Ha Hl]
  · iframe Hq Hs Hb Ha Hl
  iintro ⟨Hq, Hs, Hb, Ha, Hl⟩
  iapply (wp_head512 c KB VB hf Qc s hs ⟨5, by omega⟩ q _ _ hB A Lc) $$ [Hq Hs Hb Ha Hl]
  · iframe Hq Hs Hb Ha Hl
  iintro ⟨Hq, Hs, Hb, Ha, Hl⟩
  iapply (wp_head512 c KB VB hf Qc s hs ⟨6, by omega⟩ q _ _ hB A Lc) $$ [Hq Hs Hb Ha Hl]
  · iframe Hq Hs Hb Ha Hl
  iintro ⟨Hq, Hs, Hb, Ha, Hl⟩
  iapply (wp_head512 c KB VB hf Qc s hs ⟨7, by omega⟩ q _ _ hB A Lc) $$ [Hq Hs Hb Ha Hl]
  · iframe Hq Hs Hb Ha Hl
  iintro ⟨Hq, Hs, Hb, Ha, Hl⟩
  ihave Ha := (Entails.of_eq (congrArg (aPts c) (mixQ_eight A (stA Qc (kv KB VB hf) (bias512 my org off) A)))) $$ Ha
  ihave Hl := (Entails.of_eq (congrArg (lPts c) (mixL_eight Lc (stL Qc (kv KB VB hf) (bias512 my org off) Lc)))) $$ Hl
  iapply HQ
  iframe Hq Hs Ha Hl
  iexists _; iexact Hb

/-- A fold over 256 rows of a slot. -/
theorem wp_fold256 (s r : ℕ) (hs : s < 4) (hr : r ≤ 256) (my org off : BitVec 32) (q : PosShare TreeShare)
    (A : S1024x1024.Idx → F .f32) (Lc : S1024x8.Idx → F .f32) (Q : PUnit → sProp 𝕄) :
    iprop(qPts c Qc ∗ sl c (box s r 256) q (kv KB VB hf) ∗ bAny c ∗ aPts c A ∗ lPts c Lc)
      ⊢ iprop((qPts c Qc ∗ sl c (box s r 256) q (kv KB VB hf) ∗ bAny c ∗ aPts c (stA' Qc (kv KB VB hf) r hr (bias256 my org off) A)
          ∗ lPts c (stL' Qc (kv KB VB hf) r hr (bias256 my org off) Lc) -∗ Q ⟨⟩)
        -∗ WP c (fold256 cm (Memref.whole cc0_scratch7) (Memref.whole cc0_scratch8) (Memref.whole cc0_scratch9) (Memref.whole cc0_scratch10) s r hs hr my org off) Q) := by
  unfold fold256
  simp only [wp_bind]
  iintro ⟨Hq, Hs, ⟨%B, Hb⟩, Ha, Hl⟩ HQ
  iapply (wp_ld c (Memref.whole cc0_scratch9) rB256 _ Finset.univ fullShare B (Finset.subset_univ _) _ rfl) $$ Hb
  iintro Hb
  iapply (wp_st c (Memref.whole cc0_scratch9) rB256 _ _ _ _ _ rfl) $$ Hb
  iintro Hb
  ihave Ha := (Entails.of_eq (congrArg (aPts c) (mixQ_zero A (stA' Qc (kv KB VB hf) r hr (bias256 my org off) A)).symm)) $$ Ha
  ihave Hl := (Entails.of_eq (congrArg (lPts c) (mixL_zero Lc (stL' Qc (kv KB VB hf) r hr (bias256 my org off) Lc)).symm)) $$ Hl
  have hB := View.read_write_univ (v := (Memref.whole cc0_scratch9).access rB256) (Val := Elt F) B (bias256 my org off)
  iapply (wp_head256 c KB VB hf Qc s r hs hr ⟨0, by omega⟩ q _ _ hB A Lc) $$ [Hq Hs Hb Ha Hl]
  · iframe Hq Hs Hb Ha Hl
  iintro ⟨Hq, Hs, Hb, Ha, Hl⟩
  iapply (wp_head256 c KB VB hf Qc s r hs hr ⟨1, by omega⟩ q _ _ hB A Lc) $$ [Hq Hs Hb Ha Hl]
  · iframe Hq Hs Hb Ha Hl
  iintro ⟨Hq, Hs, Hb, Ha, Hl⟩
  iapply (wp_head256 c KB VB hf Qc s r hs hr ⟨2, by omega⟩ q _ _ hB A Lc) $$ [Hq Hs Hb Ha Hl]
  · iframe Hq Hs Hb Ha Hl
  iintro ⟨Hq, Hs, Hb, Ha, Hl⟩
  iapply (wp_head256 c KB VB hf Qc s r hs hr ⟨3, by omega⟩ q _ _ hB A Lc) $$ [Hq Hs Hb Ha Hl]
  · iframe Hq Hs Hb Ha Hl
  iintro ⟨Hq, Hs, Hb, Ha, Hl⟩
  iapply (wp_head256 c KB VB hf Qc s r hs hr ⟨4, by omega⟩ q _ _ hB A Lc) $$ [Hq Hs Hb Ha Hl]
  · iframe Hq Hs Hb Ha Hl
  iintro ⟨Hq, Hs, Hb, Ha, Hl⟩
  iapply (wp_head256 c KB VB hf Qc s r hs hr ⟨5, by omega⟩ q _ _ hB A Lc) $$ [Hq Hs Hb Ha Hl]
  · iframe Hq Hs Hb Ha Hl
  iintro ⟨Hq, Hs, Hb, Ha, Hl⟩
  iapply (wp_head256 c KB VB hf Qc s r hs hr ⟨6, by omega⟩ q _ _ hB A Lc) $$ [Hq Hs Hb Ha Hl]
  · iframe Hq Hs Hb Ha Hl
  iintro ⟨Hq, Hs, Hb, Ha, Hl⟩
  iapply (wp_head256 c KB VB hf Qc s r hs hr ⟨7, by omega⟩ q _ _ hB A Lc) $$ [Hq Hs Hb Ha Hl]
  · iframe Hq Hs Hb Ha Hl
  iintro ⟨Hq, Hs, Hb, Ha, Hl⟩
  ihave Ha := (Entails.of_eq (congrArg (aPts c) (mixQ_eight A (stA' Qc (kv KB VB hf) r hr (bias256 my org off) A)))) $$ Ha
  ihave Hl := (Entails.of_eq (congrArg (lPts c) (mixL_eight Lc (stL' Qc (kv KB VB hf) r hr (bias256 my org off) Lc)))) $$ Hl
  iapply HQ
  iframe Hq Hs Ha Hl
  iexists _; iexact Hb

/-- The staged operands: activations, query weights, output weights. -/
abbrev xPts (c : Dev nD) (f : S1024x1024.Idx → F .bf16) : sProp 𝕄 := (Memref.whole cc0_stg0_0).view.loc (c : Thread nD τ) ↦{fullShare} f
abbrev wPts (c : Dev nD) (f : S1024x1024.Idx → F .bf16) : sProp 𝕄 := (Memref.whole cc0_stg1_0).view.loc (c : Thread nD τ) ↦{fullShare} f
abbrev uPts (c : Dev nD) (f : S1024x1024.Idx → F .bf16) : sProp 𝕄 := (Memref.whole cc0_stg2_0).view.loc (c : Thread nD τ) ↦{fullShare} f

/-- The start. -/
theorem wp_ini (h13 : (Memref.whole cc0_scratch7).IsWhole) (X W q0 : S1024x1024.Idx → F .bf16) (A : S1024x1024.Idx → F .f32) (Lc : S1024x8.Idx → F .f32)
    (Q : PUnit → sProp 𝕄) :
    iprop(xPts c X ∗ wPts c W ∗ qPts c q0 ∗ aPts c A ∗ lPts c Lc)
      ⊢ iprop((xPts c X ∗ wPts c W ∗ qPts c (qUp X W) ∗ aPts c z1024 ∗ lPts c z8 -∗ Q ⟨⟩)
        -∗ WP c (ini (Memref.whole cc0_scratch7) (Memref.whole cc0_scratch8) (Memref.whole cc0_scratch10) h13 (Memref.whole cc0_stg0_0) (Memref.whole cc0_stg1_0)) Q) := by
  unfold ini
  simp only [wp_bind]
  iintro ⟨Hx, Hw, Hq, Ha, Hl⟩ HQ
  iapply (wp_ld c (Memref.whole cc0_stg0_0) rF _ Finset.univ fullShare X (Finset.subset_univ _) _ (rdF0_eq X)) $$ Hx
  iintro Hx
  iapply (wp_ld c (Memref.whole cc0_stg1_0) rF _ Finset.univ fullShare W (Finset.subset_univ _) _ (rdF1_eq W)) $$ Hw
  iintro Hw
  iapply (wp_ld c (Memref.whole cc0_scratch7) rF _ Finset.univ fullShare q0 (Finset.subset_univ _) _ rfl) $$ Hq
  iintro Hq
  iapply (wp_st c (Memref.whole cc0_scratch7) rF _ _ _ _ _ (wrFq _ _)) $$ Hq
  iintro Hq
  iapply (wp_ld c (Memref.whole cc0_scratch10) rF8 _ Finset.univ fullShare Lc (Finset.subset_univ _) _ rfl) $$ Hl
  iintro Hl
  iapply (wp_st c (Memref.whole cc0_scratch10) rF8 _ _ _ _ _ (wrF8 _ _)) $$ Hl
  iintro Hl
  iapply (wp_ld c (Memref.whole cc0_scratch8) rF _ Finset.univ fullShare A (Finset.subset_univ _) _ rfl) $$ Ha
  iintro Ha
  iapply (wp_st c (Memref.whole cc0_scratch8) rF _ _ _ _ _ (wrF _ _)) $$ Ha
  iintro Ha
  iapply HQ
  iframe Hx Hw Hq Ha Hl

/-- One head of the epilogue. -/
theorem wp_epi1 (h13 : (Memref.whole cc0_scratch7).IsWhole) (h : Fin 8) (hp) (A : S1024x1024.Idx → F .f32) (Lc : S1024x8.Idx → F .f32)
    (Q : PUnit → sProp 𝕄) :
    iprop(aPts c A ∗ lPts c Lc ∗ qPts c (mixQ Qc (nrm A Lc) h.val))
      ⊢ iprop((aPts c A ∗ lPts c Lc ∗ qPts c (mixQ Qc (nrm A Lc) (h.val + 1)) -∗ Q ⟨⟩)
        -∗ WP c (epi1 (Memref.whole cc0_scratch7) (Memref.whole cc0_scratch8) (Memref.whole cc0_scratch10) h13 h.val h.isLt hp) Q) := by
  unfold epi1
  simp only [wp_bind]
  iintro ⟨Ha, Hl, Hq⟩ HQ
  iapply (wp_ld c (Memref.whole cc0_scratch8) (rQ h.val h.isLt) _ Finset.univ fullShare _ (Finset.subset_univ _) _ (rdA_eq h _)) $$ Ha
  iintro Ha
  iapply (wp_ld c (Memref.whole cc0_scratch10) (rL h.val h.isLt) _ Finset.univ fullShare _ (Finset.subset_univ _) _ (rdL_eq h _)) $$ Hl
  iintro Hl
  iapply (wp_ld c (Memref.whole cc0_scratch7) (rQ h.val h.isLt) _ Finset.univ fullShare _ (Finset.subset_univ _) _ rfl) $$ Hq
  iintro Hq
  iapply (wp_st c (Memref.whole cc0_scratch7) (rQ h.val h.isLt) _ _ _ _ (mixQ Qc (nrm A Lc) (h.val + 1))
    ((wrQ h _ _).trans (putQ_mix _ _ h _ fun j hj => by subst hj; rfl))) $$ Hq
  iintro Hq
  iapply HQ
  iframe Ha Hl Hq

/-- The epilogue. -/
theorem wp_epi (h13 : (Memref.whole cc0_scratch7).IsWhole) (A : S1024x1024.Idx → F .f32) (Lc : S1024x8.Idx → F .f32) (Wo : S1024x1024.Idx → F .bf16)
    (Q : PUnit → sProp 𝕄) :
    iprop(aPts c A ∗ lPts c Lc ∗ qPts c Qc ∗ uPts c Wo)
      ⊢ iprop((aPts c (oUp (nrm A Lc) Wo) ∗ lPts c Lc ∗ qPts c (nrm A Lc) ∗ uPts c Wo -∗ Q ⟨⟩)
        -∗ WP c (epi (Memref.whole cc0_scratch7) (Memref.whole cc0_scratch8) (Memref.whole cc0_scratch10) h13 (Memref.whole cc0_stg2_0)) Q) := by
  unfold epi
  simp only [wp_bind]
  iintro ⟨Ha, Hl, Hq, Hu⟩ HQ
  ihave Hq := (Entails.of_eq (congrArg (qPts c) (mixQ_zero Qc (nrm A Lc)).symm)) $$ Hq
  iapply (wp_epi1 c Qc h13 ⟨0, by omega⟩ _ A Lc) $$ [Ha Hl Hq]
  · iframe Ha Hl Hq
  iintro ⟨Ha, Hl, Hq⟩
  iapply (wp_epi1 c Qc h13 ⟨1, by omega⟩ _ A Lc) $$ [Ha Hl Hq]
  · iframe Ha Hl Hq
  iintro ⟨Ha, Hl, Hq⟩
  iapply (wp_epi1 c Qc h13 ⟨2, by omega⟩ _ A Lc) $$ [Ha Hl Hq]
  · iframe Ha Hl Hq
  iintro ⟨Ha, Hl, Hq⟩
  iapply (wp_epi1 c Qc h13 ⟨3, by omega⟩ _ A Lc) $$ [Ha Hl Hq]
  · iframe Ha Hl Hq
  iintro ⟨Ha, Hl, Hq⟩
  iapply (wp_epi1 c Qc h13 ⟨4, by omega⟩ _ A Lc) $$ [Ha Hl Hq]
  · iframe Ha Hl Hq
  iintro ⟨Ha, Hl, Hq⟩
  iapply (wp_epi1 c Qc h13 ⟨5, by omega⟩ _ A Lc) $$ [Ha Hl Hq]
  · iframe Ha Hl Hq
  iintro ⟨Ha, Hl, Hq⟩
  iapply (wp_epi1 c Qc h13 ⟨6, by omega⟩ _ A Lc) $$ [Ha Hl Hq]
  · iframe Ha Hl Hq
  iintro ⟨Ha, Hl, Hq⟩
  iapply (wp_epi1 c Qc h13 ⟨7, by omega⟩ _ A Lc) $$ [Ha Hl Hq]
  · iframe Ha Hl Hq
  iintro ⟨Ha, Hl, Hq⟩
  ihave Hq := (Entails.of_eq (congrArg (qPts c) (mixQ_eight Qc (nrm A Lc)))) $$ Hq
  iapply (wp_ld c (Memref.whole cc0_scratch7) rF _ Finset.univ fullShare _ (Finset.subset_univ _) _ (rdFq_eq _)) $$ Hq
  iintro Hq
  iapply (wp_ld c (Memref.whole cc0_stg2_0) rF _ Finset.univ fullShare Wo (Finset.subset_univ _) _ (rdF2_eq Wo)) $$ Hu
  iintro Hu
  iapply (wp_ld c (Memref.whole cc0_scratch8) rF _ Finset.univ fullShare A (Finset.subset_univ _) _ rfl) $$ Ha
  iintro Ha
  iapply (wp_st c (Memref.whole cc0_scratch8) rF _ _ _ _ _ (wrF _ _)) $$ Ha
  iintro Ha
  iapply HQ
  iframe Ha Hl Hq Hu

end Run

end Cert.KernelIdeal.Talk

end
-- ==== Proof.Run0.lean ====
/- Splitting and joining the communication buffer, the local copies, and the first phase of the body. -/
module

public import proofs.«01_k».proof.Proof.Pieces

@[expose] public section

set_option maxRecDepth 65536

noncomputable section

namespace Cert.KernelIdeal.Talk

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.KernelIdeal.Str Cert.KernelIdeal.Slots

variable {F : FTy → Type} [FloatOps F]

local notation "𝕄" => MT nD τ sig ℕ (Elt F) ℕ UU ℕ

/-! ## Splitting and joining -/

section Split
variable (c : Dev nD) (q : PosShare TreeShare) (f g : S4x512x2048.Idx → F .bf16)

/-- A region's share is two halves. -/
theorem sl_halve (S : Finset S4x512x2048.Idx) :
    (sl c S fullShare f : sProp 𝕄) ⊢ iprop(sl c S fullShare.left f ∗ sl c S fullShare.right f) :=
  (pointsTo_share (PosShare.mem_left_op_right fullShare)).1
/-- Two halves are the whole share. -/
theorem sl_whole (S : Finset S4x512x2048.Idx) :
    iprop(sl c S fullShare.left f ∗ sl c S fullShare.right f) ⊢ (sl c S fullShare f : sProp 𝕄) :=
  (pointsTo_share (PosShare.mem_left_op_right fullShare)).2
/-- A slot's rows cut in two. -/
theorem sl_rows (s : ℕ) : (sl c (box s 0 512) q f : sProp 𝕄) ⊢ iprop(sl c (box s 0 256) q f ∗ sl c (box s 256 256) q f) := by
  rw [box_split]; exact (pointsTo_union (box_disj s)).1
/-- The two halves of the rows put together. -/
theorem sl_rows_join (s : ℕ) : iprop(sl c (box s 0 256) q f ∗ sl c (box s 256 256) q f) ⊢ (sl c (box s 0 512) q f : sProp 𝕄) := by
  rw [box_split]; exact (pointsTo_union (box_disj s)).2
/-- Keys and values of a slot put together. -/
theorem sl_cols_join (s : ℕ) : iprop(sl c (cbox s 0) q f ∗ sl c (cbox s 1024) q f) ⊢ (sl c (box s 0 512) q f : sProp 𝕄) := by
  rw [cbox_split]; exact (pointsTo_union (cbox_disj s)).2
/-- A slot cut into keys and values, contents dropped. -/
theorem sl_cols_any (s : ℕ) : (slAny c (box s 0 512) : sProp 𝕄) ⊢ iprop(slAny c (cbox s 0) ∗ slAny c (cbox s 1024)) := by
  iintro ⟨%f, H⟩
  rw [cbox_split]
  ihave H := (pointsTo_union (cbox_disj s)).1 $$ H
  icases H with ⟨H1, H2⟩
  isplitl [H1]; · iexists f; iexact H1
  iexists f; iexact H2
/-- A slot's rows cut in two, contents dropped. -/
theorem sl_rows_any (s : ℕ) : (slAny c (box s 0 512) : sProp 𝕄) ⊢ iprop(slAny c (box s 0 256) ∗ slAny c (box s 256 256)) := by
  iintro ⟨%f, H⟩
  ihave H := sl_rows c fullShare f s $$ H
  icases H with ⟨H1, H2⟩
  isplitl [H1]; · iexists f; iexact H1
  iexists f; iexact H2
/-- Two regions put together, contents dropped. -/
theorem sl_join_any (S T : Finset S4x512x2048.Idx) (h : Disjoint S T) :
    iprop(slAny c S ∗ slAny c T) ⊢ (slAny c (S ∪ T) : sProp 𝕄) := by
  iintro ⟨⟨%f, H1⟩, ⟨%g, H2⟩⟩
  iexists (T.piecewise g f)
  iapply (pointsTo_join h)
  isplitl [H1] <;> iassumption

/-- The whole buffer as its four slots. -/
theorem sl_all : (slAny c Finset.univ : sProp 𝕄)
    ⊢ iprop(slAny c (box 0 0 512) ∗ slAny c (box 1 0 512) ∗ slAny c (box 2 0 512) ∗ slAny c (box 3 0 512)) := by
  iintro ⟨%f, H⟩
  rw [slots_split]
  ihave H := (pointsTo_union slots_disj).1 $$ H
  icases H with ⟨H1, H2⟩
  ihave H1 := (pointsTo_union (slot_disj (by omega : 0 ≠ 1) 0 512 0 512)).1 $$ H1
  ihave H2 := (pointsTo_union (slot_disj (by omega : 2 ≠ 3) 0 512 0 512)).1 $$ H2
  icases H1 with ⟨Ha, Hb⟩
  icases H2 with ⟨Hc, Hd⟩
  isplitl [Ha]; · iexists f; iexact Ha
  isplitl [Hb]; · iexists f; iexact Hb
  isplitl [Hc]; · iexists f; iexact Hc
  iexists f; iexact Hd
/-- The four slots put together. -/
theorem sl_all_join : iprop(slAny c (box 0 0 512) ∗ slAny c (box 1 0 512) ∗ slAny c (box 2 0 512) ∗ slAny c (box 3 0 512))
    ⊢ (slAny c Finset.univ : sProp 𝕄) := by
  iintro ⟨Ha, Hb, Hc, Hd⟩
  rw [slots_split]
  iapply (sl_join_any c _ _ slots_disj)
  isplitl [Ha Hb]
  · iapply (sl_join_any c _ _ (slot_disj (by omega : 0 ≠ 1) 0 512 0 512)); isplitl [Ha] <;> iassumption
  · iapply (sl_join_any c _ _ (slot_disj (by omega : 2 ≠ 3) 0 512 0 512)); isplitl [Hc] <;> iassumption
/-- The halves of the rows put together, contents dropped. -/
theorem sl_rows_join_any (s : ℕ) : iprop(slAny c (box s 0 256) ∗ slAny c (box s 256 256)) ⊢ (slAny c (box s 0 512) : sProp 𝕄) := by
  rw [box_split]; exact sl_join_any c _ _ (box_disj s)
end Split

/-- The rows are two halves. -/
theorem rws_split : (Finset.univ : Finset S1024x1024.Idx) = rws 0 inb_S1024x1024_S512x1024_0_0 ∪ rws 512 inb_S1024x1024_S512x1024_512_0 := by
  ext i
  have h0 : (i 0).val < 1024 := (i 0).isLt
  have h1 : (i 1).val < 1024 := (i 1).isLt
  simp only [Finset.mem_univ, Finset.mem_union, Rect.mem_set_unit, true_iff]
  by_cases h : (i 0).val < 512
  · left; intro a; fin_cases a
    · exact ⟨Nat.zero_le _, by show (i 0).val < 0 + 512; omega⟩
    · exact ⟨Nat.zero_le _, by show (i 1).val < 0 + 1024; omega⟩
  · right; intro a; fin_cases a
    · exact ⟨by show 512 ≤ (i 0).val; omega, by show (i 0).val < 512 + 512; omega⟩
    · exact ⟨Nat.zero_le _, by show (i 1).val < 0 + 1024; omega⟩
/-- The two halves of the rows are apart. -/
theorem rws_disj : Disjoint (rws 0 inb_S1024x1024_S512x1024_0_0) (rws 512 inb_S1024x1024_S512x1024_512_0) := by
  rw [Finset.disjoint_left]; intro i h h'
  rw [Rect.mem_set_unit] at h h'
  have a := (h 0).2; have b := (h' 0).1
  have a' : (i 0).val < 0 + 512 := a
  have b' : 512 ≤ (i 0).val := b
  omega

variable (D : Cts F) (κ : GSem nD τ sig → ℕ)

/-- The keys cut in two. -/
theorem kPts_split (c : Dev nD) : (kPts D c Finset.univ : sProp 𝕄)
    ⊢ iprop(kPts D c (rws 0 inb_S1024x1024_S512x1024_0_0) ∗ kPts D c (rws 512 inb_S1024x1024_S512x1024_512_0)) := by
  rw [rws_split]; exact (pointsTo_union rws_disj).1
/-- The keys put together. -/
theorem kPts_join (c : Dev nD) : iprop(kPts D c (rws 0 inb_S1024x1024_S512x1024_0_0) ∗ kPts D c (rws 512 inb_S1024x1024_S512x1024_512_0))
    ⊢ (kPts D c Finset.univ : sProp 𝕄) := by
  rw [rws_split]; exact (pointsTo_union rws_disj).2
/-- The values cut in two. -/
theorem vPts_split (c : Dev nD) : (vPts D c Finset.univ : sProp 𝕄)
    ⊢ iprop(vPts D c (rws 0 inb_S1024x1024_S512x1024_0_0) ∗ vPts D c (rws 512 inb_S1024x1024_S512x1024_512_0)) := by
  rw [rws_split]; exact (pointsTo_union rws_disj).1
/-- The values put together. -/
theorem vPts_join (c : Dev nD) : iprop(vPts D c (rws 0 inb_S1024x1024_S512x1024_0_0) ∗ vPts D c (rws 512 inb_S1024x1024_S512x1024_512_0))
    ⊢ (vPts D c Finset.univ : sProp 𝕄) := by
  rw [rws_split]; exact (pointsTo_union rws_disj).2

/-! ## What each payment is -/

section Pay
variable (c : Dev nD)
/-- What a payment on cell 0 hands over. -/
theorem pay_0 : (pay D c 0 0 false : sProp 𝕄) = slAny (rt c) (box 0 0 512) := rfl
/-- What a payment on cell 0 hands over, in its second round. -/
theorem pay_0' : (pay D c 0 1 false : sProp 𝕄) = slAny (rt c) (box 1 0 512) := rfl
/-- What a payment on cell 1 hands over. -/
theorem pay_1 : (pay D c 1 0 false : sProp 𝕄) = slAny (lf c) (box 2 0 512) := rfl
/-- What a payment on cell 1 hands over, in its second round. -/
theorem pay_1' : (pay D c 1 1 false : sProp 𝕄) = slAny (lf c) (box 3 0 512) := rfl
/-- What a payment on cell 2 hands over. -/
theorem pay_2 : (pay D c 2 0 false : sProp 𝕄) = iprop(slAny (rt c) (box 1 0 512) ∗ reached ER (cell (rt c) 7) 0 ∗ reached ER (cell (rt c) 8) 0 ∗ reached ER (cell (rt c) 9) 0 ∗ reached ER (cell (rt c) 10) 0 ∗ reached ER (cell (rt c) 1) 0) := rfl
/-- What a payment on cell 2 hands over, the second payer's. -/
theorem pay_2t : (pay D c 2 0 true : sProp 𝕄) = iprop(slAny (lf c) (box 3 0 512) ∗ reached ER (cell (lf c) 15) 0 ∗ reached ER (cell (lf c) 16) 0 ∗ reached ER (cell (lf c) 17) 0 ∗ reached ER (cell (lf c) 18) 0 ∗ reached ER (cell (lf c) 0) 0) := rfl
/-- What a payment on cell 3 hands over. -/
theorem pay_3 : (pay D c 3 0 false : sProp 𝕄) = sl c (box 0 0 512) fullShare.left (D.kv c 0) := rfl
/-- What a payment on cell 4 hands over. -/
theorem pay_4 : (pay D c 4 0 false : sProp 𝕄) = sl c (box 1 0 512) fullShare.left (D.kv (lf c) 0) := rfl
/-- What a payment on cell 5 hands over. -/
theorem pay_5 : (pay D c 5 0 false : sProp 𝕄) = sl c (box 0 0 256) fullShare.left (D.kv (lf (lf c)) 0) := rfl
/-- What a payment on cell 6 hands over. -/
theorem pay_6 : (pay D c 6 0 false : sProp 𝕄) = sl c (box 0 256 256) fullShare.left (D.kv (lf (lf c)) 0) := rfl
/-- What a payment on cell 7 hands over. -/
theorem pay_7 : (pay D c 7 0 false : sProp 𝕄) = sl c (box 1 0 512) fullShare (D.kv (lf c) 0) := rfl
/-- What a payment on cell 8 hands over. -/
theorem pay_8 : (pay D c 8 0 false : sProp 𝕄) = iprop(sl c (box 0 0 512) fullShare (D.kv (lf (lf c)) 0) ∗ reached ER (cell (lf c) 0) 1) := rfl
/-- What a payment on cell 9 hands over. -/
theorem pay_9 : (pay D c 9 0 false : sProp 𝕄) = sl c (box 1 0 256) fullShare (D.kv (lf (lf (lf c))) 0) := rfl
/-- What a payment on cell 10 hands over. -/
theorem pay_10 : (pay D c 10 0 false : sProp 𝕄) = sl c (box 1 256 256) fullShare (D.kv (lf (lf (lf c))) 0) := rfl
/-- What a payment on cell 11 hands over. -/
theorem pay_11 : (pay D c 11 0 false : sProp 𝕄) = sl c (box 2 0 512) fullShare.left (D.kv c 1) := rfl
/-- What a payment on cell 12 hands over. -/
theorem pay_12 : (pay D c 12 0 false : sProp 𝕄) = sl c (box 3 0 512) fullShare.left (D.kv (rt c) 1) := rfl
/-- What a payment on cell 13 hands over. -/
theorem pay_13 : (pay D c 13 0 false : sProp 𝕄) = sl c (box 2 0 256) fullShare.left (D.kv (rt (rt c)) 1) := rfl
/-- What a payment on cell 14 hands over. -/
theorem pay_14 : (pay D c 14 0 false : sProp 𝕄) = sl c (box 2 256 256) fullShare.left (D.kv (rt (rt c)) 1) := rfl
/-- What a payment on cell 15 hands over. -/
theorem pay_15 : (pay D c 15 0 false : sProp 𝕄) = sl c (box 3 0 512) fullShare (D.kv (rt c) 1) := rfl
/-- What a payment on cell 16 hands over. -/
theorem pay_16 : (pay D c 16 0 false : sProp 𝕄) = iprop(sl c (box 2 0 512) fullShare (D.kv (rt (rt c)) 1) ∗ reached ER (cell (rt c) 1) 1) := rfl
/-- What a payment on cell 17 hands over. -/
theorem pay_17 : (pay D c 17 0 false : sProp 𝕄) = sl c (box 3 0 256) fullShare (D.kv (rt (rt (rt c))) 1) := rfl
/-- What a payment on cell 18 hands over. -/
theorem pay_18 : (pay D c 18 0 false : sProp 𝕄) = sl c (box 3 256 256) fullShare (D.kv (rt (rt (rt c))) 1) := rfl
/-- What a payment on cell 19 hands over. -/
theorem pay_19 : (pay D c 19 0 false : sProp 𝕄) = iprop(sl c (cbox 0 0) fullShare (D.kv c 0) ∗ kPts D c (rws 0 inb_S1024x1024_S512x1024_0_0)) := rfl
/-- What a payment on cell 19 hands over, in its second round. -/
theorem pay_19' : (pay D c 19 1 false : sProp 𝕄) = iprop(oPts c (D.O c) ∗ aPts c (D.O c)) := rfl
/-- What a payment on cell 20 hands over. -/
theorem pay_20 : (pay D c 20 0 false : sProp 𝕄) = iprop(sl c (cbox 0 1024) fullShare (D.kv c 0) ∗ vPts D c (rws 0 inb_S1024x1024_S512x1024_0_0)) := rfl
/-- What a payment on cell 21 hands over. -/
theorem pay_21 : (pay D c 21 0 false : sProp 𝕄) = iprop(sl c (cbox 2 0) fullShare (D.kv c 1) ∗ kPts D c (rws 512 inb_S1024x1024_S512x1024_512_0)) := rfl
/-- What a payment on cell 22 hands over. -/
theorem pay_22 : (pay D c 22 0 false : sProp 𝕄) = iprop(sl c (cbox 2 1024) fullShare (D.kv c 1) ∗ vPts D c (rws 512 inb_S1024x1024_S512x1024_512_0)) := rfl
end Pay

variable [Named F]

/-! ## The cells by the kernel's names -/

/-- The semaphore of cell 0. -/
theorem sm_0 : smk 0 = .reg (csem0 cc0_scratch6) := by decide
/-- The semaphore of cell 1. -/
theorem sm_1 : smk 1 = .reg (csem1 cc0_scratch6) := by decide
/-- The semaphore of cell 2. -/
theorem sm_2 : smk 2 = .reg bsem := by decide
/-- The semaphore of cell 3. -/
theorem sm_3 (h : 0 < 4 := by decide) : smk 3 = .dma (dsem cc0_scratch1 0 h) := by revert h; decide
/-- The semaphore of cell 4. -/
theorem sm_4 (h : 1 < 4 := by decide) : smk 4 = .dma (dsem cc0_scratch1 1 h) := by revert h; decide
/-- The semaphore of cell 5. -/
theorem sm_5 (h : 2 < 4 := by decide) : smk 5 = .dma (dsem cc0_scratch1 2 h) := by revert h; decide
/-- The semaphore of cell 6. -/
theorem sm_6 (h : 3 < 4 := by decide) : smk 6 = .dma (dsem cc0_scratch1 3 h) := by revert h; decide
/-- The semaphore of cell 7. -/
theorem sm_7 (h : 0 < 4 := by decide) : smk 7 = .dma (dsem cc0_scratch2 0 h) := by revert h; decide
/-- The semaphore of cell 8. -/
theorem sm_8 (h : 1 < 4 := by decide) : smk 8 = .dma (dsem cc0_scratch2 1 h) := by revert h; decide
/-- The semaphore of cell 9. -/
theorem sm_9 (h : 2 < 4 := by decide) : smk 9 = .dma (dsem cc0_scratch2 2 h) := by revert h; decide
/-- The semaphore of cell 10. -/
theorem sm_10 (h : 3 < 4 := by decide) : smk 10 = .dma (dsem cc0_scratch2 3 h) := by revert h; decide
/-- The semaphore of cell 11. -/
theorem sm_11 (h : 0 < 4 := by decide) : smk 11 = .dma (dsem cc0_scratch3 0 h) := by revert h; decide
/-- The semaphore of cell 12. -/
theorem sm_12 (h : 1 < 4 := by decide) : smk 12 = .dma (dsem cc0_scratch3 1 h) := by revert h; decide
/-- The semaphore of cell 13. -/
theorem sm_13 (h : 2 < 4 := by decide) : smk 13 = .dma (dsem cc0_scratch3 2 h) := by revert h; decide
/-- The semaphore of cell 14. -/
theorem sm_14 (h : 3 < 4 := by decide) : smk 14 = .dma (dsem cc0_scratch3 3 h) := by revert h; decide
/-- The semaphore of cell 15. -/
theorem sm_15 (h : 0 < 4 := by decide) : smk 15 = .dma (dsem cc0_scratch4 0 h) := by revert h; decide
/-- The semaphore of cell 16. -/
theorem sm_16 (h : 1 < 4 := by decide) : smk 16 = .dma (dsem cc0_scratch4 1 h) := by revert h; decide
/-- The semaphore of cell 17. -/
theorem sm_17 (h : 2 < 4 := by decide) : smk 17 = .dma (dsem cc0_scratch4 2 h) := by revert h; decide
/-- The semaphore of cell 18. -/
theorem sm_18 (h : 3 < 4 := by decide) : smk 18 = .dma (dsem cc0_scratch4 3 h) := by revert h; decide
/-- The semaphore of cell 19. -/
theorem sm_19 (h : 0 < 4 := by decide) : smk 19 = .dma (dsem cc0_scratch5 0 h) := by revert h; decide
/-- The semaphore of cell 20. -/
theorem sm_20 (h : 1 < 4 := by decide) : smk 20 = .dma (dsem cc0_scratch5 1 h) := by revert h; decide
/-- The semaphore of cell 21. -/
theorem sm_21 (h : 2 < 4 := by decide) : smk 21 = .dma (dsem cc0_scratch5 2 h) := by revert h; decide
/-- The semaphore of cell 22. -/
theorem sm_22 (h : 3 < 4 := by decide) : smk 22 = .dma (dsem cc0_scratch5 3 h) := by revert h; decide

/-! ## The local copies -/

/-- The rows of the keys that a load reads. -/
theorem hsrc_set4 (r : ℕ) (h) : (hsrc (Memref.whole main_v4) r h).view.set = rws r h := View.set_slice_whole _ _
/-- The rows of the values that a load reads. -/
theorem hsrc_set6 (r : ℕ) (h) : (hsrc (Memref.whole main_v6) r h).view.set = rws r h := View.set_slice_whole _ _

/-- Keys copied into a slot. -/
theorem wp_keys (c : Dev nD) (s r k : ℕ) (hf : Fin 2) (hs : s < 4) (hsl) (hr) (sem : DmaSem sig) (h1) (h2) (h3) (hk : k < 23) (e : smk k = .dma sem)
    (hd : dut k 0 = {false}) (ha : amt k 0 = NL) (hrf : r = hf.val * 512)
    (hp : pay D c k 0 false = iprop(sl c (cbox s 0) fullShare (D.kv c hf) ∗ kPts D c (rws r hr))) (Q : PUnit → sProp 𝕄) :
    iprop(env D κ ∗ kPts D c (rws r hr) ∗ slAny c (cbox s 0) ∗ dutyTok ER (cell c k) 0 false ∗ reached ER (cell c k) 0)
      ⊢ iprop((cred (tallyAt (cell c k) 0 (amt k 0)) -∗ Q ⟨⟩)
          -∗ WP c (Prog.lift (.enqueueDma (hsrc (Memref.whole main_v4) r hr) (.here (lslot cm s 0 hsl)) (.dma sem) h1 h2 h3)) Q) := by
  iintro ⟨#HE, Hs, ⟨%fd, Hd⟩, Ht, Hr⟩ HQ
  iapply (wp_own D κ c (hsrc (Memref.whole main_v4) r hr) (lslot cm s 0 hsl) sem h1 h2 h3 k 0 hk e hd (by rw [ha]; rfl) (D.K c) fd
    (by rw [hp, pointsTo_congr (keys_copied (D.K c) (D.V c) hf s r hs hsl hr hrf fd), lslot_set, hsrc_set4])) $$ [Hs Hd Ht Hr]
  · rw [lslot_set, hsrc_set4]; isplitr; · iexact HE
    iframe Hs Hd Ht Hr
  iexact HQ
/-- Values copied into a slot. -/
theorem wp_values (c : Dev nD) (s r k : ℕ) (hf : Fin 2) (hs : s < 4) (hsl) (hr) (sem : DmaSem sig) (h1) (h2) (h3) (hk : k < 23) (e : smk k = .dma sem)
    (hd : dut k 0 = {false}) (ha : amt k 0 = NL) (hrf : r = hf.val * 512)
    (hp : pay D c k 0 false = iprop(sl c (cbox s 1024) fullShare (D.kv c hf) ∗ vPts D c (rws r hr))) (Q : PUnit → sProp 𝕄) :
    iprop(env D κ ∗ vPts D c (rws r hr) ∗ slAny c (cbox s 1024) ∗ dutyTok ER (cell c k) 0 false ∗ reached ER (cell c k) 0)
      ⊢ iprop((cred (tallyAt (cell c k) 0 (amt k 0)) -∗ Q ⟨⟩)
          -∗ WP c (Prog.lift (.enqueueDma (hsrc (Memref.whole main_v6) r hr) (.here (lslot cm s 1024 hsl)) (.dma sem) h1 h2 h3)) Q) := by
  iintro ⟨#HE, Hs, ⟨%fd, Hd⟩, Ht, Hr⟩ HQ
  iapply (wp_own D κ c (hsrc (Memref.whole main_v6) r hr) (lslot cm s 1024 hsl) sem h1 h2 h3 k 0 hk e hd (by rw [ha]; rfl) (D.V c) fd
    (by rw [hp, pointsTo_congr (values_copied (D.K c) (D.V c) hf s r hs hsl hr hrf fd), lslot_set, hsrc_set6])) $$ [Hs Hd Ht Hr]
  · rw [lslot_set, hsrc_set6]; isplitr; · iexact HE
    iframe Hs Hd Ht Hr
  iexact HQ

/-- The result copied out, and its arrival. -/
theorem wp_out (c : Dev nD) (h14 : (Memref.whole cc0_scratch8).IsWhole) (h5 : (Memref.whole main_v9).IsWhole) (f : S1024x1024.Idx → F .f32)
    (Q : PUnit → sProp 𝕄) :
    iprop(env D κ ∗ aPts c (D.O c) ∗ oPts c f ∗ ow c 0 ∗ dutyTok ER (cell c 19) 1 false ∗ reached ER (cell c 19) 1 ∗ atPos ER (cell c 19) 1 ∅ 0)
      ⊢ iprop((aPts c (D.O c) ∗ oPts c (D.O c) ∗ ow c 0 ∗ atPos ER (cell c 19) 2 ∅ 0 -∗ Q ⟨⟩)
          -∗ WP c (out (Memref.whole main_v9) h5 cc0_scratch5 (Memref.whole cc0_scratch8) h14) Q) := by
  have h04 : 0 < 4 := by omega
  unfold out
  simp only [wp_bind]
  iintro ⟨#HE, Ha, Ho, HO, Ht, Hr, Hat⟩ HQ
  iapply (wp_own D κ c (Memref.whole cc0_scratch8) (Memref.whole main_v9) (dsem cc0_scratch5 0 h04) _ _ _ 19 1 (by omega) (sm_19 _) rfl rfl (D.O c) f
    (by
      show iprop(((Memref.whole main_v9).view.loc (c : Thread nD τ) ↦[(View.whole main_v9).set]{fullShare} ((View.whole main_v9).write (Elt F) f ((View.whole cc0_scratch8).read (Elt F) (D.O c)) Finset.univ))
        ∗ ((Memref.whole cc0_scratch8).view.loc (c : Thread nD τ) ↦[(View.whole cc0_scratch8).set]{fullShare} (D.O c))) ⊢ _
      rw [View.read_whole, View.write_whole_univ, View.set_whole, View.set_whole]
      exact BI.Entails.refl _)) $$ [Ha Ho Ht Hr]
  · isplitr; · iexact HE
    isplitl [Ha]; · rw [show (Memref.whole cc0_scratch8).view.set = Finset.univ from View.set_whole _]; iexact Ha
    isplitl [Ho]; · rw [show (Memref.whole main_v9).view.set = Finset.univ from View.set_whole _]; iexact Ho
    isplitl [Ht] <;> iassumption
  iintro Hc
  iapply (wp_take D κ c 19 1 0 0 (by omega) (by omega) rfl (by omega) _ (fun K => rfl)) $$ [Hc HO Hat]
  · isplitr; · iexact HE
    iframe Hc HO Hat
  iintro ⟨HO, Hat, -, Hp⟩
  ihave Hp := (Entails.of_eq (pay_19' D c)) $$ Hp
  icases Hp with ⟨Ho, Ha⟩
  iapply HQ
  iframe Ha Ho HO Hat

end Cert.KernelIdeal.Talk

end
-- ==== Proof.Run1.lean ====
/- The first phase of the body: the local copies, the handshake, the first exchange under the first two folds. -/
module

public import proofs.«01_k».proof.Proof.Run0

@[expose] public section

set_option maxRecDepth 65536

noncomputable section

namespace Cert.KernelIdeal.Talk

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.KernelIdeal.Str Cert.KernelIdeal.Slots

variable {F : FTy → Type} [FloatOps F] [Named F]

local notation "𝕄" => MT nD τ sig ℕ (Elt F) ℕ UU ℕ

variable (D : Cts F) (κ : GSem nD τ sig → ℕ)

/-! ## Waiting for a transfer's two ends -/

/-- The two arrivals of a whole slot's transfer. -/
theorem wp_fin (c : Dev nD) (h6 : cm.IsWhole) (sa ra : DmaSems sig S4) (s t i : ℕ) (hs : s < 4) (ht : t < 4) (hi : i < 4) (ka kr n : ℕ)
    (hka : ka < 23) (hkr : kr < 23) (eA : smk ka = .dma (dsem sa i hi)) (eR : smk kr = .dma (dsem ra i hi))
    (dA : dut ka 0 = {false}) (dR : dut kr 0 = {false}) (aA : amt ka 0 = NF) (aR : amt kr 0 = NF)
    (lA : ∀ j < n, lvl ka 0 < lvl (itK j) (itI j)) (lR : ∀ j < n, lvl kr 0 < lvl (itK j) (itI j)) (Q : PUnit → sProp 𝕄) :
    iprop(env D κ ∗ cred (tallyAt (cell c ka) 0 NF) ∗ cred (tallyAt (cell c kr) 0 NF) ∗ ow c n ∗ atPos ER (cell c ka) 0 ∅ 0 ∗ atPos ER (cell c kr) 0 ∅ 0)
      ⊢ iprop((ow c n ∗ atPos ER (cell c ka) 1 ∅ 0 ∗ atPos ER (cell c kr) 1 ∅ 0 ∗ pay D c ka 0 false ∗ pay D c kr 0 false -∗ Q ⟨⟩)
          -∗ WP c (fin cm h6 sa ra s t i hs ht hi) Q) := by
  unfold fin
  simp only [wp_bind]
  rw [← aA]
  iintro ⟨#HE, HcA, HcR, HO, HaA, HaR⟩ HQ
  iapply (wp_take D κ c ka 0 0 n hka (by decide) dA lA _ (fun K => by rw [eA, aA]; rfl)) $$ [HcA HO HaA]
  · isplitr; · iexact HE
    iframe HcA HO HaA
  iintro ⟨HO, HaA, -, HpA⟩
  rw [aA, ← aR]
  iapply (wp_take D κ c kr 0 0 n hkr (by decide) dR lR _ (fun K => by rw [eR, aR]; rfl)) $$ [HcR HO HaR]
  · isplitr; · iexact HE
    iframe HcR HO HaR
  iintro ⟨HO, HaR, -, HpR⟩
  iapply HQ
  iframe HO HaA HaR HpA HpR

/-- The two arrivals of half a slot's transfer. -/
theorem wp_finH (c : Dev nD) (h6 : cm.IsWhole) (sa ra : DmaSems sig S4) (s t r i : ℕ) (hs : s < 4) (ht : t < 4) (hr : r = 0 ∨ r = 256) (hi : i < 4)
    (ka kr n : ℕ)
    (hka : ka < 23) (hkr : kr < 23) (eA : smk ka = .dma (dsem sa i hi)) (eR : smk kr = .dma (dsem ra i hi))
    (dA : dut ka 0 = {false}) (dR : dut kr 0 = {false}) (aA : amt ka 0 = NH) (aR : amt kr 0 = NH)
    (lA : ∀ j < n, lvl ka 0 < lvl (itK j) (itI j)) (lR : ∀ j < n, lvl kr 0 < lvl (itK j) (itI j)) (Q : PUnit → sProp 𝕄) :
    iprop(env D κ ∗ cred (tallyAt (cell c ka) 0 NH) ∗ cred (tallyAt (cell c kr) 0 NH) ∗ ow c n ∗ atPos ER (cell c ka) 0 ∅ 0 ∗ atPos ER (cell c kr) 0 ∅ 0)
      ⊢ iprop((ow c n ∗ atPos ER (cell c ka) 1 ∅ 0 ∗ atPos ER (cell c kr) 1 ∅ 0 ∗ pay D c ka 0 false ∗ pay D c kr 0 false -∗ Q ⟨⟩)
          -∗ WP c (finH cm h6 sa ra s t r i hs ht hr hi) Q) := by
  unfold finH
  simp only [wp_bind]
  rw [← aA]
  iintro ⟨#HE, HcA, HcR, HO, HaA, HaR⟩ HQ
  iapply (wp_take D κ c ka 0 0 n hka (by decide) dA lA _ (fun K => by rw [eA, aA]; rfl)) $$ [HcA HO HaA]
  · isplitr; · iexact HE
    iframe HcA HO HaA
  iintro ⟨HO, HaA, -, HpA⟩
  rw [aA, ← aR]
  iapply (wp_take D κ c kr 0 0 n hkr (by decide) dR lR _ (fun K => by rw [eR, aR]; rfl)) $$ [HcR HO HaR]
  · isplitr; · iexact HE
    iframe HcR HO HaR
  iintro ⟨HO, HaR, -, HpR⟩
  iapply HQ
  iframe HO HaA HaR HpA HpR

/-! ## What is known from the start -/

/-- Every cell of the device has reached its first round. -/
def own (c : Dev nD) : sProp 𝕄 := bigSep (Finset.univ : Finset (Fin 23)) fun k => reached ER (cell c k.val) 0
instance own_persistent (c : Dev nD) : BI.Persistent (own c : sProp 𝕄) := by unfold own; infer_instance
/-- One of a device's own cells has reached its first round. -/
theorem own_at (c : Dev nD) (k : ℕ) (hk : k < 23) : (own c : sProp 𝕄) ⊢ reached ER (cell c k) 0 :=
  bigSep_elim (Φ := fun k : Fin 23 => (reached ER (cell c k.val) 0 : sProp 𝕄)) (Finset.mem_univ (⟨k, hk⟩ : Fin 23))
/-- So has each neighbour's barrier. -/
def start (c : Dev nD) : sProp 𝕄 := iprop(own c ∗ reached ER (cell (lf c) 2) 0 ∗ reached ER (cell (rt c) 2) 0)
instance start_persistent (c : Dev nD) : BI.Persistent (start c : sProp 𝕄) := by unfold start; infer_instance
/-- What the handshake tells of the neighbours' cells. -/
def nbrs (c : Dev nD) : sProp 𝕄 :=
  iprop((reached ER (cell (rt c) 7) 0 ∗ reached ER (cell (rt c) 8) 0 ∗ reached ER (cell (rt c) 9) 0 ∗ reached ER (cell (rt c) 10) 0 ∗ reached ER (cell (rt c) 1) 0)
    ∗ (reached ER (cell (lf c) 15) 0 ∗ reached ER (cell (lf c) 16) 0 ∗ reached ER (cell (lf c) 17) 0 ∗ reached ER (cell (lf c) 18) 0 ∗ reached ER (cell (lf c) 0) 0))
instance nbrs_persistent (c : Dev nD) : BI.Persistent (nbrs c : sProp 𝕄) := by unfold nbrs; infer_instance

/-! ## The resources of the first phase, step by step -/

/-- For the local copies: the right to pay each cell, and its position. -/
def gLoad (c : Dev nD) : sProp 𝕄 :=
  iprop(dutyTok ER (cell c 19) 0 false ∗ dutyTok ER (cell c 20) 0 false ∗ dutyTok ER (cell c 21) 0 false ∗ dutyTok ER (cell c 22) 0 false)
def aLoad (c : Dev nD) (r : ℕ) : sProp 𝕄 :=
  iprop(atPos ER (cell c 19) r ∅ 0 ∗ atPos ER (cell c 20) r ∅ 0 ∗ atPos ER (cell c 21) r ∅ 0 ∗ atPos ER (cell c 22) r ∅ 0)
/-- The credit for the local copies' arrivals. -/
def cLoad (c : Dev nD) : sProp 𝕄 :=
  iprop(cred (tallyAt (cell c 19) 0 (amt 19 0)) ∗ cred (tallyAt (cell c 20) 0 (amt 20 0)) ∗ cred (tallyAt (cell c 21) 0 (amt 21 0))
    ∗ cred (tallyAt (cell c 22) 0 (amt 22 0)))
/-- The keys and values on the device. -/
def kvPts (c : Dev nD) : sProp 𝕄 := iprop(kPts D c Finset.univ ∗ vPts D c Finset.univ)
/-- For the handshake. -/
def gShake (c : Dev nD) : sProp 𝕄 :=
  iprop(dutyTok ER (cell (lf c) 2) 0 false ∗ dutyTok ER (cell (rt c) 2) 0 true ∗ cred (tallyAt (cell c 2) 0 2))
/-- For one exchange of slots: two cells on the device, one on each neighbour, and the arrivals. -/
def gXch (c : Dev nD) (a b x y : ℕ) (N : ℕ) : sProp 𝕄 :=
  iprop(dutyTok ER (cell c a) 0 false ∗ dutyTok ER (cell c b) 0 false ∗ dutyTok ER (cell (rt c) x) 0 false ∗ dutyTok ER (cell (lf c) y) 0 false
    ∗ cred (tallyAt (cell c x) 0 N) ∗ cred (tallyAt (cell c y) 0 N))
def aXch (c : Dev nD) (a b x y : ℕ) (r : ℕ) : sProp 𝕄 :=
  iprop(atPos ER (cell c a) r ∅ 0 ∗ atPos ER (cell c b) r ∅ 0 ∗ atPos ER (cell c x) r ∅ 0 ∗ atPos ER (cell c y) r ∅ 0)

/-- The local copies are started. -/
theorem wp_loads (c : Dev nD) (h6 : cm.IsWhole) (h2 : (Memref.whole main_v4).IsWhole) (h3 : (Memref.whole main_v6).IsWhole) (Q : PUnit → sProp 𝕄) :
    iprop(env D κ ∗ own c ∗ kvPts D c ∗ slAny c (box 0 0 512) ∗ slAny c (box 2 0 512) ∗ gLoad c)
      ⊢ iprop((cLoad c -∗ Q ⟨⟩) -∗ WP c (loads cm h6 (Memref.whole main_v4) h2 (Memref.whole main_v6) h3 cc0_scratch5) Q) := by
  unfold loads gLoad cLoad kvPts
  simp only [wp_bind]
  iintro ⟨#HE, #HW, ⟨Hk, Hv⟩, H0, H2, Ht0, Ht1, Ht2, Ht3⟩ HQ
  ihave Hk := kPts_split D c $$ Hk
  ihave Hv := vPts_split D c $$ Hv
  ihave H0 := sl_cols_any c 0 $$ H0
  ihave H2 := sl_cols_any c 2 $$ H2
  icases Hk with ⟨Hk0, Hk1⟩
  icases Hv with ⟨Hv0, Hv1⟩
  icases H0 with ⟨H00, H01⟩
  icases H2 with ⟨H20, H21⟩
  iapply (wp_keys D κ c 0 0 19 0 (by decide) _ _ _ _ _ _ (by decide) (sm_19 _) rfl rfl rfl (pay_19 D c)) $$ [Hk0 H00 Ht0]
  · isplitr; · iexact HE
    iframe Hk0 H00 Ht0
    iapply (own_at c 19 (by decide)); iexact HW
  iintro Hc0
  iapply (wp_values D κ c 0 0 20 0 (by decide) _ _ _ _ _ _ (by decide) (sm_20 _) rfl rfl rfl (pay_20 D c)) $$ [Hv0 H01 Ht1]
  · isplitr; · iexact HE
    iframe Hv0 H01 Ht1
    iapply (own_at c 20 (by decide)); iexact HW
  iintro Hc1
  iapply (wp_keys D κ c 2 512 21 1 (by decide) _ _ _ _ _ _ (by decide) (sm_21 _) rfl rfl rfl (pay_21 D c)) $$ [Hk1 H20 Ht2]
  · isplitr; · iexact HE
    iframe Hk1 H20 Ht2
    iapply (own_at c 21 (by decide)); iexact HW
  iintro Hc2
  iapply (wp_values D κ c 2 512 22 1 (by decide) _ _ _ _ _ _ (by decide) (sm_22 _) rfl rfl rfl (pay_22 D c)) $$ [Hv1 H21 Ht3]
  · isplitr; · iexact HE
    iframe Hv1 H21 Ht3
    iapply (own_at c 22 (by decide)); iexact HW
  iintro Hc3
  iapply HQ
  iframe Hc0 Hc1 Hc2 Hc3

/-- The local copies have arrived. -/
theorem wp_loaded (c : Dev nD) (h6 : cm.IsWhole) (h2 : (Memref.whole main_v4).IsWhole) (h3 : (Memref.whole main_v6).IsWhole) (Q : PUnit → sProp 𝕄) :
    iprop(env D κ ∗ cLoad c ∗ aLoad c 0 ∗ ow c 12)
      ⊢ iprop((kvPts D c ∗ sl c (box 0 0 512) fullShare (D.kv c 0) ∗ sl c (box 2 0 512) fullShare (D.kv c 1) ∗ aLoad c 1 ∗ reached ER (cell c 19) 1 ∗ ow c 12 -∗ Q ⟨⟩)
        -∗ WP c (loaded cm h6 (Memref.whole main_v4) h2 (Memref.whole main_v6) h3 cc0_scratch5) Q) := by
  unfold loaded aLoad cLoad kvPts
  simp only [wp_bind]
  iintro ⟨#HE, ⟨Hc0, Hc1, Hc2, Hc3⟩, ⟨Ha0, Ha1, Ha2, Ha3⟩, HO⟩ HQ
  iapply (wp_take D κ c 19 0 0 12 (by decide) (by decide) rfl (by decide) _ (fun K => by rw [sm_19 (by decide)]; rfl)) $$ [Hc0 HO Ha0]
  · isplitr; · iexact HE
    iframe Hc0 HO Ha0
  iintro ⟨HO, Ha0, Hr, Hp⟩
  ihave Hp := (Entails.of_eq (pay_19 D c)) $$ Hp
  icases Hp with ⟨H00, Hk0⟩
  iapply (wp_take D κ c 20 0 0 12 (by decide) (by decide) rfl (by decide) _ (fun K => by rw [sm_20 (by decide)]; rfl)) $$ [Hc1 HO Ha1]
  · isplitr; · iexact HE
    iframe Hc1 HO Ha1
  iintro ⟨HO, Ha1, -, Hp⟩
  ihave Hp := (Entails.of_eq (pay_20 D c)) $$ Hp
  icases Hp with ⟨H01, Hv0⟩
  iapply (wp_take D κ c 21 0 0 12 (by decide) (by decide) rfl (by decide) _ (fun K => by rw [sm_21 (by decide)]; rfl)) $$ [Hc2 HO Ha2]
  · isplitr; · iexact HE
    iframe Hc2 HO Ha2
  iintro ⟨HO, Ha2, -, Hp⟩
  ihave Hp := (Entails.of_eq (pay_21 D c)) $$ Hp
  icases Hp with ⟨H20, Hk1⟩
  iapply (wp_take D κ c 22 0 0 12 (by decide) (by decide) rfl (by decide) _ (fun K => by rw [sm_22 (by decide)]; rfl)) $$ [Hc3 HO Ha3]
  · isplitr; · iexact HE
    iframe Hc3 HO Ha3
  iintro ⟨HO, Ha3, -, Hp⟩
  ihave Hp := (Entails.of_eq (pay_22 D c)) $$ Hp
  icases Hp with ⟨H21, Hv1⟩
  iapply HQ
  isplitl [Hk0 Hk1 Hv0 Hv1]
  · isplitl [Hk0 Hk1]
    · iapply (kPts_join D c); iframe Hk0 Hk1
    · iapply (vPts_join D c); iframe Hv0 Hv1
  isplitl [H00 H01]; · iapply (sl_cols_join c); iframe H00 H01
  isplitl [H20 H21]; · iapply (sl_cols_join c); iframe H20 H21
  iframe Ha0 Ha1 Ha2 Ha3 Hr HO

/-- The handshake: each neighbour is handed a free slot, and hands over one of its own. -/
theorem wp_shake (c : Dev nD) (Q : PUnit → sProp 𝕄) :
    iprop(env D κ ∗ start c ∗ slAny c (box 1 0 512) ∗ slAny c (box 3 0 512) ∗ ow c 14 ∗ gShake c ∗ atPos ER (cell c 2) 0 ∅ 0)
      ⊢ iprop((slAny (rt c) (box 1 0 512) ∗ slAny (lf c) (box 3 0 512) ∗ nbrs c ∗ ow c 12 ∗ atPos ER (cell c 2) 1 ∅ 0 -∗ Q ⟨⟩)
        -∗ WP c (shake (lf c) (rt c)) Q) := by
  unfold shake gShake start
  simp only [wp_bind]
  iintro ⟨#HE, ⟨#HW, #Hl, #Hr⟩, H1, H3, HO, ⟨Ht0, Ht1, Hc⟩, Ha⟩ HQ
  iapply (wp_give D κ c (lf c) bsem 2 0 13 0 false (by decide) sm_2 (by decide) rfl) $$ [HO Ht0 H1]
  · isplitr; · iexact HE
    iframe HO Ht0
    isplitl [H1]
    · rw [pay_2, rt_lf]
      iframe H1
      isplitr; · iapply (own_at c 7 (by decide)); iexact HW
      isplitr; · iapply (own_at c 8 (by decide)); iexact HW
      isplitr; · iapply (own_at c 9 (by decide)); iexact HW
      isplitr; · iapply (own_at c 10 (by decide)); iexact HW
      iapply (own_at c 1 (by decide)); iexact HW
    iexact Hl
  iintro HO
  iapply (wp_give D κ c (rt c) bsem 2 0 12 0 true (by decide) sm_2 (by decide) rfl) $$ [HO Ht1 H3]
  · isplitr; · iexact HE
    iframe HO Ht1
    isplitl [H3]
    · rw [pay_2t, lf_rt]
      iframe H3
      isplitr; · iapply (own_at c 15 (by decide)); iexact HW
      isplitr; · iapply (own_at c 16 (by decide)); iexact HW
      isplitr; · iapply (own_at c 17 (by decide)); iexact HW
      isplitr; · iapply (own_at c 18 (by decide)); iexact HW
      iapply (own_at c 0 (by decide)); iexact HW
    iexact Hr
  iintro HO
  iapply (wp_take2 D κ c 12 (by decide)) $$ [Hc HO Ha]
  · isplitr; · iexact HE
    iframe Hc HO Ha
  iintro ⟨HO, Ha, Hp, Hq⟩
  ihave Hp := (Entails.of_eq (pay_2 D c)) $$ Hp
  ihave Hq := (Entails.of_eq (pay_2t D c)) $$ Hq
  icases Hp with ⟨H1, Hp⟩
  icases Hq with ⟨H3, Hq⟩
  iapply HQ
  unfold nbrs
  iframe H1 H3 Hp Hq HO Ha

/-! ## What the scratch buffers hold -/

/-- The query, the mask buffer, and the two running sums. -/
def accs (c : Dev nD) (Qc : S1024x1024.Idx → F .bf16) (A : S1024x1024.Idx → F .f32) (Lc : S1024x8.Idx → F .f32) : sProp 𝕄 :=
  iprop(qPts c Qc ∗ bAny c ∗ aPts c A ∗ lPts c Lc)

/-- A fold of a half block, with any share of its slot. -/
theorem wp_foldA (c : Dev nD) (KB VB : S1024x1024.Idx → F .bf16) (hf : Fin 2) (Qc : S1024x1024.Idx → F .bf16) (s : ℕ) (hs : s < 4) (my org off : BitVec 32)
    (q : PosShare TreeShare) (A : S1024x1024.Idx → F .f32) (Lc : S1024x8.Idx → F .f32) (Q : PUnit → sProp 𝕄) :
    iprop(accs c Qc A Lc ∗ sl c (box s 0 512) q (kv KB VB hf))
      ⊢ iprop((accs c Qc (stA Qc (kv KB VB hf) (bias512 my org off) A) (stL Qc (kv KB VB hf) (bias512 my org off) Lc) ∗ sl c (box s 0 512) q (kv KB VB hf) -∗ Q ⟨⟩)
        -∗ WP c (fold512 cm (Memref.whole cc0_scratch7) (Memref.whole cc0_scratch8) (Memref.whole cc0_scratch9) (Memref.whole cc0_scratch10) s hs my org off) Q) := by
  unfold accs
  iintro ⟨⟨Hq, Hb, Ha, Hl⟩, Hs⟩ HQ
  iapply (wp_fold512 c KB VB hf Qc s hs my org off q A Lc) $$ [Hq Hb Ha Hl Hs]
  · iframe Hq Hs Hb Ha Hl
  iintro ⟨Hq, Hs, Hb, Ha, Hl⟩
  iapply HQ
  iframe Hq Hb Ha Hl Hs

/-- A fold of a sub-block, with any share of its half slot. -/
theorem wp_foldB (c : Dev nD) (KB VB : S1024x1024.Idx → F .bf16) (hf : Fin 2) (Qc : S1024x1024.Idx → F .bf16) (s r : ℕ) (hs : s < 4) (hr : r ≤ 256)
    (my org off : BitVec 32)
    (q : PosShare TreeShare) (A : S1024x1024.Idx → F .f32) (Lc : S1024x8.Idx → F .f32) (Q : PUnit → sProp 𝕄) :
    iprop(accs c Qc A Lc ∗ sl c (box s r 256) q (kv KB VB hf))
      ⊢ iprop((accs c Qc (stA' Qc (kv KB VB hf) r hr (bias256 my org off) A) (stL' Qc (kv KB VB hf) r hr (bias256 my org off) Lc) ∗ sl c (box s r 256) q (kv KB VB hf) -∗ Q ⟨⟩)
        -∗ WP c (fold256 cm (Memref.whole cc0_scratch7) (Memref.whole cc0_scratch8) (Memref.whole cc0_scratch9) (Memref.whole cc0_scratch10) s r hs hr my org off) Q) := by
  unfold accs
  iintro ⟨⟨Hq, Hb, Ha, Hl⟩, Hs⟩ HQ
  iapply (wp_fold256 c KB VB hf Qc s r hs hr my org off q A Lc) $$ [Hq Hb Ha Hl Hs]
  · iframe Hq Hs Hb Ha Hl
  iintro ⟨Hq, Hs, Hb, Ha, Hl⟩
  iapply HQ
  iframe Hq Hb Ha Hl Hs

/-! ## The running sums, fold by fold -/

section Chain
variable (Q : S1024x1024.Idx → F .bf16) (c : Dev nD)

/-- The masks of the ten folds. -/
abbrev b1 : S1024x512.Idx → F .f32 := bias512 (myW c) (lfW (myW c) 0#32) 0#32
abbrev b2 : S1024x512.Idx → F .f32 := bias512 (myW c) (rtW (myW c) 0#32) 8#32
abbrev b3 : S1024x512.Idx → F .f32 := bias512 (myW c) (lfW (myW c) 1#32) 0#32
abbrev b4 : S1024x512.Idx → F .f32 := bias512 (myW c) (rtW (myW c) 1#32) 8#32
abbrev b5 : S1024x512.Idx → F .f32 := bias512 (myW c) (lfW (myW c) 2#32) 0#32
abbrev b6 : S1024x512.Idx → F .f32 := bias512 (myW c) (rtW (myW c) 2#32) 8#32
abbrev b7 : S1024x256.Idx → F .f32 := bias256 (myW c) (rtW (myW c) 1#32) 0#32
abbrev b8 : S1024x256.Idx → F .f32 := bias256 (myW c) (lfW (myW c) 1#32) 8#32
abbrev b9 : S1024x256.Idx → F .f32 := bias256 (myW c) (rtW (myW c) 1#32) 4#32
abbrev b10 : S1024x256.Idx → F .f32 := bias256 (myW c) (lfW (myW c) 1#32) 12#32

/-- The weighted sums of the values after the first, second and third exchange's folds. -/
def A1 : S1024x1024.Idx → F .f32 := stA Q (D.kv c 1) (b2 c) (stA Q (D.kv c 0) (b1 c) z1024)
def A2 : S1024x1024.Idx → F .f32 := stA Q (D.kv (rt c) 1) (b4 c) (stA Q (D.kv (lf c) 0) (b3 c) (A1 D Q c))
def A3 : S1024x1024.Idx → F .f32 := stA Q (D.kv (rt (rt c)) 1) (b6 c) (stA Q (D.kv (lf (lf c)) 0) (b5 c) (A2 D Q c))
def A4 : S1024x1024.Idx → F .f32 :=
  stA' Q (D.kv (rt (rt (rt c))) 1) 0 (by omega) (b8 c) (stA' Q (D.kv (lf (lf (lf c))) 0) 0 (by omega) (b7 c) (A3 D Q c))
def A5 : S1024x1024.Idx → F .f32 :=
  stA' Q (D.kv (rt (rt (rt c))) 1) 256 (by omega) (b10 c) (stA' Q (D.kv (lf (lf (lf c))) 0) 256 (by omega) (b9 c) (A4 D Q c))
/-- The sums of the weights. -/
def L1 : S1024x8.Idx → F .f32 := stL Q (D.kv c 1) (b2 c) (stL Q (D.kv c 0) (b1 c) z8)
def L2 : S1024x8.Idx → F .f32 := stL Q (D.kv (rt c) 1) (b4 c) (stL Q (D.kv (lf c) 0) (b3 c) (L1 D Q c))
def L3 : S1024x8.Idx → F .f32 := stL Q (D.kv (rt (rt c)) 1) (b6 c) (stL Q (D.kv (lf (lf c)) 0) (b5 c) (L2 D Q c))
def L4 : S1024x8.Idx → F .f32 :=
  stL' Q (D.kv (rt (rt (rt c))) 1) 0 (by omega) (b8 c) (stL' Q (D.kv (lf (lf (lf c))) 0) 0 (by omega) (b7 c) (L3 D Q c))
def L5 : S1024x8.Idx → F .f32 :=
  stL' Q (D.kv (rt (rt (rt c))) 1) 256 (by omega) (b10 c) (stL' Q (D.kv (lf (lf (lf c))) 0) 256 (by omega) (b9 c) (L4 D Q c))
end Chain

/-- The staged operands. -/
def stg (c : Dev nD) (X W : S1024x1024.Idx → F .bf16) : sProp 𝕄 := iprop(xPts c X ∗ wPts c W)

/-- The first phase. -/
theorem wp_body0 (c : Dev nD) (h6 : cm.IsWhole) (h2 : (Memref.whole main_v4).IsWhole) (h3 : (Memref.whole main_v6).IsWhole)
    (h13 : (Memref.whole cc0_scratch7).IsWhole) (X W q0 : S1024x1024.Idx → F .bf16) (A : S1024x1024.Idx → F .f32) (Lc : S1024x8.Idx → F .f32)
    (Q : PUnit → sProp 𝕄) :
    iprop(env D κ ∗ start c ∗ slAny c Finset.univ ∗ kvPts D c ∗ stg c X W ∗ accs c q0 A Lc ∗ ow c 14
        ∗ gLoad c ∗ aLoad c 0 ∗ gShake c ∗ atPos ER (cell c 2) 0 ∅ 0 ∗ gXch c 3 11 7 15 NF ∗ aXch c 3 11 7 15 0)
      ⊢ iprop((sl c (box 0 0 512) fullShare (D.kv c 0) ∗ sl c (box 1 0 512) fullShare (D.kv (lf c) 0)
            ∗ sl c (box 2 0 512) fullShare (D.kv c 1) ∗ sl c (box 3 0 512) fullShare (D.kv (rt c) 1)
            ∗ kvPts D c ∗ stg c X W ∗ accs c (qUp X W) (A1 D (qUp X W) c) (L1 D (qUp X W) c) ∗ ow c 10
            ∗ nbrs c ∗ reached ER (cell c 19) 1 ∗ aLoad c 1 ∗ atPos ER (cell c 2) 1 ∅ 0 ∗ aXch c 3 11 7 15 1 -∗ Q ⟨⟩)
        -∗ WP c (body0 (Memref.whole cc0_stg0_0) (Memref.whole cc0_stg1_0) (Memref.whole main_v4) h2 (Memref.whole main_v6) h3 cm h6
            cc0_scratch1 cc0_scratch2 cc0_scratch3 cc0_scratch4 cc0_scratch5 (Memref.whole cc0_scratch7) h13 (Memref.whole cc0_scratch8)
            (Memref.whole cc0_scratch9) (Memref.whole cc0_scratch10) c) Q) := by
  unfold body0
  rw [dv1, dv2, dv3, dv4]
  simp only [wp_bind]
  iintro ⟨#HE, #HS, Hsl, Hkv, Hstg, Hacc, HO, HgL, HaL, HgS, HaS, HgX, HaX⟩ HQ
  ihave Hsl := sl_all c $$ Hsl
  icases Hsl with ⟨H0, H1, H2, H3⟩
  ihave #HW : own c $$ []
  · unfold start; icases HS with ⟨#HW, -, -⟩; iexact HW
  iapply (wp_loads D κ c h6 h2 h3) $$ [Hkv H0 H2 HgL]
  · isplitr; · iexact HE
    isplitr; · iexact HW
    iframe Hkv H0 H2 HgL
  iintro HcL
  iapply (wp_shake D κ c) $$ [H1 H3 HO HgS HaS]
  · isplitr; · iexact HE
    isplitr; · iexact HS
    iframe H1 H3 HO HgS HaS
  iintro ⟨H1, H3, #Hn, HO, HaS⟩
  iapply (wp_loaded D κ c h6 h2 h3) $$ [HcL HaL HO]
  · isplitr; · iexact HE
    iframe HcL HaL HO
  iintro ⟨Hkv, H0, H2, HaL, Hr19, HO⟩
  ihave H0 := sl_halve c _ _ $$ H0
  ihave H2 := sl_halve c _ _ $$ H2
  icases H0 with ⟨H0l, H0r⟩
  icases H2 with ⟨H2l, H2r⟩
  unfold gXch aXch
  icases HgX with ⟨Ht3, Ht11, Ht7, Ht15, Hc7, Hc15⟩
  icases HaX with ⟨Ha3, Ha11, Ha7, Ha15⟩
  iapply (wp_send D κ (D.K c) (D.V c) 0 c (rt c) h6 cc0_scratch1 cc0_scratch2 0 1 0 _ _ _ 3 7 11 (by decide) (by decide) (sm_3 _) (sm_7 _) rfl rfl rfl rfl iprop(emp)
      (Entails.of_eq (pay_3 D c).symm) (by rw [pay_7, lf_rt]; iintro ⟨H, -⟩; iexact H) rfl) $$ [H0l H1 HO Ht3 Ht7]
  · isplitr; · iexact HE
    iframe H0l H1 HO Ht3 Ht7
    isplitr; · iapply (own_at c 3 (by decide)); iexact HW
    unfold nbrs; icases Hn with ⟨⟨#Ha, -, -, -, -⟩, -⟩; iexact Ha
  iintro ⟨Hc3, HO⟩
  iapply (wp_send D κ (D.K c) (D.V c) 1 c (lf c) h6 cc0_scratch3 cc0_scratch4 2 3 0 _ _ _ 11 15 10 (by decide) (by decide) (sm_11 _) (sm_15 _) rfl rfl rfl rfl iprop(emp)
      (Entails.of_eq (pay_11 D c).symm) (by rw [pay_15, rt_lf]; iintro ⟨H, -⟩; iexact H) rfl) $$ [H2l H3 HO Ht11 Ht15]
  · isplitr; · iexact HE
    iframe H2l H3 HO Ht11 Ht15
    isplitr; · iapply (own_at c 11 (by decide)); iexact HW
    unfold nbrs; icases Hn with ⟨-, ⟨#Ha, -, -, -, -⟩⟩; iexact Ha
  iintro ⟨Hc11, HO⟩
  unfold stg accs
  icases Hstg with ⟨Hx, Hw⟩
  icases Hacc with ⟨Hq, Hb, Ha, Hl⟩
  iapply (wp_ini c h13 X W q0 A Lc) $$ [Hx Hw Hq Ha Hl]
  · iframe Hx Hw Hq Ha Hl
  iintro ⟨Hx, Hw, Hq, Ha, Hl⟩
  iapply (wp_foldA c (D.K c) (D.V c) 0 (qUp X W) 0 _ _ _ _ fullShare.right z1024 z8) $$ [Hq Hb Ha Hl H0r]
  · unfold accs; iframe Hq Hb Ha Hl H0r
  iintro ⟨Hacc, H0r⟩
  iapply (wp_foldA c (D.K c) (D.V c) 1 (qUp X W) 2 _ _ _ _ fullShare.right _ _) $$ [Hacc H2r]
  · iframe Hacc H2r
  iintro ⟨Hacc, H2r⟩
  iapply (wp_fin D κ c h6 cc0_scratch1 cc0_scratch2 0 1 0 _ _ _ 3 7 10 (by decide) (by decide) (sm_3 _) (sm_7 _) rfl rfl rfl rfl (by decide) (by decide)) $$ [Hc3 Hc7 HO Ha3 Ha7]
  · isplitr; · iexact HE
    iframe Hc3 Hc7 HO Ha3 Ha7
  iintro ⟨HO, Ha3, Ha7, Hp3, Hp7⟩
  iapply (wp_fin D κ c h6 cc0_scratch3 cc0_scratch4 2 3 0 _ _ _ 11 15 10 (by decide) (by decide) (sm_11 _) (sm_15 _) rfl rfl rfl rfl (by decide) (by decide)) $$ [Hc11 Hc15 HO Ha11 Ha15]
  · isplitr; · iexact HE
    iframe Hc11 Hc15 HO Ha11 Ha15
  iintro ⟨HO, Ha11, Ha15, Hp11, Hp15⟩
  ihave Hp3 := (Entails.of_eq (pay_3 D c)) $$ Hp3
  ihave Hp7 := (Entails.of_eq (pay_7 D c)) $$ Hp7
  ihave Hp11 := (Entails.of_eq (pay_11 D c)) $$ Hp11
  ihave Hp15 := (Entails.of_eq (pay_15 D c)) $$ Hp15
  iapply HQ
  isplitl [Hp3 H0r]; · iapply (sl_whole c); iframe Hp3 H0r
  isplitl [Hp7]; · iexact Hp7
  isplitl [Hp11 H2r]; · iapply (sl_whole c); iframe Hp11 H2r
  isplitl [Hp15]; · iexact Hp15
  isplitl [Hkv]; · iexact Hkv
  isplitl [Hx Hw]; · iframe Hx Hw
  isplitl [Hacc]; · unfold accs A1 L1; iexact Hacc
  isplitl [HO]; · iexact HO
  isplitr; · iexact Hn
  iframe Hr19 HaL HaS Ha3 Ha11 Ha7 Ha15

end Cert.KernelIdeal.Talk

end
-- ==== Proof.Run2.lean ====
/- The second and third exchange, the epilogue, and the body as a whole. -/
module

public import proofs.«01_k».proof.Proof.Run1

@[expose] public section

set_option maxRecDepth 65536

noncomputable section

namespace Cert.KernelIdeal.Talk

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.KernelIdeal.Str Cert.KernelIdeal.Slots

variable {F : FTy → Type} [FloatOps F] [Named F]

local notation "𝕄" => MT nD τ sig ℕ (Elt F) ℕ UU ℕ

variable (D : Cts F) (κ : GSem nD τ sig → ℕ)

/-- For one exchange of credits, at index `r`. -/
def gCrd (c : Dev nD) (r : ℕ) : sProp 𝕄 :=
  iprop(dutyTok ER (cell (lf c) 0) r false ∗ dutyTok ER (cell (rt c) 1) r false ∗ cred (tallyAt (cell c 0) r 1) ∗ cred (tallyAt (cell c 1) r 1))
def aCrd (c : Dev nD) (r : ℕ) : sProp 𝕄 := iprop(atPos ER (cell c 0) r ∅ 0 ∗ atPos ER (cell c 1) r ∅ 0)

/-- An exchange of credits: each neighbour is handed the slot it may fill, and hands over one of its own. -/
theorem wp_credits (c : Dev nD) (r n : ℕ) (hr : r < 2)
    (hO0 : Ow c (n + 1 + 1) = Ow c (n + 1) + tallyAt (cell (lf c) 0) r 1) (hO1 : Ow c (n + 1) = Ow c n + tallyAt (cell (rt c) 1) r 1)
    (hl0 : ∀ j < n, lvl 0 r < lvl (itK j) (itI j)) (hl1 : ∀ j < n, lvl 1 r < lvl (itK j) (itI j))
    (Q : PUnit → sProp 𝕄) :
    iprop(env D κ ∗ reached ER (cell (lf c) 0) r ∗ reached ER (cell (rt c) 1) r ∗ pay D (lf c) 0 r false ∗ pay D (rt c) 1 r false ∗ ow c (n + 1 + 1) ∗ gCrd c r ∗ aCrd c r)
      ⊢ iprop((pay D c 0 r false ∗ pay D c 1 r false ∗ reached ER (cell c 0) (r + 1) ∗ reached ER (cell c 1) (r + 1) ∗ ow c n ∗ aCrd c (r + 1) -∗ Q ⟨⟩)
        -∗ WP c (credits cc0_scratch6 (lf c) (rt c)) Q) := by
  have hd : ∀ k < 2, dut k r = {false} := fun k hk => by unfold dut; rw [if_neg (by omega), if_pos hk, if_pos hr]
  have ha : ∀ k < 2, amt k r = 1 := fun k hk => by unfold amt; rw [if_pos (by omega)]
  unfold credits gCrd aCrd
  simp only [wp_bind]
  iintro ⟨#HE, #Hr0, #Hr1, Hp0, Hp1, HO, ⟨Ht0, Ht1, Hc0, Hc1⟩, Ha0, Ha1⟩ HQ
  iapply (wp_give D κ c (lf c) (csem0 cc0_scratch6) 0 r (n + 1) r false (by decide) sm_0 (by rw [hd 0 (by decide)]; exact Finset.mem_singleton_self _) hO0) $$ [HO Ht0 Hp0]
  · isplitr; · iexact HE
    iframe HO Ht0 Hp0
    iexact Hr0
  iintro HO
  iapply (wp_give D κ c (rt c) (csem1 cc0_scratch6) 1 r n r false (by decide) sm_1 (by rw [hd 1 (by decide)]; exact Finset.mem_singleton_self _) hO1) $$ [HO Ht1 Hp1]
  · isplitr; · iexact HE
    iframe HO Ht1 Hp1
    iexact Hr1
  iintro HO
  iapply (wp_take D κ c 0 r r n (by decide) hr (hd 0 (by decide)) hl0 _ (fun K => by rw [sm_0, ha 0 (by decide)]; rfl)) $$ [Hc0 HO Ha0]
  · isplitr; · iexact HE
    rw [ha 0 (by decide)]
    iframe Hc0 HO Ha0
  iintro ⟨HO, Ha0, Hs0, Hp0⟩
  iapply (wp_take D κ c 1 r r n (by decide) hr (hd 1 (by decide)) hl1 _ (fun K => by rw [sm_1, ha 1 (by decide)]; rfl)) $$ [Hc1 HO Ha1]
  · isplitr; · iexact HE
    rw [ha 1 (by decide)]
    iframe Hc1 HO Ha1
  iintro ⟨HO, Ha1, Hs1, Hp1⟩
  iapply HQ
  iframe Hp0 Hp1 Hs0 Hs1 HO Ha0 Ha1

/-- The second phase. -/
theorem wp_body1 (c : Dev nD) (h6 : cm.IsWhole) (Qc : S1024x1024.Idx → F .bf16) (Q : PUnit → sProp 𝕄) :
    iprop(env D κ ∗ start c ∗ nbrs c ∗ sl c (box 0 0 512) fullShare (D.kv c 0) ∗ sl c (box 1 0 512) fullShare (D.kv (lf c) 0)
        ∗ sl c (box 2 0 512) fullShare (D.kv c 1) ∗ sl c (box 3 0 512) fullShare (D.kv (rt c) 1)
        ∗ accs c Qc (A1 D Qc c) (L1 D Qc c) ∗ ow c 10 ∗ gCrd c 0 ∗ aCrd c 0 ∗ gXch c 4 12 8 16 NF ∗ aXch c 4 12 8 16 0)
      ⊢ iprop((sl c (box 0 0 512) fullShare (D.kv (lf (lf c)) 0) ∗ sl c (box 1 0 512) fullShare (D.kv (lf c) 0)
            ∗ sl c (box 2 0 512) fullShare (D.kv (rt (rt c)) 1) ∗ sl c (box 3 0 512) fullShare (D.kv (rt c) 1)
            ∗ reached ER (cell (lf c) 0) 1 ∗ reached ER (cell (rt c) 1) 1
            ∗ accs c Qc (A2 D Qc c) (L2 D Qc c) ∗ ow c 6 ∗ aCrd c 1 ∗ aXch c 4 12 8 16 1 -∗ Q ⟨⟩)
        -∗ WP c (body1 cm h6 cc0_scratch1 cc0_scratch2 cc0_scratch3 cc0_scratch4 cc0_scratch6 (Memref.whole cc0_scratch7) (Memref.whole cc0_scratch8)
            (Memref.whole cc0_scratch9) (Memref.whole cc0_scratch10) c) Q) := by
  unfold body1
  rw [dv5, dv6, dv7, dv8]
  simp only [wp_bind]
  iintro ⟨#HE, #HS, #Hn, H0, H1, H2, H3, Hacc, HO, HgC, HaC, HgX, HaX⟩ HQ
  ihave #HW : own c $$ []
  · unfold start; icases HS with ⟨#HW, -, -⟩; iexact HW
  iapply (wp_credits D κ c 0 8 (by decide) rfl rfl (by decide) (by decide)) $$ [H0 H2 HO HgC HaC]
  · isplitr; · iexact HE
    rw [pay_0, pay_1, rt_lf, lf_rt]
    iframe HO HgC HaC
    isplitr; · unfold nbrs; icases Hn with ⟨-, ⟨-, -, -, -, #Ha⟩⟩; iexact Ha
    isplitr; · unfold nbrs; icases Hn with ⟨⟨-, -, -, -, #Ha⟩, -⟩; iexact Ha
    isplitl [H0]
    · iexists _; iexact H0
    · iexists _; iexact H2
  iintro ⟨H0, H2, Hs0, Hs1, HO, HaC⟩
  ihave H0 := (Entails.of_eq (pay_0 D c)) $$ H0
  ihave H2 := (Entails.of_eq (pay_1 D c)) $$ H2
  ihave H1 := sl_halve c _ _ $$ H1
  ihave H3 := sl_halve c _ _ $$ H3
  icases H1 with ⟨H1l, H1r⟩
  icases H3 with ⟨H3l, H3r⟩
  unfold gXch aXch
  icases HgX with ⟨Ht4, Ht12, Ht8, Ht16, Hc8, Hc16⟩
  icases HaX with ⟨Ha4, Ha12, Ha8, Ha16⟩
  iapply (wp_send D κ (D.K (lf c)) (D.V (lf c)) 0 c (rt c) h6 cc0_scratch1 cc0_scratch2 1 0 1 _ _ _ 4 8 7 (by decide) (by decide) (sm_4 _) (sm_8 _) rfl rfl rfl rfl
      (reached ER (cell c 0) 1) (Entails.of_eq (pay_4 D c).symm) (by rw [pay_8, lf_rt]) rfl) $$ [H1l H0 Hs0 HO Ht4 Ht8]
  · isplitr; · iexact HE
    iframe H1l H0 Hs0 HO Ht4 Ht8
    isplitr; · iapply (own_at c 4 (by decide)); iexact HW
    unfold nbrs; icases Hn with ⟨⟨-, #Ha, -, -, -⟩, -⟩; iexact Ha
  iintro ⟨Hc4, HO⟩
  iapply (wp_send D κ (D.K (rt c)) (D.V (rt c)) 1 c (lf c) h6 cc0_scratch3 cc0_scratch4 3 2 1 _ _ _ 12 16 6 (by decide) (by decide) (sm_12 _) (sm_16 _) rfl rfl rfl rfl
      (reached ER (cell c 1) 1) (Entails.of_eq (pay_12 D c).symm) (by rw [pay_16, rt_lf]) rfl) $$ [H3l H2 Hs1 HO Ht12 Ht16]
  · isplitr; · iexact HE
    iframe H3l H2 Hs1 HO Ht12 Ht16
    isplitr; · iapply (own_at c 12 (by decide)); iexact HW
    unfold nbrs; icases Hn with ⟨-, ⟨-, #Ha, -, -, -⟩⟩; iexact Ha
  iintro ⟨Hc12, HO⟩
  iapply (wp_foldA c (D.K (lf c)) (D.V (lf c)) 0 Qc 1 _ _ _ _ fullShare.right _ _) $$ [Hacc H1r]
  · iframe Hacc H1r
  iintro ⟨Hacc, H1r⟩
  iapply (wp_foldA c (D.K (rt c)) (D.V (rt c)) 1 Qc 3 _ _ _ _ fullShare.right _ _) $$ [Hacc H3r]
  · iframe Hacc H3r
  iintro ⟨Hacc, H3r⟩
  iapply (wp_fin D κ c h6 cc0_scratch1 cc0_scratch2 1 0 1 _ _ _ 4 8 6 (by decide) (by decide) (sm_4 _) (sm_8 _) rfl rfl rfl rfl (by decide) (by decide)) $$ [Hc4 Hc8 HO Ha4 Ha8]
  · isplitr; · iexact HE
    iframe Hc4 Hc8 HO Ha4 Ha8
  iintro ⟨HO, Ha4, Ha8, Hp4, Hp8⟩
  iapply (wp_fin D κ c h6 cc0_scratch3 cc0_scratch4 3 2 1 _ _ _ 12 16 6 (by decide) (by decide) (sm_12 _) (sm_16 _) rfl rfl rfl rfl (by decide) (by decide)) $$ [Hc12 Hc16 HO Ha12 Ha16]
  · isplitr; · iexact HE
    iframe Hc12 Hc16 HO Ha12 Ha16
  iintro ⟨HO, Ha12, Ha16, Hp12, Hp16⟩
  ihave Hp4 := (Entails.of_eq (pay_4 D c)) $$ Hp4
  ihave Hp8 := (Entails.of_eq (pay_8 D c)) $$ Hp8
  ihave Hp12 := (Entails.of_eq (pay_12 D c)) $$ Hp12
  ihave Hp16 := (Entails.of_eq (pay_16 D c)) $$ Hp16
  icases Hp8 with ⟨Hp8, Hr0⟩
  icases Hp16 with ⟨Hp16, Hr1⟩
  iapply HQ
  isplitl [Hp8]; · iexact Hp8
  isplitl [Hp4 H1r]; · iapply (sl_whole c); iframe Hp4 H1r
  isplitl [Hp16]; · iexact Hp16
  isplitl [Hp12 H3r]; · iapply (sl_whole c); iframe Hp12 H3r
  iframe Hr0 Hr1
  isplitl [Hacc]; · unfold A2 L2; iexact Hacc
  iframe HO HaC Ha4 Ha12 Ha8 Ha16

/-- Three hops to the left are one to the right. -/
theorem lll (c : Dev nD) : lf (lf (lf c)) = rt c := by revert c; decide
/-- Three hops to the right are one to the left. -/
theorem rrr (c : Dev nD) : rt (rt (rt c)) = lf c := by revert c; decide

/-- The third phase. -/
theorem wp_body2 (c : Dev nD) (h6 : cm.IsWhole) (Qc : S1024x1024.Idx → F .bf16) (Q : PUnit → sProp 𝕄) :
    iprop(env D κ ∗ start c ∗ nbrs c ∗ sl c (box 0 0 512) fullShare (D.kv (lf (lf c)) 0) ∗ sl c (box 1 0 512) fullShare (D.kv (lf c) 0)
        ∗ sl c (box 2 0 512) fullShare (D.kv (rt (rt c)) 1) ∗ sl c (box 3 0 512) fullShare (D.kv (rt c) 1)
        ∗ reached ER (cell (lf c) 0) 1 ∗ reached ER (cell (rt c) 1) 1
        ∗ accs c Qc (A2 D Qc c) (L2 D Qc c) ∗ ow c 6 ∗ gCrd c 1 ∗ aCrd c 1
        ∗ gXch c 5 13 9 17 NH ∗ aXch c 5 13 9 17 0 ∗ gXch c 6 14 10 18 NH ∗ aXch c 6 14 10 18 0)
      ⊢ iprop((slAny c Finset.univ ∗ accs c Qc (A5 D Qc c) (L5 D Qc c) ∗ ow c 0 ∗ aCrd c 2 ∗ aXch c 5 13 9 17 1 ∗ aXch c 6 14 10 18 1 -∗ Q ⟨⟩)
        -∗ WP c (body2 cm h6 cc0_scratch1 cc0_scratch2 cc0_scratch3 cc0_scratch4 cc0_scratch6 (Memref.whole cc0_scratch7) (Memref.whole cc0_scratch8)
            (Memref.whole cc0_scratch9) (Memref.whole cc0_scratch10) c) Q) := by
  unfold body2
  rw [dv9, dv10, dv11, dv12, dv13, dv14]
  simp only [wp_bind]
  iintro ⟨#HE, #HS, #Hn, H0, H1, H2, H3, #Hr0, #Hr1, Hacc, HO, HgC, HaC, HgX, HaX, HgY, HaY⟩ HQ
  ihave #HW : own c $$ []
  · unfold start; icases HS with ⟨#HW, -, -⟩; iexact HW
  iapply (wp_credits D κ c 1 4 (by decide) rfl rfl (by decide) (by decide)) $$ [H1 H3 HO HgC HaC]
  · isplitr; · iexact HE
    rw [pay_0', pay_1', rt_lf, lf_rt]
    iframe HO HgC HaC
    isplitr; · iexact Hr0
    isplitr; · iexact Hr1
    isplitl [H1]
    · iexists _; iexact H1
    · iexists _; iexact H3
  iintro ⟨H1, H3, -, -, HO, HaC⟩
  ihave H1 := (Entails.of_eq (pay_0' D c)) $$ H1
  ihave H3 := (Entails.of_eq (pay_1' D c)) $$ H3
  ihave H1 := sl_rows_any (rt c) 1 $$ H1
  ihave H3 := sl_rows_any (lf c) 3 $$ H3
  icases H1 with ⟨H1a, H1b⟩
  icases H3 with ⟨H3a, H3b⟩
  ihave H0 := sl_halve c _ _ $$ H0
  ihave H2 := sl_halve c _ _ $$ H2
  icases H0 with ⟨H0l, H0r⟩
  icases H2 with ⟨H2l, H2r⟩
  ihave H0l := sl_rows c _ _ 0 $$ H0l
  ihave H2l := sl_rows c _ _ 2 $$ H2l
  icases H0l with ⟨H0a, H0b⟩
  icases H2l with ⟨H2a, H2b⟩
  unfold gXch aXch
  icases HgX with ⟨Ht5, Ht13, Ht9, Ht17, Hc9, Hc17⟩
  icases HaX with ⟨Ha5, Ha13, Ha9, Ha17⟩
  icases HgY with ⟨Ht6, Ht14, Ht10, Ht18, Hc10, Hc18⟩
  icases HaY with ⟨Ha6, Ha14, Ha10, Ha18⟩
  iapply (wp_sendH D κ (D.K (lf (lf c))) (D.V (lf (lf c))) 0 c (rt c) h6 cc0_scratch1 cc0_scratch2 0 1 0 2 _ _ _ _ 5 9 3 (by decide) (by decide) (sm_5 _) (sm_9 _) rfl rfl rfl rfl
      (Entails.of_eq (pay_5 D c).symm) (by rw [pay_9, lf_rt]) rfl) $$ [H0a H1a HO Ht5 Ht9]
  · isplitr; · iexact HE
    iframe H0a H1a HO Ht5 Ht9
    isplitr; · iapply (own_at c 5 (by decide)); iexact HW
    unfold nbrs; icases Hn with ⟨⟨-, -, #Ha, -, -⟩, -⟩; iexact Ha
  iintro ⟨Hc5, HO⟩
  iapply (wp_sendH D κ (D.K (rt (rt c))) (D.V (rt (rt c))) 1 c (lf c) h6 cc0_scratch3 cc0_scratch4 2 3 0 2 _ _ _ _ 13 17 2 (by decide) (by decide) (sm_13 _) (sm_17 _) rfl rfl rfl rfl
      (Entails.of_eq (pay_13 D c).symm) (by rw [pay_17, rt_lf]) rfl) $$ [H2a H3a HO Ht13 Ht17]
  · isplitr; · iexact HE
    iframe H2a H3a HO Ht13 Ht17
    isplitr; · iapply (own_at c 13 (by decide)); iexact HW
    unfold nbrs; icases Hn with ⟨-, ⟨-, -, #Ha, -, -⟩⟩; iexact Ha
  iintro ⟨Hc13, HO⟩
  iapply (wp_sendH D κ (D.K (lf (lf c))) (D.V (lf (lf c))) 0 c (rt c) h6 cc0_scratch1 cc0_scratch2 0 1 256 3 _ _ _ _ 6 10 1 (by decide) (by decide) (sm_6 _) (sm_10 _) rfl rfl rfl rfl
      (Entails.of_eq (pay_6 D c).symm) (by rw [pay_10, lf_rt]) rfl) $$ [H0b H1b HO Ht6 Ht10]
  · isplitr; · iexact HE
    iframe H0b H1b HO Ht6 Ht10
    isplitr; · iapply (own_at c 6 (by decide)); iexact HW
    unfold nbrs; icases Hn with ⟨⟨-, -, -, #Ha, -⟩, -⟩; iexact Ha
  iintro ⟨Hc6, HO⟩
  iapply (wp_sendH D κ (D.K (rt (rt c))) (D.V (rt (rt c))) 1 c (lf c) h6 cc0_scratch3 cc0_scratch4 2 3 256 3 _ _ _ _ 14 18 0 (by decide) (by decide) (sm_14 _) (sm_18 _) rfl rfl rfl rfl
      (Entails.of_eq (pay_14 D c).symm) (by rw [pay_18, rt_lf]) rfl) $$ [H2b H3b HO Ht14 Ht18]
  · isplitr; · iexact HE
    iframe H2b H3b HO Ht14 Ht18
    isplitr; · iapply (own_at c 14 (by decide)); iexact HW
    unfold nbrs; icases Hn with ⟨-, ⟨-, -, -, #Ha, -⟩⟩; iexact Ha
  iintro ⟨Hc14, HO⟩
  iapply (wp_foldA c (D.K (lf (lf c))) (D.V (lf (lf c))) 0 Qc 0 _ _ _ _ fullShare.right _ _) $$ [Hacc H0r]
  · iframe Hacc H0r
  iintro ⟨Hacc, H0r⟩
  iapply (wp_foldA c (D.K (rt (rt c))) (D.V (rt (rt c))) 1 Qc 2 _ _ _ _ fullShare.right _ _) $$ [Hacc H2r]
  · iframe Hacc H2r
  iintro ⟨Hacc, H2r⟩
  iapply (wp_finH D κ c h6 cc0_scratch1 cc0_scratch2 0 1 0 2 _ _ _ _ 5 9 0 (by decide) (by decide) (sm_5 _) (sm_9 _) rfl rfl rfl rfl (by decide) (by decide)) $$ [Hc5 Hc9 HO Ha5 Ha9]
  · isplitr; · iexact HE
    iframe Hc5 Hc9 HO Ha5 Ha9
  iintro ⟨HO, Ha5, Ha9, Hp5, Hp9⟩
  iapply (wp_finH D κ c h6 cc0_scratch3 cc0_scratch4 2 3 0 2 _ _ _ _ 13 17 0 (by decide) (by decide) (sm_13 _) (sm_17 _) rfl rfl rfl rfl (by decide) (by decide)) $$ [Hc13 Hc17 HO Ha13 Ha17]
  · isplitr; · iexact HE
    iframe Hc13 Hc17 HO Ha13 Ha17
  iintro ⟨HO, Ha13, Ha17, Hp13, Hp17⟩
  ihave Hp5 := (Entails.of_eq (pay_5 D c)) $$ Hp5
  ihave Hp9 := (Entails.of_eq (pay_9 D c)) $$ Hp9
  ihave Hp13 := (Entails.of_eq (pay_13 D c)) $$ Hp13
  ihave Hp17 := (Entails.of_eq (pay_17 D c)) $$ Hp17
  iapply (wp_foldB c (D.K (lf (lf (lf c)))) (D.V (lf (lf (lf c)))) 0 Qc 1 0 _ _ _ _ _ fullShare _ _) $$ [Hacc Hp9]
  · iframe Hacc Hp9
  iintro ⟨Hacc, Hp9⟩
  iapply (wp_foldB c (D.K (rt (rt (rt c)))) (D.V (rt (rt (rt c)))) 1 Qc 3 0 _ _ _ _ _ fullShare _ _) $$ [Hacc Hp17]
  · iframe Hacc Hp17
  iintro ⟨Hacc, Hp17⟩
  iapply (wp_finH D κ c h6 cc0_scratch1 cc0_scratch2 0 1 256 3 _ _ _ _ 6 10 0 (by decide) (by decide) (sm_6 _) (sm_10 _) rfl rfl rfl rfl (by decide) (by decide)) $$ [Hc6 Hc10 HO Ha6 Ha10]
  · isplitr; · iexact HE
    iframe Hc6 Hc10 HO Ha6 Ha10
  iintro ⟨HO, Ha6, Ha10, Hp6, Hp10⟩
  iapply (wp_finH D κ c h6 cc0_scratch3 cc0_scratch4 2 3 256 3 _ _ _ _ 14 18 0 (by decide) (by decide) (sm_14 _) (sm_18 _) rfl rfl rfl rfl (by decide) (by decide)) $$ [Hc14 Hc18 HO Ha14 Ha18]
  · isplitr; · iexact HE
    iframe Hc14 Hc18 HO Ha14 Ha18
  iintro ⟨HO, Ha14, Ha18, Hp14, Hp18⟩
  ihave Hp6 := (Entails.of_eq (pay_6 D c)) $$ Hp6
  ihave Hp10 := (Entails.of_eq (pay_10 D c)) $$ Hp10
  ihave Hp14 := (Entails.of_eq (pay_14 D c)) $$ Hp14
  ihave Hp18 := (Entails.of_eq (pay_18 D c)) $$ Hp18
  iapply (wp_foldB c (D.K (lf (lf (lf c)))) (D.V (lf (lf (lf c)))) 0 Qc 1 256 _ _ _ _ _ fullShare _ _) $$ [Hacc Hp10]
  · iframe Hacc Hp10
  iintro ⟨Hacc, Hp10⟩
  iapply (wp_foldB c (D.K (rt (rt (rt c)))) (D.V (rt (rt (rt c)))) 1 Qc 3 256 _ _ _ _ _ fullShare _ _) $$ [Hacc Hp18]
  · iframe Hacc Hp18
  iintro ⟨Hacc, Hp18⟩
  iapply HQ
  isplitl [Hp5 Hp6 H0r Hp9 Hp10 Hp13 Hp14 H2r Hp17 Hp18]
  · iapply (sl_all_join c)
    isplitl [Hp5 Hp6 H0r]
    · ihave Hl := (sl_rows_join c _ _ 0) $$ [Hp5 Hp6]
      · iframe Hp5 Hp6
      iexists _
      iapply (sl_whole c); iframe Hl H0r
    isplitl [Hp9 Hp10]
    · iexists _
      iapply (sl_rows_join c); iframe Hp9 Hp10
    isplitl [Hp13 Hp14 H2r]
    · ihave Hl := (sl_rows_join c _ _ 2) $$ [Hp13 Hp14]
      · iframe Hp13 Hp14
      iexists _
      iapply (sl_whole c); iframe Hl H2r
    · iexists _
      iapply (sl_rows_join c); iframe Hp17 Hp18
  isplitl [Hacc]; · unfold A5 A4 A3 L5 L4 L3; iexact Hacc
  iframe HO HaC Ha5 Ha13 Ha9 Ha17 Ha6 Ha14 Ha10 Ha18

/-! ## The body as a whole -/

/-- The rights to pay and the credit a device starts with. -/
def gAll (c : Dev nD) : sProp 𝕄 :=
  iprop(gLoad c ∗ gShake c ∗ gXch c 3 11 7 15 NF ∗ gCrd c 0 ∗ gXch c 4 12 8 16 NF ∗ gCrd c 1 ∗ gXch c 5 13 9 17 NH ∗ gXch c 6 14 10 18 NH
    ∗ dutyTok ER (cell c 19) 1 false)
/-- The positions of the kernel's own cells, before and after. -/
def aAll (c : Dev nD) : sProp 𝕄 :=
  iprop(aCrd c 0 ∗ aXch c 3 11 7 15 0 ∗ aXch c 4 12 8 16 0 ∗ aXch c 5 13 9 17 0 ∗ aXch c 6 14 10 18 0 ∗ aLoad c 0)
def zAll (c : Dev nD) : sProp 𝕄 :=
  iprop(aCrd c 2 ∗ aXch c 3 11 7 15 1 ∗ aXch c 4 12 8 16 1 ∗ aXch c 5 13 9 17 1 ∗ aXch c 6 14 10 18 1
    ∗ (atPos ER (cell c 19) 2 ∅ 0 ∗ atPos ER (cell c 20) 1 ∅ 0 ∗ atPos ER (cell c 21) 1 ∅ 0 ∗ atPos ER (cell c 22) 1 ∅ 0))

/-- The output a device writes, from its staged operands and everybody's keys and values. -/
def outOf (c : Dev nD) (X W U : S1024x1024.Idx → F .bf16) : S1024x1024.Idx → F .f32 :=
  oUp (nrm (A5 D (qUp X W) c) (L5 D (qUp X W) c)) U

/-- A device reads its own number. -/
theorem wp_dev (c : Dev nD) (Q : Dev nD → sProp 𝕄) :
    Q c ⊢ wp frame (wpE (defs₀ (F := F)) 𝒱₀ (c : Thread nD τ) none) Set.univ (Prog.lift .deviceId : Pg F (Dev nD)) Q := by
  rw [show (Prog.lift .deviceId : Pg F (Dev nD)) = .op .deviceId .ret from rfl, wp_deviceId, wp_ret]
  iintro H
  imodintro
  iexact H

/-- The kernel's body. -/
theorem wp_body (c : Dev nD) (h6 : cm.IsWhole) (h2 : (Memref.whole main_v4).IsWhole) (h3 : (Memref.whole main_v6).IsWhole)
    (h13 : (Memref.whole cc0_scratch7).IsWhole) (h14 : (Memref.whole cc0_scratch8).IsWhole) (h5 : (Memref.whole main_v9).IsWhole)
    (X W U q0 : S1024x1024.Idx → F .bf16) (A f : S1024x1024.Idx → F .f32) (Lc : S1024x8.Idx → F .f32)
    (hD : D.O c = outOf D c X W U) (Q : PUnit → sProp 𝕄) :
    iprop(env D κ ∗ start c ∗ slAny c Finset.univ ∗ kvPts D c ∗ oPts c f ∗ stg c X W ∗ uPts c U ∗ accs c q0 A Lc ∗ ow c 14
        ∗ gAll c ∗ aAll c ∗ atPos ER (cell c 2) 0 ∅ 0)
      ⊢ iprop((slAny c Finset.univ ∗ kvPts D c ∗ oPts c (D.O c) ∗ stg c X W ∗ uPts c U ∗ (∃ q A Lc, accs c q A Lc) ∗ ow c 0
            ∗ zAll c ∗ atPos ER (cell c 2) 1 ∅ 0 -∗ Q ⟨⟩)
        -∗ WP c (Str.body (Memref.whole cc0_stg0_0) (Memref.whole cc0_stg1_0) (Memref.whole main_v4) h2 (Memref.whole main_v6) h3 (Memref.whole cc0_stg2_0)
            (Memref.whole main_v9) h5 cm h6
            cc0_scratch1 cc0_scratch2 cc0_scratch3 cc0_scratch4 cc0_scratch5 cc0_scratch6 (Memref.whole cc0_scratch7) h13 (Memref.whole cc0_scratch8) h14
            (Memref.whole cc0_scratch9) (Memref.whole cc0_scratch10)) Q) := by
  unfold Str.body
  simp only [wp_bind]
  unfold gAll aAll
  iintro ⟨#HE, #HS, Hsl, Hkv, Ho, Hstg, Hu, Hacc, HO, ⟨Hgl, Hgs, Hg1, Hgc0, Hg2, Hgc1, Hg3, Hg4, Hgt⟩, ⟨Hac, Hx1, Hx2, Hx3, Hx4, Hal⟩, Ha2⟩ HQ
  iapply (wp_dev c)
  iapply (wp_body0 D κ c h6 h2 h3 h13 X W q0 A Lc) $$ [Hsl Hkv Hstg Hacc HO Hgl Hgs Hg1 Hx1 Hal Ha2]
  · isplitr; · iexact HE
    isplitr; · iexact HS
    iframe Hsl Hkv Hstg Hacc HO Hgl Hal Hgs Ha2 Hg1 Hx1
  iintro ⟨H0, H1, H2, H3, Hkv, Hstg, Hacc, HO, #Hn, Hr, Hal, Ha2, Hx1⟩
  iapply (wp_body1 D κ c h6 (qUp X W)) $$ [H0 H1 H2 H3 Hacc HO Hgc0 Hac Hg2 Hx2]
  · isplitr; · iexact HE
    isplitr; · iexact HS
    isplitr; · iexact Hn
    iframe H0 H1 H2 H3 Hacc HO Hgc0 Hac Hg2 Hx2
  iintro ⟨H0, H1, H2, H3, Hs0, Hs1, Hacc, HO, Hac, Hx2⟩
  iapply (wp_body2 D κ c h6 (qUp X W)) $$ [H0 H1 H2 H3 Hs0 Hs1 Hacc HO Hgc1 Hac Hg3 Hx3 Hg4 Hx4]
  · isplitr; · iexact HE
    isplitr; · iexact HS
    isplitr; · iexact Hn
    iframe H0 H1 H2 H3 Hs0 Hs1 Hacc HO Hgc1 Hac Hg3 Hx3 Hg4 Hx4
  iintro ⟨Hsl, Hacc, HO, Hac, Hx3, Hx4⟩
  unfold accs aLoad
  icases Hacc with ⟨Hq, Hb, Ha, Hl⟩
  icases Hal with ⟨A19, A20, A21, A22⟩
  iapply (wp_epi c (qUp X W) h13 _ _ U) $$ [Ha Hl Hq Hu]
  · iframe Ha Hl Hq Hu
  iintro ⟨Ha, Hl, Hq, Hu⟩
  ihave Ha := (Entails.of_eq (congrArg (aPts c) (show oUp (nrm (A5 D (qUp X W) c) (L5 D (qUp X W) c)) U = D.O c from hD.symm))) $$ Ha
  iapply (wp_out D κ c h14 h5 f) $$ [Ha Ho HO Hgt Hr A19]
  · isplitr; · iexact HE
    iframe Ha Ho HO Hgt Hr A19
  iintro ⟨Ha, Ho, HO, A19⟩
  iapply HQ
  unfold zAll
  iframe Hsl Hkv Ho Hstg Hu HO Hac Hx1 Hx2 Hx3 Hx4 A19 A20 A21 A22 Ha2
  iexists _, _, _
  iframe Hq Hb Ha Hl

end Cert.KernelIdeal.Talk

end
-- ==== Proof.Deal.lean ====
/- What the launch deals to each device: the cells, the tokens of the payments it will make, the credit of the waits
   it will do; and the opening and closing of its own cells. -/
module

public import proofs.«01_k».proof.Proof.Run2
public import Idealize.ShloMosaic.Lib.Pipeline.RegionTalk
public import Idealize.ShloMosaic.Lib.Pipeline.Kit
public import Idealize.ShloMosaic.Lib.StableHlo

@[expose] public section

set_option maxRecDepth 65536

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.KernelIdeal.Str Cert.KernelIdeal.Slots

variable {F : FTy → Type} [FloatOps F] [Named F]

local notation "𝕄" => MT nD τ sig ℕ (Elt F) ℕ UU ℕ

variable (D : Cts F) (κ : GSem nD τ sig → ℕ)

/-! ## Cell numbers -/

/-- The number of the kernel's own semaphore `i`: all numbers but the barrier's. -/
noncomputable def num (i : Fin 22) : ℕ := if i.val < 2 then i.val else i.val + 1
/-- The kernel's own semaphores. -/
noncomputable def osem (i : Fin 22) : SemLoc sig := smk (num i)

/-- A number of an own cell is below 23. -/
theorem num_lt (i : Fin 22) : num i < 23 := by revert i; decide
/-- Own cells have different numbers. -/
theorem num_inj : Function.Injective num := by decide
/-- None of them is the barrier's. -/
theorem num_ne (i : Fin 22) : num i ≠ 2 := by revert i; decide
/-- Numbers below 23 name different semaphores. -/
theorem smk_inj {a b : ℕ} (ha : a < 23) (hb : b < 23) (h : smk a = smk b) : a = b := by
  rw [← code_smk a ha, ← code_smk b hb, h]
/-- Equal cells have equal devices and numbers. -/
theorem cell_inj {c d : Dev nD} {a b : ℕ} (ha : a < 23) (hb : b < 23) (h : cell c a = cell d b) : c = d ∧ a = b :=
  ⟨congrArg (fun g : GSem nD τ sig => g.1.1) h, smk_inj ha hb (congrArg Prod.snd h)⟩

/-! ## The cells funded at launch -/

/-- The barrier cells. -/
noncomputable def barEmb : Dev nD ↪ GSem nD τ sig := ⟨fun c => cell c 2, fun _ _ h => (cell_inj (by decide) (by decide) h).1⟩
/-- The kernel's own cells. -/
noncomputable def ownEmb : Dev nD × Fin 22 ↪ GSem nD τ sig :=
  ⟨fun p => cell p.1 (num p.2), fun _ _ h =>
    Prod.ext (cell_inj (num_lt _) (num_lt _) h).1 (num_inj (cell_inj (num_lt _) (num_lt _) h).2)⟩

noncomputable abbrev barCells : Finset (GSem nD τ sig) := Finset.univ.map barEmb
noncomputable abbrev ownCells : Finset (GSem nD τ sig) := Finset.univ.map ownEmb

/-- No own cell is a barrier cell. -/
theorem disjoint_cells : Disjoint barCells ownCells := by
  rw [Finset.disjoint_left]
  rintro g h₁ h₂
  obtain ⟨c, -, rfl⟩ := Finset.mem_map.mp h₁
  obtain ⟨p, -, h⟩ := Finset.mem_map.mp h₂
  exact num_ne p.2 (cell_inj (num_lt _) (by decide) h).2

/-- Every number but 2 is an own cell's. -/
theorem num_surj : ∀ k : Fin 23, k.val ≠ 2 → ∃ i, num i = k.val := by decide

/-- Together they are all the cells. -/
theorem cells_eq : barCells ∪ ownCells = allCells := by
  ext g
  rw [Finset.mem_union]
  constructor
  · rintro (h | h)
    · obtain ⟨c, -, rfl⟩ := Finset.mem_map.mp h; exact mem_allCells c 2 (by decide)
    · obtain ⟨p, -, rfl⟩ := Finset.mem_map.mp h; exact mem_allCells p.1 (num p.2) (num_lt _)
  · intro h
    obtain ⟨⟨c, k⟩, -, rfl⟩ := Finset.mem_image.mp h
    by_cases hk : k.val = 2
    · left; exact Finset.mem_map.mpr ⟨c, Finset.mem_univ _, by show cell c 2 = cell c k.val; rw [hk]⟩
    · obtain ⟨i, hi⟩ := num_surj k hk
      right; exact Finset.mem_map.mpr ⟨(c, i), Finset.mem_univ _, by show cell c (num i) = cell c k.val; rw [hi]⟩

/-! ## The tokens, listed by who pays -/

/-- Whose cell the payment goes to. -/
inductive Side | me | left | right
  deriving DecidableEq
/-- The device on that side. -/
noncomputable def Side.of (c : Dev nD) : Side → Dev nD | .me => c | .left => lf c | .right => rt c

/-- A device's payments: the side, the cell's number, the round, the payment's number. -/
noncomputable def tkN : ℕ → Side × ℕ × ℕ × Bool
  | 0 => (.me, 19, 0, false) | 1 => (.me, 20, 0, false) | 2 => (.me, 21, 0, false) | 3 => (.me, 22, 0, false)
  | 4 => (.left, 2, 0, false) | 5 => (.right, 2, 0, true)
  | 6 => (.me, 3, 0, false) | 7 => (.me, 11, 0, false) | 8 => (.right, 7, 0, false) | 9 => (.left, 15, 0, false)
  | 10 => (.left, 0, 0, false) | 11 => (.right, 1, 0, false)
  | 12 => (.me, 4, 0, false) | 13 => (.me, 12, 0, false) | 14 => (.right, 8, 0, false) | 15 => (.left, 16, 0, false)
  | 16 => (.left, 0, 1, false) | 17 => (.right, 1, 1, false)
  | 18 => (.me, 5, 0, false) | 19 => (.me, 13, 0, false) | 20 => (.right, 9, 0, false) | 21 => (.left, 17, 0, false)
  | 22 => (.me, 6, 0, false) | 23 => (.me, 14, 0, false) | 24 => (.right, 10, 0, false) | 25 => (.left, 18, 0, false)
  | _ => (.me, 19, 1, false)
/-- Payment `i`. -/
noncomputable abbrev tk (i : Fin 27) : Side × ℕ × ℕ × Bool := tkN i.val

/-- The cell numbers paid to are below 23. -/
theorem tk_lt (i : Fin 27) : (tk i).2.1 < 23 := by revert i; decide

/-- The side a device is on is told by the device. -/
theorem side_inj (s : Side) (c d : Dev nD) (h : s.of c = s.of d) : c = d := by
  revert h; cases s <;> revert c d <;> decide
/-- Different payments are told apart by number, round and payment. -/
theorem tk_inj (i j : Fin 27) (h : (tk i).2 = (tk j).2) : i = j := by revert i j; decide

/-- The tokens, embedded. -/
noncomputable def tokEmb : Dev nD × Fin 27 ↪ GSem nD τ sig × ℕ × Bool :=
  ⟨fun p => (cell ((tk p.2).1.of p.1) (tk p.2).2.1, (tk p.2).2.2.1, (tk p.2).2.2.2), fun p q h => by
    obtain ⟨c, i⟩ := p
    obtain ⟨d, j⟩ := q
    have h1 := congrArg Prod.fst h
    have h2 := congrArg (fun t : GSem nD τ sig × ℕ × Bool => t.2.1) h
    have h3 := congrArg (fun t : GSem nD τ sig × ℕ × Bool => t.2.2) h
    obtain ⟨e1, e2⟩ := cell_inj (tk_lt i) (tk_lt j) h1
    obtain rfl := tk_inj i j (Prod.ext e2 (Prod.ext h2 h3))
    exact Prod.ext (side_inj _ _ _ e1) rfl⟩
/-- All tokens. -/
noncomputable abbrev toks : Finset (GSem nD τ sig × ℕ × Bool) := Finset.univ.map tokEmb

/-- A device's tokens. -/
def tokD (c : Dev nD) : sProp 𝕄 :=
  bigSep (Finset.univ : Finset (Fin 27)) fun i => dutyTok ER (cell ((tk i).1.of c) (tk i).2.1) (tk i).2.2.1 (tk i).2.2.2

/-- The tokens dealt out by payer. -/
theorem toks_eq : bigSep toks (fun x => (dutyTok ER x.1 x.2.1 x.2.2 : sProp 𝕄)) = bigSep Finset.univ fun c : Dev nD => tokD c := by
  rw [bigSep_map, bigSep_univ_prod]
  rfl

/-! ## The launch credit -/

/-- What a device owes a cell, as a sum over the items. -/
theorem Ow_sum (d : Dev nD) (n : ℕ) (g : GSem nD τ sig) (ι : ℕ) :
    Ow d n g ι = ∑ j ∈ Finset.range n, if g = cell (itD d j) (itK j) ∧ ι = itI j then amt (itK j) 0 else 0 := by
  induction n with
  | zero => rfl
  | succ n ih =>
    rw [Finset.sum_range_succ, ← ih, ← tallyAt_apply]
    rfl

/-- How many items go to cell number `k` at index `ι`. -/
noncomputable def cnt (k ι : ℕ) : ℕ := ((Finset.range 14).filter fun j => itK j = k ∧ itI j = ι).card

/-- Each item is owed to each device by one device. -/
theorem it_one (j : ℕ) (hj : j < 14) (c : Dev nD) : ∀ x : ℕ, (∑ d : Dev nD, if itD d j = c then x else 0) = x := by
  have h : ∃ e : Dev nD, ∀ d : Dev nD, (itD d j = c ↔ d = e) := by
    revert c; revert j; decide
  obtain ⟨e, he⟩ := h
  intro x
  rw [Finset.sum_congr rfl fun d _ => by rw [if_congr (he d) rfl rfl], Finset.sum_ite_eq' Finset.univ e fun _ => x, if_pos (Finset.mem_univ _)]

/-- What all devices together owe a cell. -/
theorem owed_cell (c : Dev nD) (k ι : ℕ) (hk : k < 23) : (∑ d : Dev nD, O₀ d (cell c k) ι) = cnt k ι * amt k 0 := by
  unfold O₀ cnt
  simp only [Ow_sum]
  rw [Finset.sum_comm, Finset.card_filter, Finset.sum_mul]
  refine Finset.sum_congr rfl fun j hj => ?_
  rw [Finset.mem_range] at hj
  by_cases h : itK j = k ∧ itI j = ι
  · obtain ⟨rfl, rfl⟩ := h
    rw [if_pos ⟨rfl, rfl⟩, one_mul]
    refine Eq.trans (Finset.sum_congr rfl fun d _ => ?_) (it_one j hj c (amt (itK j) 0))
    by_cases e : itD d j = c
    · rw [if_pos e, if_pos ⟨by rw [e], rfl⟩]
    · rw [if_neg e, if_neg fun h => e (cell_inj hk hk h.1).1.symm]
  · rw [if_neg h, zero_mul]
    refine Finset.sum_eq_zero fun d _ => if_neg fun e => h ⟨((cell_inj hk (itK_lt j) e.1).2).symm, e.2.symm⟩

/-- Indices above 1 are owed nothing. -/
theorem cnt_two (k ι : ℕ) (h : 2 ≤ ι) : cnt k ι = 0 := by
  unfold cnt
  rw [Finset.card_eq_zero, Finset.filter_eq_empty_iff]
  rintro j - ⟨-, e⟩
  have := itI_lt j
  omega

/-- The launch credit of a cell, at its two indices. -/
theorem launch_cell (c : Dev nD) (k : ℕ) (hk : k < 23) :
    tallyOn (cell c k) (launchCredit (Pipeline.owing O₀) 0 (cell c k))
      = (tallyAt (cell c k) 0 (cnt k 0 * amt k 0) + tallyAt (cell c k) 1 (cnt k 1 * amt k 0) : CellTallies nD τ sig ℕ) := by
  unfold tallyAt
  rw [← tallyOn_add]
  refine congrArg _ (Finsupp.ext fun ι => ?_)
  rw [Pipeline.launchCredit_owing, owed_cell c k ι hk, Finsupp.add_apply, Finsupp.single_apply, Finsupp.single_apply]
  match ι with
  | 0 => simp
  | 1 => simp
  | n + 2 => rw [cnt_two k (n + 2) (by omega)]; simp

/-- The semaphores' embedding by number. -/
noncomputable def smEmb : Fin 23 ↪ SemLoc sig := ⟨fun k => smk k.val, fun a b h => Fin.ext (smk_inj a.isLt b.isLt h)⟩

/-- A device's credit, cell by cell. -/
def credD (c : Dev nD) : sProp 𝕄 :=
  bigSep (Finset.univ : Finset (Fin 23)) fun k =>
    iprop(cred (tallyAt (cell c k.val) 0 (cnt k.val 0 * amt k.val 0)) ∗ cred (tallyAt (cell c k.val) 1 (cnt k.val 1 * amt k.val 0)))

/-- The launch gives it. -/
theorem creds (c : Dev nD) : (Pipeline.launchCred O₀ c : sProp 𝕄) ⊢ credD c := by
  unfold Pipeline.launchCred credD
  refine (bigSep_subset (Finset.subset_univ (Finset.univ.map smEmb))).trans ?_
  rw [bigSep_map]
  refine bigSep_mono fun k _ => ?_
  refine (Entails.of_eq (congrArg cred (launch_cell c k.val k.isLt))).trans ?_
  exact (cred_add _ _).1

/-- 27 parts, written out. -/
theorem bigSep_27 (Φ : Fin 27 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26) := by
  rw [bigSep_univ_eq_bigSepL [0, 1, 2, 3, 4, 5, 6, 7, 8, 9, 10, 11, 12, 13, 14, 15, 16, 17, 18, 19, 20, 21, 22, 23, 24, 25, 26] (by decide) (by decide)]
  rfl
/-- 23 parts, written out. -/
theorem bigSep_23 (Φ : Fin 23 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22) := by
  rw [bigSep_univ_eq_bigSepL [0, 1, 2, 3, 4, 5, 6, 7, 8, 9, 10, 11, 12, 13, 14, 15, 16, 17, 18, 19, 20, 21, 22] (by decide) (by decide)]
  rfl
/-- What a device holds to pay and to wait with. -/
theorem gAll_intro (c : Dev nD) : iprop(tokD c ∗ credD c) ⊢ (gAll c : sProp 𝕄) := by
  unfold tokD credD
  rw [bigSep_27, bigSep_23]
  unfold gAll gLoad gShake gXch gCrd
  iintro ⟨⟨T0, T1, T2, T3, T4, T5, T6, T7, T8, T9, T10, T11, T12, T13, T14, T15, T16, T17, T18, T19, T20, T21, T22, T23, T24, T25, T26⟩,
    ⟨C0a, C0b⟩, ⟨C1a, C1b⟩, ⟨C2, -⟩, -, -, -, -, ⟨C7, -⟩, ⟨C8, -⟩, ⟨C9, -⟩, ⟨C10, -⟩, -, -, -, -, ⟨C15, -⟩, ⟨C16, -⟩, ⟨C17, -⟩, ⟨C18, -⟩, -, -, -, -⟩
  isplitl [T0 T1 T2 T3]
  · isplitl [T0]; · iexact T0
    isplitl [T1]; · iexact T1
    isplitl [T2]; · iexact T2
    iexact T3
  isplitl [T4 T5 C2]
  · isplitl [T4]; · iexact T4
    isplitl [T5]; · iexact T5
    iexact C2
  isplitl [T6 T7 T8 T9 C7 C15]
  · isplitl [T6]; · iexact T6
    isplitl [T7]; · iexact T7
    isplitl [T8]; · iexact T8
    isplitl [T9]; · iexact T9
    isplitl [C7]; · iexact C7
    iexact C15
  isplitl [T10 T11 C0a C1a]
  · isplitl [T10]; · iexact T10
    isplitl [T11]; · iexact T11
    isplitl [C0a]; · iexact C0a
    iexact C1a
  isplitl [T12 T13 T14 T15 C8 C16]
  · isplitl [T12]; · iexact T12
    isplitl [T13]; · iexact T13
    isplitl [T14]; · iexact T14
    isplitl [T15]; · iexact T15
    isplitl [C8]; · iexact C8
    iexact C16
  isplitl [T16 T17 C0b C1b]
  · isplitl [T16]; · iexact T16
    isplitl [T17]; · iexact T17
    isplitl [C0b]; · iexact C0b
    iexact C1b
  isplitl [T18 T19 T20 T21 C9 C17]
  · isplitl [T18]; · iexact T18
    isplitl [T19]; · iexact T19
    isplitl [T20]; · iexact T20
    isplitl [T21]; · iexact T21
    isplitl [C9]; · iexact C9
    iexact C17
  isplitl [T22 T23 T24 T25 C10 C18]
  · isplitl [T22]; · iexact T22
    isplitl [T23]; · iexact T23
    isplitl [T24]; · iexact T24
    isplitl [T25]; · iexact T25
    isplitl [C10]; · iexact C10
    iexact C18
  iexact T26

/-! ## Opening and closing a device's own cells -/

/-- The last position of a cell. -/
noncomputable def fin (k : ℕ) : ℕ := if k < 2 ∨ k = 19 then 2 else 1

/-- All of a device's own cells, each at a property. -/
abbrev ownSep (Φ : ℕ → sProp 𝕄) : sProp 𝕄 := bigSep (Finset.univ : Finset (Fin 22)) fun i => Φ (num i)

/-- Written out. -/
theorem ownSep_eq (Φ : ℕ → sProp 𝕄) : ownSep Φ = iprop(Φ 0 ∗ Φ 1 ∗ Φ 3 ∗ Φ 4 ∗ Φ 5 ∗ Φ 6 ∗ Φ 7 ∗ Φ 8 ∗ Φ 9 ∗ Φ 10 ∗ Φ 11 ∗ Φ 12 ∗ Φ 13 ∗ Φ 14
    ∗ Φ 15 ∗ Φ 16 ∗ Φ 17 ∗ Φ 18 ∗ Φ 19 ∗ Φ 20 ∗ Φ 21 ∗ Φ 22) := by
  unfold ownSep
  rw [bigSep_univ_eq_bigSepL [0, 1, 2, 3, 4, 5, 6, 7, 8, 9, 10, 11, 12, 13, 14, 15, 16, 17, 18, 19, 20, 21] (by decide) (by decide)]
  rfl

/-- The positions before the body. -/
theorem aAll_intro (c : Dev nD) : ownSep (fun k => atPos ER (cell c k) 0 ∅ 0) ⊢ (aAll c : sProp 𝕄) := by
  rw [ownSep_eq]
  unfold aAll aCrd aXch aLoad
  iintro ⟨A0, A1, A3, A4, A5, A6, A7, A8, A9, A10, A11, A12, A13, A14, A15, A16, A17, A18, A19, A20, A21, A22⟩
  iframe A0 A1 A3 A4 A5 A6 A7 A8 A9 A10 A11 A12 A13 A14 A15 A16 A17 A18 A19 A20 A21 A22

/-- The positions after it. -/
theorem zAll_elim (c : Dev nD) : (zAll c : sProp 𝕄) ⊢ ownSep (fun k => atPos ER (cell c k) (fin k) ∅ 0) := by
  rw [ownSep_eq]
  unfold zAll aCrd aXch
  iintro ⟨⟨A0, A1⟩, ⟨A3, A11, A7, A15⟩, ⟨A4, A12, A8, A16⟩, ⟨A5, A13, A9, A17⟩, ⟨A6, A14, A10, A18⟩, A19, A20, A21, A22⟩
  isplitl [A0]; · iexact A0
  isplitl [A1]; · iexact A1
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitl [A17]; · iexact A17
  isplitl [A18]; · iexact A18
  isplitl [A19]; · iexact A19
  isplitl [A20]; · iexact A20
  isplitl [A21]; · iexact A21
  iexact A22

/-- One cell closes at its last position. -/
theorem close (c : Dev nD) (k : ℕ) (hk : k < 23) :
    iprop(recs D κ ∗ atPos ER (cell c k) (fin k) ∅ 0) ⊢ (|={Set.univ}=> semVal (cell c k) 0 : sProp 𝕄) := by
  iintro ⟨#HI, Ha⟩
  iapply (Rounds.cell_close ER (Rd D) (g := cell c k) (κ := κ (cell c k)) (Set.mem_univ _) id (R := fin k)
    (duties_after D c (smk k) (fin k) fun r hr => by
      rw [code_smk k hk]
      exact dut_after k (fin k) (by unfold fin; split <;> rfl) r hr))
  isplitr; · iapply (inv_at D κ c k hk); iexact HI
  iexact Ha

/-- A device's own cells open. -/
theorem open_all (c : Dev nD) :
    iprop(recs D κ ∗ (bigSep (Finset.univ : Finset (Fin 22)) fun i => iprop(openTok ER (cell c (num i)) ∗ semVal (cell c (num i)) 0)))
      ⊢ (|={Set.univ}=> bigSep (Finset.univ : Finset (Fin 22)) fun i => iprop(atPos ER (cell c (num i)) 0 ∅ 0 ∗ reached ER (cell c (num i)) 0) : sProp 𝕄) := by
  refine BI.Entails.trans ?_ (bigSep_fupd _ _)
  exact bigSep_with_persistent fun i _ => by
    iintro ⟨#HI, Ho, Hv⟩
    iapply (Rounds.cell_open ER (Rd D) (g := cell c (num i)) (κ := κ (cell c (num i))) (Set.mem_univ _))
    isplitr; · iapply (inv_at D κ c (num i) (num_lt i)); iexact HI
    isplitl [Ho] <;> iassumption

/-- And close. -/
theorem close_all (c : Dev nD) :
    iprop(recs D κ ∗ ownSep (fun k => atPos ER (cell c k) (fin k) ∅ 0)) ⊢ (|={Set.univ}=> ownSep (fun k => semVal (cell c k) 0) : sProp 𝕄) := by
  refine BI.Entails.trans ?_ (bigSep_fupd _ _)
  exact bigSep_with_persistent fun i _ => close D κ c (num i) (num_lt i)

end Cert.KernelIdeal.Talk

end
-- ==== Proof.StructEq.lean ====
/- The printed body is the structured one. -/
module

public import proofs.«01_k».proof.Proof.Struct
public import Idealize.ShloMosaic.Lib.Tactic

@[expose] public section

set_option maxRecDepth 65536

noncomputable section

namespace Cert.KernelIdeal.Str

open Idealize.ShloMosaic Idealize.SL.Sem
open Cert.KernelIdeal Cert.KernelIdeal.Facts₀ Cert.KernelIdeal.Facts

variable {F : FTy → Type} [FloatOps F] [Named F]

variable (a0 : Memref sig .tc .vmem S1024x1024 .bf16) (h0 : a0.IsWhole) (a1 : Memref sig .tc .vmem S1024x1024 .bf16) (h1 : a1.IsWhole)
  (a2 : Memref sig .tc .hbm S1024x1024 .bf16) (h2 : a2.IsWhole) (a3 : Memref sig .tc .hbm S1024x1024 .bf16) (h3 : a3.IsWhole)
  (a4 : Memref sig .tc .vmem S1024x1024 .bf16) (h4 : a4.IsWhole) (a5 : Memref sig .tc .hbm S1024x1024 .f32) (h5 : a5.IsWhole)
  (a6 : Memref sig .tc .vmem S4x512x2048 .bf16) (h6 : a6.IsWhole) (a7 a8 a9 a10 a11 : DmaSems sig S4) (a12 : Sems sig S2)
  (a13 : Memref sig .tc .vmem S1024x1024 .bf16) (h13 : a13.IsWhole) (a14 : Memref sig .tc .vmem S1024x1024 .f32) (h14 : a14.IsWhole)
  (a15 : Memref sig .tc .vmem S1024x512 .f32) (h15 : a15.IsWhole) (a16 : Memref sig .tc .vmem S1024x8 .f32) (h16 : a16.IsWhole)

set_option maxHeartbeats 0 in
/-- The printed body is the structured one. -/
theorem cc0_body_eq :
    cc0_body (F := F) a0 h0 a1 h1 a2 h2 a3 h3 a4 h4 a5 h5 a6 h6 a7 a8 a9 a10 a11 a12 a13 h13 a14 h14 a15 h15 a16 h16
      = body a0 a1 a2 h2 a3 h3 a4 a5 h5 a6 h6 a7 a8 a9 a10 a11 a12 a13 h13 a14 h14 a15 a16 := by
  rfl

end Cert.KernelIdeal.Str

end
-- ==== Proof.Launch.lean ====
/- The region the kernel runs in: what goes in, what comes out. -/
module

public import proofs.«01_k».proof.Proof.Deal
public import proofs.«01_k».proof.Proof.StructEq
public import proofs.«01_k».proof.Proof.Gen.KernelIdeal.Frame
public import Idealize.ShloMosaic.Lib.Pipeline.RegionTalk
public import Idealize.ShloMosaic.Lib.Pipeline.Kit
public import Idealize.ShloMosaic.Lib.StableHlo

@[expose] public section

set_option maxRecDepth 65536

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.KernelIdeal.Str Cert.KernelIdeal.Slots

variable {F : FTy → Type} [FloatOps F] [Named F]

local notation "𝕄" => MT nD τ sig ℕ (Elt F) ℕ UU ℕ

open Idealize.ShloMosaic.Pipeline (Dat BodyObligation)

variable (m : (ℓ : Loc nD τ sig) → Buf (Elt F) ℓ) (ρ : Dev nD → PrngReg)

/-! ## Contents -/

/-- A device's buffers at the start, and after the operations before the kernel. -/
def V₀ (c : Dev nD) : Valuation τ sig (Elt F) := fun b => m (c, b)
def V₁ (c : Dev nD) : Valuation τ sig (Elt F) := StableHlo.after Gen.hostOps0 (V₀ m c)

/-- The staged operands. -/
def Xc (c : Dev nD) : S1024x1024.Idx → F .bf16 := V₁ m c (Proc.devRef .tc main_v2)
def Wc (c : Dev nD) : S1024x1024.Idx → F .bf16 := V₁ m c (Proc.devRef .tc main_v7)
def Uc (c : Dev nD) : S1024x1024.Idx → F .bf16 := V₁ m c (Proc.devRef .tc main_v8)
/-- The keys and values of all devices, no output yet. -/
def D₀ : Cts F := ⟨fun c => V₁ m c (Proc.devRef .tc main_v4), fun c => V₁ m c (Proc.devRef .tc main_v6), fun _ => z1024⟩
/-- With the outputs. -/
def Dm : Cts F := ⟨fun c => V₁ m c (Proc.devRef .tc main_v4), fun c => V₁ m c (Proc.devRef .tc main_v6), fun c => outOf (D₀ m) c (Xc m c) (Wc m c) (Uc m c)⟩

/-- The output depends on the keys and values only. -/
theorem Dm_O (c : Dev nD) : (Dm m).O c = outOf (Dm m) c (Xc m c) (Wc m c) (Uc m c) := rfl

/-- The buffers after the kernel, and after the last operation. -/
def V₂ (c : Dev nD) : Valuation τ sig (Elt F) := Function.update (V₁ m c) (Proc.devRef .tc main_v9) ((Dm m).O c)
def V₃ (c : Dev nD) : Valuation τ sig (Elt F) := StableHlo.after Gen.hostOps1 (V₂ m c)

/-! ## The region's data -/

abbrev ucs : Finset (DevRef τ sig) := Pipeline.ucRefs τ sig
abbrev arrs : Finset (DevRef τ sig) := Pipeline.arrRefs (τ := τ) spec0
/-- The buffers the body addresses itself. -/
def Hs : Finset (DevRef τ sig) := {Proc.devRef .tc main_v4, Proc.devRef .tc main_v6, Proc.devRef .tc main_v9}

/-- What the launch keeps for the region. -/
def Tk (c : Dev nD) : sProp 𝕄 :=
  iprop((∃ κ, recs (Dm m) κ) ∗ (reached ER (cell c 2) 0 ∗ reached ER (cell (lf c) 2) 0 ∗ reached ER (cell (rt c) 2) 0) ∗ atPos ER (cell c 2) 0 ∅ 0
    ∗ (bigSep (Finset.univ : Finset (Fin 22)) fun i => openTok ER (cell c (num i))) ∗ gAll c)
/-- Once the device's own cells are open. -/
def Xk (c : Dev nD) : sProp 𝕄 :=
  iprop((∃ κ, env (Dm m) κ) ∗ start c ∗ gAll c ∗ aAll c ∗ atPos ER (cell c 2) 0 ∅ 0)
/-- What is left after. -/
def Yk (c : Dev nD) : sProp 𝕄 := semVal (cell c 2) 0

/-- The device's own counters at zero. -/
theorem ownSems_eq (c : Dev nD) : (Pipeline.ownSems0 osem c : sProp 𝕄) = ownSep fun k => semVal (cell c k) 0 := rfl

/-- A device's cells open, the barrier's included. -/
theorem own_intro (c : Dev nD) :
    iprop(reached ER (cell c 2) 0 ∗ bigSep (Finset.univ : Finset (Fin 22)) fun i => reached ER (cell c (num i)) 0) ⊢ (own c : sProp 𝕄) := by
  unfold own
  rw [bigSep_23]
  iintro ⟨#A2, H⟩
  ihave H := (Entails.of_eq (ownSep_eq (fun k => reached ER (cell c k) 0))) $$ H
  icases H with ⟨#A0, #A1, #A3, #A4, #A5, #A6, #A7, #A8, #A9, #A10, #A11, #A12, #A13, #A14, #A15, #A16, #A17, #A18, #A19, #A20, #A21, #A22⟩
  isplitr; · iexact A0
  isplitr; · iexact A1
  isplitr; · iexact A2
  isplitr; · iexact A3
  isplitr; · iexact A4
  isplitr; · iexact A5
  isplitr; · iexact A6
  isplitr; · iexact A7
  isplitr; · iexact A8
  isplitr; · iexact A9
  isplitr; · iexact A10
  isplitr; · iexact A11
  isplitr; · iexact A12
  isplitr; · iexact A13
  isplitr; · iexact A14
  isplitr; · iexact A15
  isplitr; · iexact A16
  isplitr; · iexact A17
  isplitr; · iexact A18
  isplitr; · iexact A19
  isplitr; · iexact A20
  isplitr; · iexact A21
  iexact A22

/-- The opening. -/
theorem hopen (c : Dev nD) : iprop(Tk m c ∗ Pipeline.ownSems0 osem c ∗ levAts L lv) ⊢ (|={Set.univ}=> Xk m c : sProp 𝕄) := by
  rw [ownSems_eq]
  unfold Tk Xk start
  iintro ⟨⟨⟨%κ, #HI⟩, ⟨#R2, #Rl, #Rr⟩, Ha, Ho, Hg⟩, Hv, #HL⟩
  ihave Hov := (Entails.of_eq (bigSep_sep' Finset.univ (fun i : Fin 22 => openTok ER (cell c (num i))) (fun i => (semVal (cell c (num i)) 0 : sProp 𝕄))).symm) $$ [Ho Hv]
  · isplitl [Ho]; · iexact Ho
    iexact Hv
  imod (open_all (Dm m) κ c) $$ [Hov] with Hx
  · isplitr; · iexact HI
    iexact Hov
  ihave Hx := (Entails.of_eq (bigSep_sep' Finset.univ (fun i : Fin 22 => (atPos ER (cell c (num i)) 0 ∅ 0 : sProp 𝕄)) (fun i => reached ER (cell c (num i)) 0))) $$ Hx
  icases Hx with ⟨Hat, #Hr⟩
  imodintro
  isplitr
  · iexists κ; unfold env
    isplitr; · iexact HI
    iexact HL
  isplitr
  · isplitr
    · iapply (own_intro c)
      isplitr; · iexact R2
      iexact Hr
    isplitr; · iexact Rl
    iexact Rr
  isplitl [Hg]; · iexact Hg
  isplitl [Hat]; · iapply (aAll_intro c); iexact Hat
  iexact Ha

/-- The region's invariant before and after its one point. -/
def Φa (c : Dev nD) : sProp 𝕄 :=
  iprop(Pipeline.scopedRest spec0 c ∗ (∃ r, prngReg c r) ∗ StableHlo.held (c.tc : Thread nD τ) Hs (V₁ m c) ∗ Xk m c)
def Φb (c : Dev nD) : sProp 𝕄 :=
  iprop(Pipeline.scopedRest spec0 c ∗ (∃ r, prngReg c r) ∗ StableHlo.held (c.tc : Thread nD τ) Hs (V₂ m c) ∗ Pipeline.ownSems0 osem c ∗ Yk c)

/-- The region's data. -/
def dat (c : Dev nD) : Dat τ (Elt F) ℕ ℕ UU ℕ cfg0 c where
  A w := V₁ m c (Proc.devRef .tc (Pipeline.arrRef spec0 w))
  after := fun
    | 0, t => ((cfg0.win 0).blk t).view.read (Elt F) (V₁ m c (Proc.devRef .tc (Pipeline.arrRef spec0 0)))
    | 1, t => ((cfg0.win 1).blk t).view.read (Elt F) (V₁ m c (Proc.devRef .tc (Pipeline.arrRef spec0 1)))
    | 2, t => ((cfg0.win 2).blk t).view.read (Elt F) (V₁ m c (Proc.devRef .tc (Pipeline.arrRef spec0 2)))
  Φ t := if t.val = 0 then Φa m c else Φb m c
  q _ := fullShare
  owed t := if t.val = 0 then O₀ c else 0

/-- An input's staging buffer holds its block. -/
theorem before0 (c : Dev nD) (t : Fin cfg0.N) (d) : (dat m c).before 0 t d = (dat m c).after 0 t :=
  ((dat m c).before_in_eq_fetched 0 rfl (fun _ => rfl) (fun _ _ _ => rfl) (fun t => rfl) t d).trans rfl
/-- The query weights before a step are those after it. -/
theorem before1 (c : Dev nD) (t : Fin cfg0.N) (d) : (dat m c).before 1 t d = (dat m c).after 1 t :=
  ((dat m c).before_in_eq_fetched 1 rfl (fun _ => rfl) (fun _ _ _ => rfl) (fun t => rfl) t d).trans rfl
/-- The output weights before a step are those after it. -/
theorem before2 (c : Dev nD) (t : Fin cfg0.N) (d) : (dat m c).before 2 t d = (dat m c).after 2 t :=
  ((dat m c).before_in_eq_fetched 2 rfl (fun _ => rfl) (fun _ _ _ => rfl) (fun t => rfl) t d).trans rfl

/-- The block is the whole array. -/
theorem after0 (c : Dev nD) (t : Fin cfg0.N) : (dat m c).after 0 t = Xc m c := by
  funext j
  exact congrArg (V₁ m c (Proc.devRef .tc main_v2)) (funext fun a => Fin.ext (Pipeline.Window.rect_emb_val_of_index_zero (win0 0) t a rfl j))
/-- The staged query weights. -/
theorem after1 (c : Dev nD) (t : Fin cfg0.N) : (dat m c).after 1 t = Wc m c := by
  funext j
  exact congrArg (V₁ m c (Proc.devRef .tc main_v7)) (funext fun a => Fin.ext (Pipeline.Window.rect_emb_val_of_index_zero (win0 1) t a rfl j))
/-- The staged output weights. -/
theorem after2 (c : Dev nD) (t : Fin cfg0.N) : (dat m c).after 2 t = Uc m c := by
  funext j
  exact congrArg (V₁ m c (Proc.devRef .tc main_v8)) (funext fun a => Fin.ext (Pipeline.Window.rect_emb_val_of_index_zero (win0 2) t a rfl j))

/-- The staging buffers as points-tos. -/
theorem stage0 (c : Dev nD) (d) :
    (owns (c : Thread nD τ) ((cfg0.win 0).stage (cfg0.slots Gen.t0_0 0)) fullShare ((dat m c).before 0 Gen.t0_0 d) : sProp 𝕄) = xPts c (Xc m c) := by
  rw [before0, after0]; exact owns_whole _ _ _ _
/-- The second window's staging buffer before the step. -/
theorem stage1 (c : Dev nD) (d) :
    (owns (c : Thread nD τ) ((cfg0.win 1).stage (cfg0.slots Gen.t0_0 1)) fullShare ((dat m c).before 1 Gen.t0_0 d) : sProp 𝕄) = wPts c (Wc m c) := by
  rw [before1, after1]; exact owns_whole _ _ _ _
/-- The third window's staging buffer before the step. -/
theorem stage2 (c : Dev nD) (d) :
    (owns (c : Thread nD τ) ((cfg0.win 2).stage (cfg0.slots Gen.t0_0 2)) fullShare ((dat m c).before 2 Gen.t0_0 d) : sProp 𝕄) = uPts c (Uc m c) := by
  rw [before2, after2]; exact owns_whole _ _ _ _
/-- The first window's staging buffer after the step. -/
theorem stage0' (c : Dev nD) :
    (owns (c : Thread nD τ) ((cfg0.win 0).stage (cfg0.slots Gen.t0_0 0)) fullShare ((dat m c).after 0 Gen.t0_0) : sProp 𝕄) = xPts c (Xc m c) := by
  rw [after0]; exact owns_whole _ _ _ _
/-- The second window's staging buffer after the step. -/
theorem stage1' (c : Dev nD) :
    (owns (c : Thread nD τ) ((cfg0.win 1).stage (cfg0.slots Gen.t0_0 1)) fullShare ((dat m c).after 1 Gen.t0_0) : sProp 𝕄) = wPts c (Wc m c) := by
  rw [after1]; exact owns_whole _ _ _ _
/-- The third window's staging buffer after the step. -/
theorem stage2' (c : Dev nD) :
    (owns (c : Thread nD τ) ((cfg0.win 2).stage (cfg0.slots Gen.t0_0 2)) fullShare ((dat m c).after 2 Gen.t0_0) : sProp 𝕄) = uPts c (Uc m c) := by
  rw [after2]; exact owns_whole _ _ _ _

/-- The buffers the body addresses, written out. -/
theorem held_Hs (c : Dev nD) (V : Valuation τ sig (Elt F)) :
    (StableHlo.held (c.tc : Thread nD τ) Hs V : sProp 𝕄)
      = iprop(((c : Thread nD τ).loc main_v4 ↦{fullShare} V (Proc.devRef .tc main_v4)) ∗ ((c : Thread nD τ).loc main_v6 ↦{fullShare} V (Proc.devRef .tc main_v6))
        ∗ ((c : Thread nD τ).loc main_v9 ↦{fullShare} V (Proc.devRef .tc main_v9))) := by
  unfold StableHlo.held
  rw [bigSep_eq_bigSepL_of_eq [Proc.devRef .tc main_v4, Proc.devRef .tc main_v6, Proc.devRef .tc main_v9] (by decide) (by decide)]
  rfl

/-- The kernel keeps the keys. -/
theorem V₂_v4 (c : Dev nD) : V₂ m c (Proc.devRef .tc main_v4) = V₁ m c (Proc.devRef .tc main_v4) :=
  Function.update_of_ne (StableHlo.devRef_ne_of_ne (by decide)) _ _
/-- The kernel keeps the values. -/
theorem V₂_v6 (c : Dev nD) : V₂ m c (Proc.devRef .tc main_v6) = V₁ m c (Proc.devRef .tc main_v6) :=
  Function.update_of_ne (StableHlo.devRef_ne_of_ne (by decide)) _ _
/-- The kernel writes its output. -/
theorem V₂_v9 (c : Dev nD) : V₂ m c (Proc.devRef .tc main_v9) = (Dm m).O c :=
  Function.update_self _ _ _

/-- What the body owes, in and out. -/
theorem owesAt_elim (c : Dev nD) (t : Fin (cfg0.N + 1)) (O : CellTallies nD τ sig ℕ) (h : (dat m c).owed t = O) :
    ((dat m c).owesAt (0 : ℕ) t : sProp 𝕄) ⊢ iprop(∃ W, owes (c : Thread nD τ) O W) := by
  unfold Dat.owesAt Pipeline.owesWithin; rw [h]
  iintro ⟨%W, -, HO⟩; iexists W; iexact HO
/-- What the body owes is what the device owes at that point. -/
theorem owesAt_intro (c : Dev nD) (t : Fin (cfg0.N + 1)) (O : CellTallies nD τ sig ℕ) (h : (dat m c).owed t = O) :
    iprop(∃ W, owes (c : Thread nD τ) O W) ⊢ ((dat m c).owesAt (0 : ℕ) t : sProp 𝕄) := by
  unfold Dat.owesAt Pipeline.owesWithin Dat.bound; rw [h]
  iintro ⟨%W, HO⟩; iexists W
  isplitr; · ipureintro; exact fun _ _ => Or.inl trivial
  iexact HO

/-- What a device owes at the start. -/
theorem owed_first (c : Dev nD) : (dat m c).owed Gen.t0_0.castSucc = O₀ c := by
  show (if (Gen.t0_0.castSucc : Fin (cfg0.N + 1)).val = 0 then O₀ c else 0) = O₀ c; exact if_pos rfl
/-- It owes nothing at the end. -/
theorem owed_last (c : Dev nD) : (dat m c).owed Gen.t0_0.succ = 0 := by
  show (if (Gen.t0_0.succ : Fin (cfg0.N + 1)).val = 0 then O₀ c else 0) = 0; exact if_neg (by decide)
/-- What the body takes. -/
theorem Φ_first (c : Dev nD) : (dat m c).Φ Gen.t0_0.castSucc = Φa m c := by
  show (if (Gen.t0_0.castSucc : Fin (cfg0.N + 1)).val = 0 then Φa m c else Φb m c) = Φa m c; exact if_pos rfl
/-- What the body leaves. -/
theorem Φ_last (c : Dev nD) : (dat m c).Φ Gen.t0_0.succ = Φb m c := by
  show (if (Gen.t0_0.succ : Fin (cfg0.N + 1)).val = 0 then Φa m c else Φb m c) = Φb m c; exact if_neg (by decide)

/-- What the body does, its staging buffers in hand. -/
theorem body_run (c : Dev nD) :
    iprop(Φa m c ∗ (∃ W, owes (c : Thread nD τ) (O₀ c) W) ∗ xPts c (Xc m c) ∗ wPts c (Wc m c) ∗ uPts c (Uc m c))
      ⊢ wp frame (wpE (defs₀ (F := F)) 𝒱₀ (c : Thread nD τ) none) Set.univ
          (cc0_body (Memref.whole cc0_stg0_0) (hstage0_0 0) (Memref.whole cc0_stg1_0) (hstage0_1 0) (Memref.whole main_v4) (Memref.isWhole_whole _)
            (Memref.whole main_v6) (Memref.isWhole_whole _) (Memref.whole cc0_stg2_0) (hstage0_2 0) (Memref.whole main_v9) (Memref.isWhole_whole _)
            (Memref.whole cc0_scratch0) (Memref.isWhole_whole _) cc0_scratch1 cc0_scratch2 cc0_scratch3 cc0_scratch4 cc0_scratch5 cc0_scratch6
            (Memref.whole cc0_scratch7) (Memref.isWhole_whole _) (Memref.whole cc0_scratch8) (Memref.isWhole_whole _) (Memref.whole cc0_scratch9)
            (Memref.isWhole_whole _) (Memref.whole cc0_scratch10) (Memref.isWhole_whole _))
          fun _ => iprop(Φb m c ∗ (∃ W, owes (c : Thread nD τ) (0 : CellTallies nD τ sig ℕ) W) ∗ xPts c (Xc m c) ∗ wPts c (Wc m c) ∗ uPts c (Uc m c)) := by
  rw [Str.cc0_body_eq]
  refine BI.Entails.trans ?_ (wp_fupd frame _ _ _ _)
  show _ ⊢ (_ : sProp 𝕄)
  unfold Φa Φb Xk Yk
  rw [Gen.scopedRest0_eq, held_Hs, held_Hs, V₂_v4, V₂_v6, V₂_v9]
  iintro ⟨⟨⟨Hsl, ⟨%q0, Hq⟩, ⟨%A, Ha⟩, Hb, ⟨%Lc, Hl⟩⟩, Hp, ⟨Hk, Hv, Ho⟩, ⟨%κ, #HE⟩, #HS, Hg, Hat, Ha2⟩, HO, Hx, Hw, Hu⟩
  iapply (wp_body (Dm m) κ c _ _ _ _ _ _ (Xc m c) (Wc m c) (Uc m c) q0 A (V₁ m c (Proc.devRef .tc main_v9)) Lc (Dm_O m c)) $$ [Hsl Hq Ha Hb Hl Hk Hv Ho Hg Hat Ha2 HO Hx Hw Hu]
  · isplitr; · iexact HE
    isplitr; · iexact HS
    isplitl [Hsl]; · iexact Hsl
    isplitl [Hk Hv]
    · unfold kvPts; isplitl [Hk]; · iexact Hk
      iexact Hv
    isplitl [Ho]; · iexact Ho
    isplitl [Hx Hw]
    · unfold stg; isplitl [Hx]; · iexact Hx
      iexact Hw
    isplitl [Hu]; · iexact Hu
    isplitl [Hq Ha Hb Hl]
    · unfold accs
      isplitl [Hq]; · iexact Hq
      isplitl [Hb]; · iexact Hb
      isplitl [Ha]; · iexact Ha
      iexact Hl
    isplitl [HO]; · iapply (Entails.of_eq (show iprop(∃ W, owes (c : Thread nD τ) (O₀ c) W) = (ow c 14 : sProp 𝕄) from rfl)); iexact HO
    isplitl [Hg]; · iexact Hg
    isplitl [Hat]; · iexact Hat
    iexact Ha2
  unfold kvPts stg accs
  iintro ⟨Hsl, ⟨Hk, Hv⟩, Ho, ⟨Hx, Hw⟩, Hu, ⟨%q1, %A1, %L1, ⟨Hq, Hb, Ha, Hl⟩⟩, HO, Hz, Ha2⟩
  ihave Hz := (zAll_elim c) $$ Hz
  ihave #HI : recs (Dm m) κ $$ []
  · unfold env; icases HE with ⟨#HI, -⟩; iexact HI
  imod (close_all (Dm m) κ c) $$ [Hz] with Hz
  · isplitr; · iexact HI
    iexact Hz
  imod (close (Dm m) κ c 2 (by decide)) $$ [Ha2] with Ha2
  · isplitr; · iexact HI
    iexact Ha2
  imodintro
  isplitl [Hsl Hq Hb Ha Hl Hp Hk Hv Ho Hz Ha2]
  · isplitl [Hsl Hq Hb Ha Hl]
    · isplitl [Hsl]; · iexact Hsl
      isplitl [Hq]; · iexists q1; iexact Hq
      isplitl [Ha]; · iexists A1; iexact Ha
      isplitl [Hb]; · iexact Hb
      iexists L1; iexact Hl
    isplitl [Hp]; · iexact Hp
    isplitl [Hk Hv Ho]
    · isplitl [Hk]; · iexact Hk
      isplitl [Hv]; · iexact Hv
      iexact Ho
    isplitl [Hz]; · rw [ownSems_eq]; iexact Hz
    iexact Ha2
  isplitl [HO]; · iapply (Entails.of_eq (show (ow c 0 : sProp 𝕄) = iprop(∃ W, owes (c : Thread nD τ) (0 : CellTallies nD τ sig ℕ) W) from rfl)); iexact HO
  isplitl [Hx]; · iexact Hx
  isplitl [Hw]; · iexact Hw
  iexact Hu

/-- The region's body. -/
theorem hbody (c : Dev nD) : BodyObligation (dat m c) (defs₀ (F := F)) 𝒱₀ (0 : ℕ) Set.univ := fun t => by
  obtain rfl := Gen.fin_N0 t
  rw [Gen.bigSep_W0, Gen.bigSep_W0, Φ_first, Φ_last]
  refine BI.Entails.trans (Q := iprop(Φa m c ∗ (∃ W, owes (c : Thread nD τ) (O₀ c) W) ∗ xPts c (Xc m c) ∗ wPts c (Wc m c) ∗ uPts c (Uc m c))) ?_
    (BI.Entails.trans (body_run m c) (wp_mono frame _ _ fun _ => ?_))
  · show _ ⊢ (_ : sProp 𝕄)
    iintro ⟨HΦ, HO, ⟨%d0, Hx⟩, ⟨%d1, Hw⟩, ⟨%d2, Hu⟩⟩
    isplitl [HΦ]; · iexact HΦ
    isplitl [HO]; · iapply (owesAt_elim m c _ (O₀ c) (owed_first m c)); iexact HO
    isplitl [Hx]; · iapply (Entails.of_eq (stage0 m c d0)); iexact Hx
    isplitl [Hw]; · iapply (Entails.of_eq (stage1 m c d1)); iexact Hw
    iapply (Entails.of_eq (stage2 m c d2)); iexact Hu
  · show _ ⊢ (_ : sProp 𝕄)
    iintro ⟨HΦ, HO, Hx, Hw, Hu⟩
    isplitl [HΦ]; · iexact HΦ
    isplitl [HO]; · iapply (owesAt_intro m c _ 0 (owed_last m c)); iexact HO
    isplitl [Hx]; · iapply (Entails.of_eq (stage0' m c).symm); iexact Hx
    isplitl [Hw]; · iapply (Entails.of_eq (stage1' m c).symm); iexact Hw
    iapply (Entails.of_eq (stage2' m c).symm); iexact Hu

end Cert.KernelIdeal.Talk

end
-- ==== Proof.Regs.lean ====
/- The program as three segments: the operations before the kernel, the kernel's region, the operation after. -/
module

public import proofs.«01_k».proof.Proof.Launch
public import Idealize.ShloMosaic.Lib.Pipeline.Regions
public import proofs.«01_k».proof.Proof.Gen.KernelIdeal.Frame
public import Idealize.ShloMosaic.Lib.Pipeline.RegionTalk
public import Idealize.ShloMosaic.Lib.Pipeline.Kit
public import Idealize.ShloMosaic.Lib.StableHlo

@[expose] public section

set_option maxRecDepth 65536

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.KernelIdeal.Str Cert.KernelIdeal.Slots

variable {F : FTy → Type} [FloatOps F] [Named F]

local notation "𝕄" => MT nD τ sig ℕ (Elt F) ℕ UU ℕ

open Idealize.ShloMosaic.Pipeline (Dat BodyObligation)

variable (m : (ℓ : Loc nD τ sig) → Buf (Elt F) ℓ) (ρ : Dev nD → PrngReg)

/-! ## The segments -/

abbrev adm : (p : Fin 1) → (pcfgs (F := F) p).Adm := fun p => (cfgs p).toPCfg_adm
/-- The data of the one region. -/
def pdats : (p : Fin 1) → (c : Dev nD) → Dat τ (Elt F) ℕ ℕ UU ℕ (Pipeline.pin (pcfgs (F := F)) adm p) c
  | 0 => dat m

local notation "ℍ" => Pipeline.HostSeg (Name := ℕ) (U := UU) (pcfgs (F := F)) (defs₀ (F := F)) 𝒱₀ L lv
local notation "ℝ𝕊" => Pipeline.RegionSeg (pcfgs (F := F)) adm (pdats m) (0 : ℕ) (defs₀ (F := F)) 𝒱₀ L lv

/-- What rides along before the region, and after it. -/
def R (c : Dev nD) : sProp 𝕄 := iprop(Tk m c ∗ (∃ r, prngReg c r) ∗ ∃ W, owes (c : Thread nD τ) (O₀ c) W)
def R' (c : Dev nD) : sProp 𝕄 := iprop(semVal (cell c 2) 0 ∗ ∃ W, owes (c : Thread nD τ) (0 : CellTallies nD τ sig ℕ) W)

/-- The operations before the kernel. -/
def seg0 : ℍ := Pipeline.HostSeg.ofOps _ _ _ _ _ ucs Gen.hostOps0
  (fun op h => Pipeline.sub_ucRefs op (List.forall_iff_forall_mem.mp Gen.hostOps0_sub op h)) (List.forall_iff_forall_mem.mp Gen.hostOps0_fresh) (V₀ m) (R m)
/-- The operation after it. -/
def seg1 : ℍ := Pipeline.HostSeg.ofOps _ _ _ _ _ ucs Gen.hostOps1
  (fun op h => Pipeline.sub_ucRefs op (List.forall_iff_forall_mem.mp Gen.hostOps1_sub op h)) (List.forall_iff_forall_mem.mp Gen.hostOps1_fresh) (V₂ m) R'

/-- The region's launch facts, whatever is admitted. -/
theorem kitP : Pipeline.PLaunchFacts (nD := nD) (τ := τ) (pcfgs (F := F)) 0 where
  cellOf_inj a := by rw [Subsingleton.elim a adm]; exact Gen.cellOf_inj
  win := Gen.winFacts0
  pre := Pipeline.PreFacts.none _
  block_pos := Gen.block_pos0
  arr_whole := Gen.arr_whole0
  stage_whole := Gen.stage_whole0

/-- Everything owed sits above the staging waits. -/
theorem cutD (c : Dev nD) (t : Fin (cfg0.N + 1)) (g : GSem nD τ sig) (i : ℕ) (h : 0 < (dat m c).owed t g i) : i ∈ L g ∧ (0 : ℕ) < lv g i := by
  have e : (dat m c).owed t = if t.val = 0 then O₀ c else 0 := rfl
  rw [e] at h
  split at h
  · obtain ⟨j, hj, rfl, rfl⟩ := Ow_pos c 14 g i h
    refine ⟨mem_L _ _ _ (itI_lt j), ?_⟩
    rw [lv_cell _ _ _ (itK_lt j)]
    have hall : ∀ j < 14, 0 < lvl (itK j) (itI j) := by decide
    exact hall j hj
  · exact absurd h (Nat.lt_irrefl 0)

/-- The buffers that the body addresses are no arrays of the pipeline. -/
theorem disjH : Hs ⊆ ucs \ arrs := by decide

/-- The kernel keeps every buffer but its output. -/
theorem V₂_of_ne (c : Dev nD) (b : DevRef τ sig) (h : b ≠ Proc.devRef .tc main_v9) : V₂ m c b = V₁ m c b := Function.update_of_ne h _ _

/-- The body's own semaphores. -/
theorem own_facts : Pipeline.OwnSemFacts spec0 osem := by decide

/-- No window is an output. -/
theorem isOut_none : ∀ w : Fin 3, (cfg0.win w).isOut = false := by decide
/-- No window's array is the output. -/
theorem arr_ne : ∀ w : Fin 3, Proc.devRef (τ := τ) (sig := sig) .tc (Pipeline.arrRef spec0 w) ≠ Proc.devRef .tc main_v9 := by decide
/-- Each window holds its array whole. -/
theorem share_full (c : Dev nD) : ∀ w : Fin 3, (dat m c).share w = fullShare
  | 0 => rfl | 1 => rfl | 2 => rfl

set_option backward.isDefEq.respectTransparency.types false in
/-- The region. -/
def reg : ℝ𝕊 0 :=
  Pipeline.RegionSeg.ofTalk (pcfgs (F := F)) adm (pdats m) (0 : ℕ) (defs₀ (F := F)) 𝒱₀ L lv 0 osem own_facts
    Hs (ucs \ arrs) disjH kitP rfl (fun c => (hbody m c).loose)
    (fun _ => 0) O₀ (fun c => (show O₀ c = 0 + O₀ c from (zero_add _).symm)) (fun c => owed_last m c) (fun _ => rfl) (fun c w => share_full m c w)
    (V₁ m) (V₂ m) (fun c b hb => V₂_of_ne m c b fun h => (Finset.mem_sdiff.mp hb).2 (by rw [h]; decide))
    (Tk m) Yk (Xk m) Yk (hopen m) (fun c => BI.Entails.refl _) (fun c => Entails.of_eq (Φ_last m c))
    (fun c => by iintro H; imodintro; iexact H)
    (fun _ => 0)
    ⟨fun c w s => mem_L c _ 0 (by decide), fun c w s => by
        have : ∀ (w : Fin 3) (s : Fin ((cfg0.win w).nbuf)), lvl (code (.dma ((cfg0.win w).sem s))) 0 = 0 := by decide
        exact le_of_eq (this w s),
      fun c t g i h => cutD m c t g i h⟩
    (fun _ => iprop(emp))
    (fun c w => rfl) (fun c w => by
      show (dat m c).arrAt w _ = _
      rw [Dat.arrAt_in (hin := isOut_none w)]
      exact (V₂_of_ne m c _ (arr_ne w)).symm)

end Cert.KernelIdeal.Talk

end
-- ==== Proof.Run.lean ====
/- The launch and the run of the whole program. -/
module

public import proofs.«01_k».proof.Proof.Regs
public import Idealize.ShloMosaic.Lib.Pipeline.Regions
public import proofs.«01_k».proof.Proof.Gen.KernelIdeal.Frame
public import Idealize.ShloMosaic.Lib.Pipeline.RegionTalk
public import Idealize.ShloMosaic.Lib.Pipeline.Kit
public import Idealize.ShloMosaic.Lib.StableHlo

@[expose] public section

set_option maxRecDepth 65536

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts Cert.KernelIdeal.Str Cert.KernelIdeal.Slots

variable {F : FTy → Type} [FloatOps F] [Named F]

local notation "𝕄" => MT nD τ sig ℕ (Elt F) ℕ UU ℕ

open Idealize.ShloMosaic.Pipeline (Dat BodyObligation)

variable (m : (ℓ : Loc nD τ sig) → Buf (Elt F) ℓ) (ρ : Dev nD → PrngReg)

/-! ## The launch -/

/-- The launch element: the pipeline library's part, and the protocol's. -/
def u₀ : UU :=
  (Rounds.initOf (Pipeline.cells (Pipeline.pin (pcfgs (F := F)) adm) Gen.cellOf_inj) (Pipeline.launchToks (Pipeline.pin (pcfgs (F := F)) adm) Gen.cellOf_inj),
    Rounds.launchOf barCells ownCells toks)

/-- The protocol's launch element, all of it with device 0 until it is dealt out. -/
def G (c : Dev nD) : sProp 𝕄 := if c = 0 then BI.own (ER (Rounds.launchOf barCells ownCells toks)) else iprop(emp)
/-- The devices' tokens are the launch's. -/
theorem G_eq : bigSep Finset.univ (G (F := F)) = BI.own (ER (Rounds.launchOf barCells ownCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- The one unscoped counter. -/
theorem unscoped_one : ∀ sm : SemLoc sig, sm.isScoped .tc = false → sm = smk 2 := by decide
/-- The only semaphore outside the region is the barrier. -/
theorem unscopedSems0_eq (c : Dev nD) : (unscopedSems0 c : sProp 𝕄) = semVal (cell c 2) 0 := by
  unfold unscopedSems0
  rw [show (Finset.univ.filter fun sm : SemLoc sig => ¬ sm.isScoped .tc) = {smk 2} from by decide, BI.bigSep_singleton]

/-- What every device may consult. -/
def facts (κ : GSem nD τ sig → ℕ) : sProp 𝕄 := iprop(recs (Dm m) κ ∗ bigSep barCells fun g => reached ER g 0)
instance facts_persistent (κ : GSem nD τ sig → ℕ) : BI.Persistent (facts m κ) := by unfold facts; infer_instance

/-- Each device's barrier has reached its first round. -/
theorem reached_at (c : Dev nD) : (bigSep barCells fun g => (reached ER g 0 : sProp 𝕄)) ⊢ reached ER (cell c 2) 0 :=
  bigSep_elim (Finset.mem_map_of_mem barEmb (Finset.mem_univ c))

/-- A device's own share of the ghost state. -/
def mine (c : Dev nD) : sProp 𝕄 :=
  iprop(atPos ER (cell c 2) 0 ∅ 0 ∗ (bigSep (Finset.univ : Finset (Fin 22)) fun i => openTok ER (cell c (num i))) ∗ tokD c)

abbrev T₀ (c : Dev nD) : sProp 𝕄 := iprop(StableHlo.held (c : Thread nD τ) ucs (V₀ m c) ∗ R m c)
abbrev Tₙ (c : Dev nD) : sProp 𝕄 := iprop(StableHlo.held (c : Thread nD τ) ucs (V₃ m c) ∗ semVal (cell c 2) 0)

/-- The rest of what it starts with. -/
def bundle (c : Dev nD) : sProp 𝕄 :=
  iprop(StableHlo.held (c : Thread nD τ) ucs (V₀ m c) ∗ credD c ∗ owes (c : Thread nD τ) (O₀ c) ∅ ∗ ∃ r, prngReg c r)

/-- What a device starts from. -/
theorem T₀_intro (κ : GSem nD τ sig → ℕ) (c : Dev nD) : iprop(facts m κ ∗ (mine c ∗ bundle m c)) ⊢ T₀ m c := by
  unfold facts mine bundle T₀ R Tk
  iintro ⟨⟨#HI, #HR⟩, ⟨Ha, Ho, Ht⟩, Hh, Hc, HO, Hp⟩
  isplitl [Hh]; · iexact Hh
  isplitl [Ha Ho Ht Hc]
  · isplitr; · iexists κ; iexact HI
    isplitr
    · isplitr; · iapply (reached_at (F := F) c); iexact HR
      isplitr; · iapply (reached_at (F := F) (lf c)); iexact HR
      iapply (reached_at (F := F) (rt c)); iexact HR
    isplitl [Ha]; · iexact Ha
    isplitl [Ho]; · iexact Ho
    iapply (gAll_intro c)
    isplitl [Ht]; · iexact Ht
    iexact Hc
  isplitl [Hp]; · iexact Hp
  iexists ∅; iexact HO

/-- A family of pairs is a pair of families. -/
theorem pairs {ι : Type} [Fintype ι] [DecidableEq ι] (Φ Ψ : ι → sProp 𝕄) :
    (bigSep Finset.univ fun i => iprop(Φ i ∗ Ψ i)) = iprop(bigSep Finset.univ Φ ∗ bigSep Finset.univ Ψ) := bigSep_sep' _ _ _

/-- What a device is launched with, sorted. -/
theorem sorted (c : Dev nD) :
    iprop(unscopedBufs c (fun b => m ((c : Thread nD τ).loc b)) ∗ unscopedSems0 c ∗ owes (c : Thread nD τ) (O₀ c) ∅ ∗ Pipeline.launchCred O₀ c ∗ prngReg c (ρ c) ∗ G c)
      ⊢ (iprop(bundle m c ∗ (semVal (cell c 2) 0 ∗ G c)) : sProp 𝕄) := by
  rw [show unscopedBufs c (fun b => m ((c : Thread nD τ).loc b)) = StableHlo.held (c : Thread nD τ) ucs (V₀ m c) from Pipeline.unscopedBufs_held c (V₀ m c),
    unscopedSems0_eq]
  unfold bundle
  iintro ⟨Hh, Hus, HO, Hcr, Hp, HG⟩
  isplitl [Hh HO Hcr Hp]
  · isplitl [Hh]; · iexact Hh
    isplitl [Hcr]; · iapply (creds c); iexact Hcr
    isplitl [HO]; · iexact HO
    iexists (ρ c); iexact Hp
  isplitl [Hus]; · iexact Hus
  iexact HG

/-- All cells funded and everything dealt out. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (cell c 2) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c 2) 0 ∅ 0 : sProp 𝕄)) :=
    Entails.of_eq (bigSep_map (s := Finset.univ) barEmb (Φ := fun g : GSem nD τ sig => (atPos ER g 0 ∅ 0 : sProp 𝕄)))
  have hop : bigSep ownCells (fun g => (openTok ER g : sProp 𝕄))
      ⊢ bigSep Finset.univ (fun c : Dev nD => bigSep (Finset.univ : Finset (Fin 22)) fun i => openTok ER (cell c (num i))) :=
    Entails.of_eq (by rw [bigSep_map, bigSep_univ_prod]; rfl)
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (cell c 2) 0 ∗ G c)) : sProp 𝕄) from bigSep_mono fun c _ => sorted m ρ c) $$ H
  ihave H := (Entails.of_eq (pairs (F := F) _ _)) $$ H
  icases H with ⟨HB, H⟩
  ihave H := (Entails.of_eq (pairs (F := F) _ _)) $$ H
  icases H with ⟨Hv, HG⟩
  ihave HG := (Entails.of_eq (G_eq (F := F))) $$ HG
  imod (Rounds.fund_launch ER (Rd (Dm m)) disjoint_cells (fun g _ h => h) toks) $$ [Hv HG] with ⟨%κ, -, #Hinv, #Hr, Hat, Hopen, Htok⟩
  · isplitl [Hv]
    · iapply hv; iexact Hv
    · iexact HG
  imodintro
  iapply (bigSep_with_persistent (R := facts m κ) (Φ := fun c => iprop(mine c ∗ bundle m c)) fun c _ => T₀_intro m κ c)
  isplitr
  · unfold facts recs
    rw [← cells_eq]
    isplitr; · iexact Hinv
    iexact Hr
  iapply (Entails.of_eq (pairs (F := F) _ _).symm)
  isplitr [HB]
  · unfold mine
    iapply (Entails.of_eq (pairs (F := F) _ _).symm)
    isplitl [Hat]; · iapply hat; iexact Hat
    iapply (Entails.of_eq (pairs (F := F) _ _).symm)
    isplitl [Hopen]; · iapply hop; iexact Hopen
    iapply (Entails.of_eq (toks_eq (F := F))); iexact Htok
  · iexact HB

/-! ## The run -/

def segs : List (Pipeline.Seg (pcfgs (F := F)) adm (pdats m) (0 : ℕ) (defs₀ (F := F)) 𝒱₀ L lv) := [.host (seg0 m), .region (reg m), .host (seg1 m)]

/-- The pipeline's arrays are among the buffers. -/
theorem arrs_sub : arrs ⊆ ucs := by decide

/-- Into the region. -/
theorem reg_pre (c : Dev nD) : iprop(StableHlo.held (c : Thread nD τ) ucs (V₁ m c) ∗ R m c) ⊢ (reg m).pre c := by
  show _ ⊢ iprop(StableHlo.held (c.tc : Thread nD τ) arrs (V₁ m c) ∗ (∃ r, prngReg c r)
    ∗ (StableHlo.held (c.tc : Thread nD τ) (ucs \ arrs) (V₁ m c) ∗ emp) ∗ Tk m c ∗ ∃ Wd, owes (c : Thread nD τ) (0 + O₀ c) Wd)
  rw [zero_add, StableHlo.held_sub_split (c.tc : Thread nD τ) arrs_sub (V₁ m c)]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- Out of it. -/
theorem reg_post (c : Dev nD) : (reg m).post c ⊢ iprop(StableHlo.held (c : Thread nD τ) ucs (V₂ m c) ∗ R' c) := by
  show iprop(StableHlo.held (c.tc : Thread nD τ) arrs (V₂ m c) ∗ (∃ r, prngReg c r)
    ∗ (StableHlo.held (c.tc : Thread nD τ) (ucs \ arrs) (V₂ m c) ∗ emp) ∗ Yk c ∗ ∃ Wd, owes (c : Thread nD τ) (0 : CellTallies nD τ sig ℕ) Wd) ⊢ _
  rw [StableHlo.held_sub_split (c.tc : Thread nD τ) arrs_sub (V₂ m c)]
  unfold R' Yk
  iintro ⟨Ha, -, ⟨Hr, -⟩, Hb, HO⟩
  isplitl [Ha Hr]
  · isplitl [Ha]; · iexact Ha
    iexact Hr
  isplitl [Hb]; · iexact Hb
  iexact HO

/-- The buffers the claims name. -/
def outs : Finset (DevRef τ sig) :=
  {Proc.devRef .tc main_arg0, Proc.devRef .tc main_arg1, Proc.devRef .tc main_arg2, Proc.devRef .tc main_arg3, Proc.devRef .tc main_arg4, Proc.devRef .tc main_v10}
/-- The arguments and the result are among the buffers. -/
theorem outs_sub : outs ⊆ ucs := by decide
/-- The arguments and the result, one by one. -/
theorem held_outs (c : Dev nD) (V : Valuation τ sig (Elt F)) :
    (StableHlo.held (c : Thread nD τ) outs V : sProp 𝕄)
      = iprop(((c : Thread nD τ).loc main_arg0 ↦{fullShare} V (Proc.devRef .tc main_arg0)) ∗ ((c : Thread nD τ).loc main_arg1 ↦{fullShare} V (Proc.devRef .tc main_arg1))
        ∗ ((c : Thread nD τ).loc main_arg2 ↦{fullShare} V (Proc.devRef .tc main_arg2)) ∗ ((c : Thread nD τ).loc main_arg3 ↦{fullShare} V (Proc.devRef .tc main_arg3))
        ∗ ((c : Thread nD τ).loc main_arg4 ↦{fullShare} V (Proc.devRef .tc main_arg4)) ∗ ((c : Thread nD τ).loc main_v10 ↦{fullShare} V (Proc.devRef .tc main_v10))) := by
  unfold StableHlo.held
  rw [bigSep_eq_bigSepL_of_eq [Proc.devRef .tc main_arg0, Proc.devRef .tc main_arg1, Proc.devRef .tc main_arg2, Proc.devRef .tc main_arg3, Proc.devRef .tc main_arg4, Proc.devRef .tc main_v10] (by decide) (by decide)]
  rfl

/-- A buffer no operation writes is as launched. -/
theorem V₃_arg (c : Dev nD) (b : Ref sig .tc) (h0 : ∀ op ∈ Gen.hostOps0 (F := F), Proc.devRef (τ := τ) .tc b ∉ op.writes)
    (h1 : ∀ op ∈ Gen.hostOps1 (F := F), Proc.devRef (τ := τ) .tc b ∉ op.writes) (h : b ≠ main_v9) :
    V₃ m c (Proc.devRef .tc b) = m (c, Proc.devRef .tc b) := by
  unfold V₃
  rw [StableHlo.after_of_forall_not_mem _ _ h1, V₂_of_ne m c _ (StableHlo.devRef_ne_of_ne h)]
  unfold V₁
  rw [StableHlo.after_of_forall_not_mem _ _ h0]
  rfl

/-- The result: the kernel's output in the result's shape. -/
def res (c : Dev nD) : Buf (Elt F) ((c : Thread nD τ).loc main_v10) := V₃ m c (Proc.devRef .tc main_v10)

/-- Argument 0 is left as it was. -/
theorem V₃_arg0 (c : Dev nD) : V₃ m c (Proc.devRef .tc main_arg0) = m (c, Proc.devRef .tc main_arg0) :=
  V₃_arg m c main_arg0 (List.forall_iff_forall_mem.mp (by
      simp only [Gen.hostOps0, List.Forall, StableHlo.unary_writes, StableHlo.reshape_writes, Finset.mem_singleton]
      repeat' apply And.intro
      all_goals exact StableHlo.devRef_ne_of_ne (by decide)))
    (List.forall_iff_forall_mem.mp (by
      simp only [Gen.hostOps1, List.Forall, StableHlo.unary_writes, StableHlo.reshape_writes, Finset.mem_singleton]
      exact StableHlo.devRef_ne_of_ne (by decide))) (by decide)
/-- Argument 1 is left as it was. -/
theorem V₃_arg1 (c : Dev nD) : V₃ m c (Proc.devRef .tc main_arg1) = m (c, Proc.devRef .tc main_arg1) :=
  V₃_arg m c main_arg1 (List.forall_iff_forall_mem.mp (by
      simp only [Gen.hostOps0, List.Forall, StableHlo.unary_writes, StableHlo.reshape_writes, Finset.mem_singleton]
      repeat' apply And.intro
      all_goals exact StableHlo.devRef_ne_of_ne (by decide)))
    (List.forall_iff_forall_mem.mp (by
      simp only [Gen.hostOps1, List.Forall, StableHlo.unary_writes, StableHlo.reshape_writes, Finset.mem_singleton]
      exact StableHlo.devRef_ne_of_ne (by decide))) (by decide)
/-- Argument 2 is left as it was. -/
theorem V₃_arg2 (c : Dev nD) : V₃ m c (Proc.devRef .tc main_arg2) = m (c, Proc.devRef .tc main_arg2) :=
  V₃_arg m c main_arg2 (List.forall_iff_forall_mem.mp (by
      simp only [Gen.hostOps0, List.Forall, StableHlo.unary_writes, StableHlo.reshape_writes, Finset.mem_singleton]
      repeat' apply And.intro
      all_goals exact StableHlo.devRef_ne_of_ne (by decide)))
    (List.forall_iff_forall_mem.mp (by
      simp only [Gen.hostOps1, List.Forall, StableHlo.unary_writes, StableHlo.reshape_writes, Finset.mem_singleton]
      exact StableHlo.devRef_ne_of_ne (by decide))) (by decide)
/-- Argument 3 is left as it was. -/
theorem V₃_arg3 (c : Dev nD) : V₃ m c (Proc.devRef .tc main_arg3) = m (c, Proc.devRef .tc main_arg3) :=
  V₃_arg m c main_arg3 (List.forall_iff_forall_mem.mp (by
      simp only [Gen.hostOps0, List.Forall, StableHlo.unary_writes, StableHlo.reshape_writes, Finset.mem_singleton]
      repeat' apply And.intro
      all_goals exact StableHlo.devRef_ne_of_ne (by decide)))
    (List.forall_iff_forall_mem.mp (by
      simp only [Gen.hostOps1, List.Forall, StableHlo.unary_writes, StableHlo.reshape_writes, Finset.mem_singleton]
      exact StableHlo.devRef_ne_of_ne (by decide))) (by decide)
/-- Argument 4 is left as it was. -/
theorem V₃_arg4 (c : Dev nD) : V₃ m c (Proc.devRef .tc main_arg4) = m (c, Proc.devRef .tc main_arg4) :=
  V₃_arg m c main_arg4 (List.forall_iff_forall_mem.mp (by
      simp only [Gen.hostOps0, List.Forall, StableHlo.unary_writes, StableHlo.reshape_writes, Finset.mem_singleton]
      repeat' apply And.intro
      all_goals exact StableHlo.devRef_ne_of_ne (by decide)))
    (List.forall_iff_forall_mem.mp (by
      simp only [Gen.hostOps1, List.Forall, StableHlo.unary_writes, StableHlo.reshape_writes, Finset.mem_singleton]
      exact StableHlo.devRef_ne_of_ne (by decide))) (by decide)

set_option backward.isDefEq.respectTransparency.types false in
/-- From any memory with zero counters, every fair execution ends with the arguments unchanged, the result as computed, and every counter at zero. -/
theorem run_main : θ_run (defs (F := F)) (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_v10) = res m c) ∧ r.2.sem = fun _ => 0) :=
  Pipeline.θ_run_regions_kit_sems (pcfgs (F := F)) adm (pdats m) (0 : ℕ) Gen.cellOf_inj EP (defs₀ (F := F)) 𝒱₀ L lv m ρ main (segs m)
    (fun c Q => by rw [Gen.main_segs adm (pdats m) (0 : ℕ) 𝒱₀ L lv (seg0 m) (seg1 m) (reg m) rfl rfl c]; rfl)
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_eq]; iexact HX)
    (T₀ := T₀ m) (Tₙ := Tₙ m)
    (hch := by
      refine ⟨fun c => .rfl, fun c => reg_pre m c, fun c => reg_post m c, fun c => ?_⟩
      show iprop(StableHlo.held (c : Thread nD τ) ucs (V₃ m c) ∗ R' c) ⊢ iprop(Tₙ m c ∗ ∃ W, owes (c : Thread nD τ) (0 : CellTallies nD τ sig ℕ) W)
      unfold R'
      iintro ⟨Hh, Hb, HO⟩
      isplitr [HO]
      · isplitl [Hh]; · iexact Hh
        iexact Hb
      · iexact HO)
    (hinit := init m ρ)
    (QY := fun c s => (s.mem ((c : Thread nD τ).loc main_arg0) = V₃ m c (Proc.devRef .tc main_arg0)
        ∧ s.mem ((c : Thread nD τ).loc main_arg1) = V₃ m c (Proc.devRef .tc main_arg1)
        ∧ s.mem ((c : Thread nD τ).loc main_arg2) = V₃ m c (Proc.devRef .tc main_arg2)
        ∧ s.mem ((c : Thread nD τ).loc main_arg3) = V₃ m c (Proc.devRef .tc main_arg3)
        ∧ s.mem ((c : Thread nD τ).loc main_arg4) = V₃ m c (Proc.devRef .tc main_arg4)
        ∧ s.mem ((c : Thread nD τ).loc main_v10) = V₃ m c (Proc.devRef .tc main_v10)) ∧ s.sem (cell c 2) = 0)
    (hfin := fun c s' => by
      dsimp only [Tₙ]
      rw [StableHlo.held_sub_split (c : Thread nD τ) outs_sub (V₃ m c), held_outs]
      iintro ⟨⟨⟨⟨H0, H1, H2, H3, H4, H5⟩, -⟩, Hb0⟩, HSI⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => by
        obtain ⟨⟨h0, h1, h2, h3, h4, h5⟩, -⟩ := h c
        exact ⟨h0.trans (V₃_arg0 m c), h1.trans (V₃_arg1 m c), h2.trans (V₃_arg2 m c), h3.trans (V₃_arg3 m c), h4.trans (V₃_arg4 m c), h5⟩,
      sem_eq_zero hs fun c sm hsm => by
        obtain rfl := unscoped_one sm hsm
        exact (h c).2⟩)

end Cert.KernelIdeal.Talk

end
-- ==== Proof.Frames.lean ====
module

public import proofs.«01_k».proof.Defs
public import proofs.«01_k».proof.Proof.Run
public import proofs.«01_k».proof.Proof.Gen.Kernel
public import proofs.«01_k».proof.Proof.Gen.ReferenceIdeal.Run
public import Idealize.ShloMosaic.PureOps.BitExact
public import Idealize.ShloMosaic.Lib.StableHlo.RunHlo
public import Idealize.ShloMosaic.Lib.Quiescent

@[expose] public section

set_option maxRecDepth 1000000

noncomputable section

namespace Cert.Proof

open Idealize.ShloMosaic Idealize.SL.Sem

/-! The frames. The kernel and its idealized twin differ in one place: the mask's constant, which the first spells by
its word and the second by its name. At the bits a name may be read as the word it stands for, and then the two
programs are one, so the run over any values serves both. -/

/-- At the bits a named constant is the word that it stands for. -/
@[reducible] def wordNamed : Named Bits := ⟨fun _ _ {φ} b => FloatOps.ofBits φ b⟩

/-- With names read as words the two body tables agree. -/
theorem defs0_eq : @Cert.Kernel.defs₀ Bits _ _ = @Cert.KernelIdeal.defs₀ Bits _ wordNamed _ := by
  funext pr ℓ a
  cases pr with
  | tc => match ℓ, a with
    | ⟨0, _⟩, (t, s) => rfl
  | scScalar _ => rfl
  | scVector _ _ => rfl

/-- So do the tables with the pipeline's own bodies beside them. -/
theorem defs_eq : @Cert.Kernel.defs Bits _ _ = @Cert.KernelIdeal.defs Bits _ wordNamed _ :=
  congrArg (Pipeline.defs (nD := KernelIdeal.nD) (τ := KernelIdeal.τ) (sig := KernelIdeal.sig) (Λ₀ := KernelIdeal.Λ₀)
    (@Cert.KernelIdeal.pcfgs Bits _)) defs0_eq

/-- The kernel's frame. -/
theorem frame_kernel : Cert.quiescent_Kernel := fun m ρ _ => by
  have h := @Cert.KernelIdeal.Talk.run_main Bits _ wordNamed m ρ
  rw [← defs_eq] at h
  exact θ_run_mono h fun r hr => ⟨fun c => ⟨(hr.1 c).1, (hr.1 c).2.1, (hr.1 c).2.2.1, (hr.1 c).2.2.2.1, (hr.1 c).2.2.2.2.1⟩, hr.2⟩

/-- The idealized kernel's frame. -/
theorem frame_ideal : Cert.quiescent_KernelIdeal := fun m ρ _ =>
  θ_run_mono (Cert.KernelIdeal.Talk.run_main (F := Ideal) m ρ)
    fun r hr => ⟨fun c => ⟨(hr.1 c).1, (hr.1 c).2.1, (hr.1 c).2.2.1, (hr.1 c).2.2.2.1, (hr.1 c).2.2.2.2.1⟩, hr.2⟩

/-- The reference's frame: it has no semaphore at all. -/
theorem frame_reference : Cert.quiescent_ReferenceIdeal := fun m ρ _ =>
  θ_run_mono (Cert.ReferenceIdeal.Value.run (F := Ideal) m ρ)
    fun r hr => ⟨fun c => (hr c).2, sem_eq_zero_of_no_sems (by decide) _⟩

/-- The mask's name stands for its word. -/
theorem keeps : Cert.preserves_Kernel_KernelIdeal :=
  IdealRules.named_const.statement Cert.KernelIdeal.κ "mask" .f32 0xCE6E6B28#32 ⊥ rfl

end Cert.Proof

end
-- ==== Proof.Stage.lean ====
/- What the operations around the kernel read and write, entry by entry. -/
module

public import proofs.«01_k».proof.Proof.Run
public import Idealize.ShloMosaic.Lib.Pointwise
public import Idealize.ShloMosaic.Lib.StableHlo.Run

@[expose] public section

set_option maxRecDepth 65536

noncomputable section

namespace Cert.KernelIdeal.Stage

open Idealize.ShloMosaic
open Cert.KernelIdeal Cert.KernelIdeal.Facts₀ Cert.KernelIdeal.Facts Cert.KernelIdeal.Str Cert.KernelIdeal.Slots Cert.KernelIdeal.Talk

/-- The blocks as the host reshapes and narrows them. -/
def sx (x : FVec Ideal S1x1024x1024 .f32) : FVec Ideal S1024x1024 .bf16 := truncf .bf16 (shapeCast S1024x1024 x shapeCasts_S1x1024x1024_S1024x1024 : FVec Ideal S1024x1024 .f32) bitsLt_bf16_f32
def sk (x : FVec Ideal S1x1024x8x128 .f32) : FVec Ideal S1024x1024 .bf16 := truncf .bf16 (shapeCast S1024x1024 x shapeCasts_S1x1024x8x128_S1024x1024 : FVec Ideal S1024x1024 .f32) bitsLt_bf16_f32
def sw (x : FVec Ideal S1024x1024 .f32) : FVec Ideal S1024x1024 .bf16 := truncf .bf16 x bitsLt_bf16_f32
def so (x : FVec Ideal S1024x1024 .f32) : FVec Ideal S1x1024x1024 .f32 := shapeCast S1x1024x1024 x shapeCasts_S1024x1024_S1x1024x1024

/-- The staged rows, entry by entry. -/
theorem sx_at (x : FVec Ideal S1x1024x1024 .f32) (i j : Fin 1024) : sx x (ix2 i j) = x (ix3 0 i j) := by
  pointwise [sx]

/-- The staged keys or values, entry by entry. -/
theorem sk_at (x : FVec Ideal S1x1024x8x128 .f32) (i : Fin 1024) (h : Fin 8) (e : Fin 128) : sk x (ix2 i (col h e)) = x (ix4 0 i h e) := by
  have hh : sk x (ix2 i (col h e)) = x (ix4 0 i (hd (col h e)) (pl (col h e))) := by
    generalize col h e = n
    pointwise [sk]
    rfl
  rw [hh, hd_col, pl_col]

/-- The staged weights, entry by entry. -/
theorem sw_at (x : FVec Ideal S1024x1024 .f32) (i j : Fin 1024) : sw x (ix2 i j) = x (ix2 i j) := by
  pointwise [sw]

/-- The result's shape, entry by entry. -/
theorem so_at (x : FVec Ideal S1024x1024 .f32) (i j : Fin 1024) : so x (ix3 0 i j) = x (ix2 i j) := by
  pointwise [so]

variable (m : (ℓ : Loc nD τ sig) → Buf (Elt Ideal) ℓ) (c : Dev nD)

/-- The rows that the kernel is given. -/
theorem V1_v2 : V₁ m c (Proc.devRef .tc main_v2) = sx (m ((c.tc : Thread nD τ).loc main_arg0)) := by
  unfold V₁
  after_results_simp
  rfl
/-- The keys that the kernel is given. -/
theorem V1_v4 : V₁ m c (Proc.devRef .tc main_v4) = sk (m ((c.tc : Thread nD τ).loc main_arg2)) := by
  unfold V₁
  after_results_simp
  rfl
/-- The values that the kernel is given. -/
theorem V1_v6 : V₁ m c (Proc.devRef .tc main_v6) = sk (m ((c.tc : Thread nD τ).loc main_arg3)) := by
  unfold V₁
  after_results_simp
  rfl
/-- The query weights that the kernel is given. -/
theorem V1_v7 : V₁ m c (Proc.devRef .tc main_v7) = sw (m ((c.tc : Thread nD τ).loc main_arg1)) := by
  unfold V₁
  after_results_simp
  rfl
/-- The output weights that the kernel is given. -/
theorem V1_v8 : V₁ m c (Proc.devRef .tc main_v8) = sw (m ((c.tc : Thread nD τ).loc main_arg4)) := by
  unfold V₁
  after_results_simp
  rfl

/-- The result of the run, entry by entry. -/
theorem res_at (i n : Fin 1024) : res m c (ix3 0 i n) = outOf (Dm m) c (Xc m c) (Wc m c) (Uc m c) (ix2 i n) := by
  have e : res m c = so (V₂ m c (Proc.devRef .tc main_v9)) := by
    unfold res V₃
    after_results_simp
    rfl
  rw [e, so_at]
  unfold V₂
  rw [Function.update_self]
  rfl

end Cert.KernelIdeal.Stage

end
-- ==== Proof.KVal.lean ====
/- The kernel's payloads over the extended reals, each read at an index. -/
module

public import proofs.«01_k».proof.Proof.Struct
public import Idealize.ShloMosaic.Lib.Pointwise

@[expose] public section

set_option maxRecDepth 65536

noncomputable section

namespace Cert.KernelIdeal.Val

open Idealize.ShloMosaic
open Cert.KernelIdeal Cert.KernelIdeal.Facts₀ Cert.KernelIdeal.Facts Cert.KernelIdeal.Str

/-- An exponential of a block of 512 keys. -/
theorem pr512_at (q : Vec Ideal S1024x128 .bf16) (k : Vec Ideal S1x512x128 .bf16) (b : Vec Ideal S1024x512 .f32) (i : Fin 1024) (j : Fin 512) :
    pr512 q k b (ix2 i j) = Ideal.exp ((∑ e : Fin 128, q (ix2 i e) * k (ix3 0 j e)) + b (ix2 i j)) := by
  pointwise [pr512]

/-- A sub-block's exponentials, entry by entry. -/
theorem pr256_at (q : Vec Ideal S1024x128 .bf16) (k : Vec Ideal S1x256x128 .bf16) (b : Vec Ideal S1024x256 .f32) (i : Fin 1024) (j : Fin 256) :
    pr256 q k b (ix2 i j) = Ideal.exp ((∑ e : Fin 128, q (ix2 i e) * k (ix3 0 j e)) + b (ix2 i j)) := by
  pointwise [pr256]

/-- A half block's step of the denominators. -/
theorem lUp512_at (q : Vec Ideal S1024x128 .bf16) (k : Vec Ideal S1x512x128 .bf16) (b : Vec Ideal S1024x512 .f32) (l : Vec Ideal S1024x1 .f32) (i : Fin 1024) :
    lUp512 q k b l (ix2 i 0) = l (ix2 i 0) + ∑ j : Fin 512, pr512 q k b (ix2 i j) := by
  pointwise [lUp512]

/-- A sub-block's step of the denominators. -/
theorem lUp256_at (q : Vec Ideal S1024x128 .bf16) (k : Vec Ideal S1x256x128 .bf16) (b : Vec Ideal S1024x256 .f32) (l : Vec Ideal S1024x1 .f32) (i : Fin 1024) :
    lUp256 q k b l (ix2 i 0) = l (ix2 i 0) + ∑ j : Fin 256, pr256 q k b (ix2 i j) := by
  pointwise [lUp256]

/-- A half block's step of the numerators. -/
theorem aUp512_at (q : Vec Ideal S1024x128 .bf16) (k v : Vec Ideal S1x512x128 .bf16) (b : Vec Ideal S1024x512 .f32) (a : Vec Ideal S1024x128 .f32) (i : Fin 1024) (e : Fin 128) :
    aUp512 q k v b a (ix2 i e) = a (ix2 i e) + ∑ j : Fin 512, pr512 q k b (ix2 i j) * v (ix3 0 j e) := by
  pointwise [aUp512]

/-- A sub-block's step of the numerators. -/
theorem aUp256_at (q : Vec Ideal S1024x128 .bf16) (k v : Vec Ideal S1x256x128 .bf16) (b : Vec Ideal S1024x256 .f32) (a : Vec Ideal S1024x128 .f32) (i : Fin 1024) (e : Fin 128) :
    aUp256 q k v b a (ix2 i e) = a (ix2 i e) + ∑ j : Fin 256, pr256 q k b (ix2 i j) * v (ix3 0 j e) := by
  pointwise [aUp256]

/-- The scaled queries. -/
theorem qUp_at (x w : Vec Ideal S1024x1024 .bf16) (i j : Fin 1024) :
    qUp x w (ix2 i j) = (∑ k : Fin 1024, x (ix2 i k) * w (ix2 k j)) * Ideal.ofBits .f32 0x3DB504F3#32 := by
  pointwise [qUp]

/-- The quotient. -/
theorem nUp_at (a : Vec Ideal S1024x128 .f32) (l : Vec Ideal S1024x1 .f32) (i : Fin 1024) (e : Fin 128) :
    nUp a l (ix2 i e) = Ideal.div (a (ix2 i e)) (l (ix2 i 0)) := by
  pointwise [nUp]

/-- The output projection. -/
theorem oUp_at (q w : Vec Ideal S1024x1024 .bf16) (i j : Fin 1024) :
    oUp q w (ix2 i j) = ∑ k : Fin 1024, q (ix2 i k) * w (ix2 k j) := by
  pointwise [oUp]

/-- The denominators start at zero. -/
theorem z8_at (i : S1024x8.Idx) : (z8 : FVec Ideal S1024x8 .f32) i = 0 := by
  pointwise [z8]

/-- The numerators start at zero. -/
theorem z1024_at (i : S1024x1024.Idx) : (z1024 : FVec Ideal S1024x1024 .f32) i = 0 := by
  pointwise [z1024]

end Cert.KernelIdeal.Val

end
-- ==== Proof.Mask.lean ====
/- Which keys a query row attends to, in numbers: the block arithmetic of both programs on 32-bit words. -/
module

public import proofs.«01_k».proof.Proof.KVal
public import Idealize.ShloMosaic.Lib.Routing.Words

@[expose] public section

set_option maxRecDepth 65536

noncomputable section

namespace Cert.Mask

open Idealize.ShloMosaic Idealize.ShloMosaic.Routing

/-- Row `i` attends to key `j`: the same block of 64, the first block, or block numbers whose sum is a multiple of three. -/
def See (i j : ℕ) : Prop := i / 64 = j / 64 ∨ j / 64 = 0 ∨ (i / 64 + j / 64) % 3 = 0

instance (i j : ℕ) : Decidable (See i j) := by unfold See; infer_instance

/-- Two words of numbers below `2 ^ 31` are equal when the numbers are. -/
theorem eqW {a b : ℕ} (ha : a < 2 ^ 31) (hb : b < 2 ^ 31) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  constructor
  · intro h
    have := congrArg BitVec.toNat h
    simp only [BitVec.toNat_ofNat] at this
    omega
  · rintro rfl; rfl

/-- The sum of two words of numbers. -/
theorem addW (a b : ℕ) : IntOp.addi (BitVec.ofNat 32 a) (BitVec.ofNat 32 b) = BitVec.ofNat 32 (a + b) :=
  (BitVec.ofNat_add a b).symm

/-- A small number's word read with its sign. -/
theorem toIntW {a : ℕ} (ha : a < 2 ^ 31) : (BitVec.ofNat 32 a).toInt = a := by
  rw [BitVec.toInt_eq_toNat_of_lt (by rw [BitVec.toNat_ofNat]; omega), BitVec.toNat_ofNat]
  omega

/-- A small number's word compared with zero from above. -/
theorem sgtW {a : ℕ} (ha : a < 2 ^ 31) : IntOp.cmpi .sgt (BitVec.ofNat 32 a) 0#32 = BitVec.ofBool (decide (0 < a)) := by
  show BitVec.ofBool ((0#32).slt (BitVec.ofNat 32 a)) = _
  congr 1
  rw [Bool.eq_iff_iff, BitVec.slt_iff_toInt_lt, decide_eq_true_iff, toIntW ha]
  simp

/-- A small number's word is not negative. -/
theorem sltW {a : ℕ} (ha : a < 2 ^ 31) : IntOp.cmpi .slt (BitVec.ofNat 32 a) 0#32 = 0#1 := by
  show BitVec.ofBool ((BitVec.ofNat 32 a).slt 0#32) = BitVec.ofBool false
  congr 1
  rw [Bool.eq_iff_iff, BitVec.slt_iff_toInt_lt, toIntW ha]
  simp

/-- The kernel's division by 64 rounded down, on a word. -/
def flK (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)

/-- The kernel's floored quotient by 64. -/
theorem flK_eq {a : ℕ} (ha : a < 2 ^ 31) : flK (BitVec.ofNat 32 a) = BitVec.ofNat 32 (a / 64) := by
  unfold flK
  rw [sgtW ha, sltW ha, remsi_word .vector ha (show 0 < 64 by decide) (by decide), divsi_word .vector ha (show 0 < 64 by decide) (by decide)]
  rcases Nat.eq_zero_or_pos a with h | h
  · subst h; decide
  · rw [decide_eq_true h]
    have e : IntOp.cmpi .ne (IntOp.subi (BitVec.setWidth 32 (BitVec.ofBool true)) (BitVec.setWidth 32 (0#1)))
        (Scalar.subi (Scalar.extui (Scalar.cmpi .sgt 64#32 0#32)) (Scalar.extui (Scalar.cmpi .slt 64#32 0#32))) = 0#1 := by decide
    rw [e]
    show Scalar.select (0#1 &&& _) _ _ = _
    rw [BitVec.zero_and]
    rfl

/-- The mask's bit, from the two block numbers. -/
theorem bit_iff (u : ArithUnit) {a b : ℕ} (ha : a < 2 ^ 30) (hb : b < 2 ^ 30) :
    IntOp.ori (IntOp.ori (IntOp.cmpi .eq (BitVec.ofNat 32 a) (BitVec.ofNat 32 b)) (IntOp.cmpi .eq (BitVec.ofNat 32 b) 0#32))
      (IntOp.cmpi .eq (IntOp.remsi u (IntOp.addi (BitVec.ofNat 32 a) (BitVec.ofNat 32 b)) 3#32) 0#32)
      = BitVec.ofBool (decide (a = b ∨ b = 0 ∨ (a + b) % 3 = 0)) := by
  rw [addW, remsi_word u (by omega) (show 0 < 3 by decide) (by decide), eqW (by omega) (by omega),
    show (0#32 : BitVec 32) = BitVec.ofNat 32 0 from rfl, eqW (by omega) (by omega), eqW (by omega) (by omega)]
  show BitVec.ofBool _ ||| BitVec.ofBool _ ||| BitVec.ofBool _ = _
  rw [Bool.decide_or, Bool.decide_or]
  generalize decide (a = b) = p
  generalize decide (b = 0) = q
  generalize decide ((a + b) % 3 = 0) = r
  revert p q r; decide

end Cert.Mask

namespace Cert.KernelIdeal.Val

open Idealize.ShloMosaic Cert.Mask
open Cert.KernelIdeal Cert.KernelIdeal.Facts₀ Cert.KernelIdeal.Facts Cert.KernelIdeal.Str

/-- A query row's block number. -/
theorem qb512_at (a : ℕ) (ha : a < 4) (i : Fin 1024) (j : Fin 512) :
    qb512 (BitVec.ofNat 32 a) (ix2 i j) = BitVec.ofNat 32 ((1024 * a + i.val) / 64) := by
  have e : qb512 (BitVec.ofNat 32 a) (ix2 i j) = IntOp.addi (Scalar.muli (BitVec.ofNat 32 a) 16#32) (flK (BitVec.ofNat 32 i.val)) := by
    pointwise [qb512, blk512, flK]
  rw [e, flK_eq (by omega), show Scalar.muli (BitVec.ofNat 32 a) 16#32 = BitVec.ofNat 32 (a * 16) from (BitVec.ofNat_mul a 16).symm, addW]
  congr 1; omega

/-- The query blocks, beside a sub-block. -/
theorem qb256_at (a : ℕ) (ha : a < 4) (i : Fin 1024) (j : Fin 256) :
    qb256 (BitVec.ofNat 32 a) (ix2 i j) = BitVec.ofNat 32 ((1024 * a + i.val) / 64) := by
  have e : qb256 (BitVec.ofNat 32 a) (ix2 i j) = IntOp.addi (Scalar.muli (BitVec.ofNat 32 a) 16#32) (flK (BitVec.ofNat 32 i.val)) := by
    pointwise [qb256, blk256, flK]
  rw [e, flK_eq (by omega), show Scalar.muli (BitVec.ofNat 32 a) 16#32 = BitVec.ofNat 32 (a * 16) from (BitVec.ofNat_mul a 16).symm, addW]
  congr 1; omega

/-- A key's block number: key `j` from block `f` of device `o`'s keys on. -/
theorem kb512_at (o f : ℕ) (i : Fin 1024) (j : Fin 512) :
    kb512 (BitVec.ofNat 32 o) (BitVec.ofNat 32 f) (ix2 i j) = BitVec.ofNat 32 ((1024 * o + 64 * f + j.val) / 64) := by
  have e : kb512 (BitVec.ofNat 32 o) (BitVec.ofNat 32 f) (ix2 i j)
      = IntOp.addi (Scalar.addi (Scalar.muli (BitVec.ofNat 32 o) 16#32) (BitVec.ofNat 32 f)) (flK (BitVec.ofNat 32 j.val)) := by
    pointwise [kb512, blk512, flK]
  rw [e, flK_eq (by omega), show Scalar.muli (BitVec.ofNat 32 o) 16#32 = BitVec.ofNat 32 (o * 16) from (BitVec.ofNat_mul o 16).symm,
    show Scalar.addi (BitVec.ofNat 32 (o * 16)) (BitVec.ofNat 32 f) = BitVec.ofNat 32 (o * 16 + f) from addW _ _, addW]
  congr 1; omega

/-- The key blocks of a sub-block. -/
theorem kb256_at (o f : ℕ) (i : Fin 1024) (j : Fin 256) :
    kb256 (BitVec.ofNat 32 o) (BitVec.ofNat 32 f) (ix2 i j) = BitVec.ofNat 32 ((1024 * o + 64 * f + j.val) / 64) := by
  have e : kb256 (BitVec.ofNat 32 o) (BitVec.ofNat 32 f) (ix2 i j)
      = IntOp.addi (Scalar.addi (Scalar.muli (BitVec.ofNat 32 o) 16#32) (BitVec.ofNat 32 f)) (flK (BitVec.ofNat 32 j.val)) := by
    pointwise [kb256, blk256, flK]
  rw [e, flK_eq (by omega), show Scalar.muli (BitVec.ofNat 32 o) 16#32 = BitVec.ofNat 32 (o * 16) from (BitVec.ofNat_mul o 16).symm,
    show Scalar.addi (BitVec.ofNat 32 (o * 16)) (BitVec.ofNat 32 f) = BitVec.ofNat 32 (o * 16 + f) from addW _ _, addW]
  congr 1; omega

/-- The mask's bit in numbers. -/
theorem vis512_at (a o f : ℕ) (ha : a < 4) (ho : o < 4) (hf : f < 16) (i : Fin 1024) (j : Fin 512) :
    vis512 (BitVec.ofNat 32 a) (BitVec.ofNat 32 o) (BitVec.ofNat 32 f) (ix2 i j)
      = BitVec.ofBool (decide (See (1024 * a + i.val) (1024 * o + 64 * f + j.val))) := by
  refine Eq.trans ?_ (bit_iff .vector (a := (1024 * a + i.val) / 64) (b := (1024 * o + 64 * f + j.val) / 64) (by omega) (by omega))
  rw [← qb512_at a ha i j, ← kb512_at o f i j]
  pointwise [vis512]

/-- What a sub-block's mask lets through. -/
theorem vis256_at (a o f : ℕ) (ha : a < 4) (ho : o < 4) (hf : f < 16) (i : Fin 1024) (j : Fin 256) :
    vis256 (BitVec.ofNat 32 a) (BitVec.ofNat 32 o) (BitVec.ofNat 32 f) (ix2 i j)
      = BitVec.ofBool (decide (See (1024 * a + i.val) (1024 * o + 64 * f + j.val))) := by
  refine Eq.trans ?_ (bit_iff .vector (a := (1024 * a + i.val) / 64) (b := (1024 * o + 64 * f + j.val) / 64) (by omega) (by omega))
  rw [← qb256_at a ha i j, ← kb256_at o f i j]
  pointwise [vis256]

/-- The mask's named constant. -/
theorem mask_bot : (Named.named (F := Ideal) κ "mask" (φ := .f32) 0xCE6E6B28#32 : EReal) = ⊥ := rfl

/-- The additive mask: nothing where the row sees the key, −∞ where it does not. -/
theorem bias512_at (a o f : ℕ) (ha : a < 4) (ho : o < 4) (hf : f < 16) (i : Fin 1024) (j : Fin 512) :
    (bias512 (BitVec.ofNat 32 a) (BitVec.ofNat 32 o) (BitVec.ofNat 32 f) : FVec Ideal S1024x512 .f32) (ix2 i j)
      = if See (1024 * a + i.val) (1024 * o + 64 * f + j.val) then 0 else (⊥ : EReal) := by
  pointwise [bias512]
  rw [vis512_at a o f ha ho hf i j]
  by_cases h : See (1024 * a + i.val) (1024 * o + 64 * f + j.val)
  · rw [if_pos h, decide_eq_true h]; rfl
  · rw [if_neg h, decide_eq_false h]; rfl

/-- A sub-block's bias. -/
theorem bias256_at (a o f : ℕ) (ha : a < 4) (ho : o < 4) (hf : f < 16) (i : Fin 1024) (j : Fin 256) :
    (bias256 (BitVec.ofNat 32 a) (BitVec.ofNat 32 o) (BitVec.ofNat 32 f) : FVec Ideal S1024x256 .f32) (ix2 i j)
      = if See (1024 * a + i.val) (1024 * o + 64 * f + j.val) then 0 else (⊥ : EReal) := by
  pointwise [bias256]
  rw [vis256_at a o f ha ho hf i j]
  by_cases h : See (1024 * a + i.val) (1024 * o + 64 * f + j.val)
  · rw [if_pos h, decide_eq_true h]; rfl
  · rw [if_neg h, decide_eq_false h]; rfl

end Cert.KernelIdeal.Val

end
-- ==== Proof.Soft.lean ====
/- The softmax in extended reals: weights taken with the row's maximum subtracted and summed afterwards against
   one division of two plain sums at the end. -/
module

public import proofs.«01_k».proof.Proof.KVal

@[expose] public section

noncomputable section

namespace Cert.Soft

open Idealize.ShloMosaic

variable {ι : Type} [Fintype ι]

/-- A real number distributes over a sum of extended reals when it is not negative. -/
theorem mul_sum_real (c : ℝ) (hc : 0 ≤ c) (s : Finset ι) (f : ι → EReal) : (c : EReal) * ∑ j ∈ s, f j = ∑ j ∈ s, (c : EReal) * f j := by
  classical
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

/-- The sum of reals, in extended reals. -/
theorem coe_sum (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- Division by a real that is not zero. -/
theorem div_real (x : EReal) (c : ℝ) (hc : c ≠ 0) : Ideal.div x (c : EReal) = ((c⁻¹ : ℝ) : EReal) * x := by
  unfold Ideal.div
  have : (c : EReal) ≠ 0 := by exact_mod_cast hc
  rw [if_neg this, mul_comm, ← EReal.coe_inv]

/-- The unnormalised weight of a key: the exponential of its score where it is seen, nothing where it is not. -/
def wt (P : ι → Prop) [DecidablePred P] (r : ι → ℝ) (j : ι) : ℝ := if P j then Real.exp (r j) else 0

/-- A weight is not negative. -/
theorem wt_nonneg (P : ι → Prop) [DecidablePred P] (r : ι → ℝ) (j : ι) : 0 ≤ wt P r j := by
  unfold wt; split_ifs
  · exact (Real.exp_pos _).le
  · exact le_rfl

/-- The weights' sum is positive. -/
theorem wt_sum_pos (P : ι → Prop) [DecidablePred P] (r : ι → ℝ) (j₀ : ι) (h : P j₀) : 0 < ∑ j, wt P r j :=
  Finset.sum_pos' (fun j _ => wt_nonneg P r j) ⟨j₀, Finset.mem_univ _, by unfold wt; rw [if_pos h]; exact Real.exp_pos _⟩

/-- The kernel's exponential of a biased score. -/
theorem exp_bias (P : ι → Prop) [DecidablePred P] (r : ι → ℝ) (j : ι) :
    Ideal.exp ((r j : EReal) + if P j then 0 else ⊥) = (wt P r j : EReal) := by
  unfold wt; split_ifs
  · rw [add_zero, Ideal.exp_coe]
  · rw [EReal.add_bot, Ideal.exp_bot, EReal.coe_zero]

/-- The greatest masked score is a real number. -/
theorem max_real (P : ι → Prop) [DecidablePred P] (r : ι → ℝ) (j₀ : ι) (h : P j₀) :
    ∃ M : ℝ, Finset.univ.fold max ⊥ (fun j => if P j then (r j : EReal) else ⊥) = (M : EReal) := by
  have e : Finset.univ.fold max ⊥ (fun j => if P j then (r j : EReal) else ⊥) = Finset.univ.sup (fun j => if P j then (r j : EReal) else ⊥) := rfl
  rw [e]
  have hb : Finset.univ.sup (fun j => if P j then (r j : EReal) else ⊥) ≠ ⊥ := by
    intro hb
    have := Finset.le_sup (f := fun j => if P j then (r j : EReal) else ⊥) (Finset.mem_univ j₀)
    rw [hb] at this
    simp only [if_pos h, le_bot_iff] at this
    exact EReal.coe_ne_bot _ this
  have ht : Finset.univ.sup (fun j => if P j then (r j : EReal) else ⊥) ≠ ⊤ := by
    refine ne_of_lt ((Finset.sup_lt_iff bot_lt_top).mpr fun j _ => ?_)
    split_ifs
    · exact EReal.coe_lt_top _
    · exact bot_lt_top
  exact ⟨_, (EReal.coe_toReal ht hb).symm⟩

/-- The reference's exponential of a masked score less the maximum. -/
theorem exp_masked (P : ι → Prop) [DecidablePred P] (r : ι → ℝ) (M : ℝ) (j : ι) :
    Ideal.exp ((if P j then (r j : EReal) else ⊥) - (M : EReal)) = ((wt P r j * Real.exp (-M) : ℝ) : EReal) := by
  unfold wt; split_ifs
  · rw [← EReal.coe_sub, Ideal.exp_coe, sub_eq_add_neg, Real.exp_add]
  · rw [EReal.bot_sub, Ideal.exp_bot, zero_mul, EReal.coe_zero]

/-- THE TWO SOFTMAXES AGREE: the values' sum with normalised weights is the plain weighted sum over the plain sum. -/
theorem soft (P : ι → Prop) [DecidablePred P] (r : ι → ℝ) (j₀ : ι) (h : P j₀) (v : ι → EReal) (ms : ι → EReal)
    (hms : ∀ j, ms j = if P j then (r j : EReal) else ⊥) :
    ∑ j, v j * Ideal.div (Ideal.exp (ms j - Finset.univ.fold max ⊥ ms)) (∑ j, Ideal.exp (ms j - Finset.univ.fold max ⊥ ms))
      = Ideal.div (∑ j, (wt P r j : EReal) * v j) (∑ j, (wt P r j : EReal)) := by
  obtain rfl : ms = fun j => if P j then (r j : EReal) else ⊥ := funext hms
  obtain ⟨M, hM⟩ := max_real P r j₀ h
  have hp := wt_sum_pos P r j₀ h
  have hc : 0 < Real.exp (-M) := Real.exp_pos _
  rw [hM]
  simp only [exp_masked]
  rw [← coe_sum, ← coe_sum, ← Finset.sum_mul, div_real _ _ hp.ne', mul_sum_real _ (inv_nonneg.mpr hp.le)]
  refine Finset.sum_congr rfl fun j _ => ?_
  rw [div_real _ _ (mul_pos hp hc).ne', ← EReal.coe_mul, ← mul_assoc (((∑ j, wt P r j)⁻¹ : ℝ) : EReal) (wt P r j : EReal), ← EReal.coe_mul, mul_comm (v j)]
  congr 2
  field_simp

end Cert.Soft

end
-- ==== Proof.KSum.lean ====
/- What the kernel's ten folds add up to: for each row and head one sum over all the devices' keys. -/
module

public import proofs.«01_k».proof.Proof.Mask
public import proofs.«01_k».proof.Proof.Soft
public import proofs.«01_k».proof.Proof.Run2

@[expose] public section

set_option maxRecDepth 65536

noncomputable section

namespace Cert.KernelIdeal.Sums

open Idealize.ShloMosaic Cert.Mask
open Cert.KernelIdeal Cert.KernelIdeal.Facts₀ Cert.KernelIdeal.Facts Cert.KernelIdeal.Str Cert.KernelIdeal.Slots Cert.KernelIdeal.Talk Cert.KernelIdeal.Val

/-! ## The words of the devices -/

/-- The device's own number. -/
theorem myW_eq (c : Dev nD) : myW c = BitVec.ofNat 32 c.val := by revert c; decide
/-- The origin at no hop from the left. -/
theorem lf0_eq (c : Dev nD) : lfW (myW c) 0#32 = BitVec.ofNat 32 c.val := by revert c; decide
/-- The origin at no hop from the right. -/
theorem rt0_eq (c : Dev nD) : rtW (myW c) 0#32 = BitVec.ofNat 32 c.val := by revert c; decide
/-- The origin one hop to the left. -/
theorem lf1_eq (c : Dev nD) : lfW (myW c) 1#32 = BitVec.ofNat 32 (lf c).val := by revert c; decide
/-- The origin one hop to the right. -/
theorem rt1_eq (c : Dev nD) : rtW (myW c) 1#32 = BitVec.ofNat 32 (rt c).val := by revert c; decide
/-- The origin two hops to the left. -/
theorem lf2_eq (c : Dev nD) : lfW (myW c) 2#32 = BitVec.ofNat 32 (lf (lf c)).val := by revert c; decide
/-- The origin two hops to the right. -/
theorem rt2_eq (c : Dev nD) : rtW (myW c) 2#32 = BitVec.ofNat 32 (rt (rt c)).val := by revert c; decide
/-- The origin one hop to the right is the one three hops to the left. -/
theorem rt3_eq (c : Dev nD) : rtW (myW c) 1#32 = BitVec.ofNat 32 (lf (lf (lf c))).val := by revert c; decide
/-- The origin one hop to the left is the one three hops to the right. -/
theorem lf3_eq (c : Dev nD) : lfW (myW c) 1#32 = BitVec.ofNat 32 (rt (rt (rt c))).val := by revert c; decide

/-! ## One fold -/

variable (D : Cts Ideal) (Q : S1024x1024.Idx → EReal) (c : Dev nD)

/-- The weight row `i` of device `c` gives key `t` of device `o` under head `h`. -/
def kp (i : Fin 1024) (h : Fin 8) (o : Dev nD) (t : Fin 1024) : EReal :=
  Ideal.exp ((∑ e : Fin 128, Q (ix2 i (col h e)) * D.K o (ix2 t (col h e))) + if See (1024 * c.val + i.val) (1024 * o.val + t.val) then 0 else ⊥)

/-- The keys of a slot that holds a half block. -/
theorem rdK_key (o : Dev nD) (hf : Fin 2) (h : Fin 8) (k : Fin 512) (e : Fin 128) :
    rdK (D.kv o hf) 0 (by omega) h (ix3 0 k e) = D.K o (ix2 ⟨hf.val * 512 + k.val, by omega⟩ (col h e)) := by
  have hl : (0 : ℕ) + (col h e).val < 1024 := by have := (col h e).isLt; omega
  refine (dif_pos hl).trans (congrArg (D.K o) ?_)
  refine congrArg (ix2 _) (Fin.ext ?_)
  exact Nat.zero_add _

/-- The values of a slot that holds a half block. -/
theorem rdK_val (o : Dev nD) (hf : Fin 2) (h : Fin 8) (k : Fin 512) (e : Fin 128) :
    rdK (D.kv o hf) 1024 (by omega) h (ix3 0 k e) = D.V o (ix2 ⟨hf.val * 512 + k.val, by omega⟩ (col h e)) := by
  have hl : ¬ (1024 : ℕ) + (col h e).val < 1024 := by omega
  refine (dif_neg hl).trans (congrArg (D.V o) ?_)
  refine congrArg (ix2 _) (Fin.ext ?_)
  exact Nat.add_sub_cancel_left _ _

/-- The keys of half of such a slot. -/
theorem rdK_key' (o : Dev nD) (hf : Fin 2) (r : ℕ) (hr : r ≤ 256) (h : Fin 8) (k : Fin 256) (e : Fin 128) :
    rdK' (D.kv o hf) r hr 0 (by omega) h (ix3 0 k e) = D.K o (ix2 ⟨hf.val * 512 + (r + k.val), by omega⟩ (col h e)) := by
  have hl : (0 : ℕ) + (col h e).val < 1024 := by have := (col h e).isLt; omega
  refine (dif_pos hl).trans (congrArg (D.K o) ?_)
  refine congrArg (ix2 _) (Fin.ext ?_)
  exact Nat.zero_add _

/-- The values of half of such a slot. -/
theorem rdK_val' (o : Dev nD) (hf : Fin 2) (r : ℕ) (hr : r ≤ 256) (h : Fin 8) (k : Fin 256) (e : Fin 128) :
    rdK' (D.kv o hf) r hr 1024 (by omega) h (ix3 0 k e) = D.V o (ix2 ⟨hf.val * 512 + (r + k.val), by omega⟩ (col h e)) := by
  have hl : ¬ (1024 : ℕ) + (col h e).val < 1024 := by omega
  refine (dif_neg hl).trans (congrArg (D.V o) ?_)
  refine congrArg (ix2 _) (Fin.ext ?_)
  exact Nat.add_sub_cancel_left _ _

/-- A fold's exponentials are the weights of its half block. -/
theorem pr_kp (o : Dev nD) (hf : Fin 2) (off : ℕ) (ho : off = 8 * hf.val) (i : Fin 1024) (h : Fin 8) (k : Fin 512) :
    pr512 (rdQ Q h) (rdK (D.kv o hf) 0 (by omega) h) (bias512 (F := Ideal) (BitVec.ofNat 32 c.val) (BitVec.ofNat 32 o.val) (BitVec.ofNat 32 off)) (ix2 i k)
      = kp D Q c i h o ⟨hf.val * 512 + k.val, by omega⟩ := by
  have hc : c.val < 4 := c.isLt
  have ho' : o.val < 4 := o.isLt
  rw [pr512_at, bias512_at c.val o.val off hc ho' (by omega) i k]
  unfold kp
  simp only [rdK_key]
  have e : 1024 * o.val + 64 * off + k.val = 1024 * o.val + (hf.val * 512 + k.val) := by omega
  rw [e]
  rfl

/-- A sub-block's exponentials are its weights. -/
theorem pr_kp' (o : Dev nD) (hf : Fin 2) (r : ℕ) (hr : r ≤ 256) (off : ℕ) (ho : 64 * off = 512 * hf.val + r) (i : Fin 1024) (h : Fin 8) (k : Fin 256) :
    pr256 (rdQ Q h) (rdK' (D.kv o hf) r hr 0 (by omega) h) (bias256 (F := Ideal) (BitVec.ofNat 32 c.val) (BitVec.ofNat 32 o.val) (BitVec.ofNat 32 off)) (ix2 i k)
      = kp D Q c i h o ⟨hf.val * 512 + (r + k.val), by omega⟩ := by
  have hc : c.val < 4 := c.isLt
  have ho' : o.val < 4 := o.isLt
  rw [pr256_at, bias256_at c.val o.val off hc ho' (by omega) i k]
  unfold kp
  simp only [rdK_key']
  have e : 1024 * o.val + 64 * off + k.val = 1024 * o.val + (hf.val * 512 + (r + k.val)) := by omega
  rw [e]
  rfl

/-- A fold adds its half block's weights to the denominator. -/
theorem stL_at (o : Dev nD) (hf : Fin 2) (off : ℕ) (ho : off = 8 * hf.val) (my org : BitVec 32) (hm : my = BitVec.ofNat 32 c.val) (hg : org = BitVec.ofNat 32 o.val)
    (L : S1024x8.Idx → EReal) (i : Fin 1024) (h : Fin 8) :
    stL (F := Ideal) Q (D.kv o hf) (bias512 my org (BitVec.ofNat 32 off)) L (ix2 i h)
      = L (ix2 i h) + ∑ k : Fin 512, kp D Q c i h o ⟨hf.val * 512 + k.val, by omega⟩ := by
  subst hm hg
  refine (lUp512_at _ _ _ _ i).trans ?_
  congr 1
  exact Finset.sum_congr rfl fun k _ => pr_kp D Q c o hf off ho i h k

/-- A fold of a sub-block adds its weights to the denominator. -/
theorem stL'_at (o : Dev nD) (hf : Fin 2) (r : ℕ) (hr : r ≤ 256) (off : ℕ) (ho : 64 * off = 512 * hf.val + r) (my org : BitVec 32) (hm : my = BitVec.ofNat 32 c.val)
    (hg : org = BitVec.ofNat 32 o.val) (L : S1024x8.Idx → EReal) (i : Fin 1024) (h : Fin 8) :
    stL' (F := Ideal) Q (D.kv o hf) r hr (bias256 my org (BitVec.ofNat 32 off)) L (ix2 i h)
      = L (ix2 i h) + ∑ k : Fin 256, kp D Q c i h o ⟨hf.val * 512 + (r + k.val), by omega⟩ := by
  subst hm hg
  refine (lUp256_at _ _ _ _ i).trans ?_
  congr 1
  exact Finset.sum_congr rfl fun k _ => pr_kp' D Q c o hf r hr off ho i h k

/-- A fold adds its half block's weighted values to the numerator. -/
theorem stA_at (o : Dev nD) (hf : Fin 2) (off : ℕ) (ho : off = 8 * hf.val) (my org : BitVec 32) (hm : my = BitVec.ofNat 32 c.val) (hg : org = BitVec.ofNat 32 o.val)
    (A : S1024x1024.Idx → EReal) (i : Fin 1024) (n : Fin 1024) :
    stA (F := Ideal) Q (D.kv o hf) (bias512 my org (BitVec.ofNat 32 off)) A (ix2 i n)
      = A (ix2 i n) + ∑ k : Fin 512, kp D Q c i (hd n) o ⟨hf.val * 512 + k.val, by omega⟩ * D.V o (ix2 ⟨hf.val * 512 + k.val, by omega⟩ n) := by
  subst hm hg
  refine (aUp512_at _ _ _ _ _ i (pl n)).trans ?_
  show rdQ A (hd n) (ix2 i (pl n)) + _ = _
  have e : rdQ A (hd n) (ix2 i (pl n)) = A (ix2 i n) := by show A (ix2 i (col (hd n) (pl n))) = _; rw [col_hd]
  rw [e]
  congr 1
  refine Finset.sum_congr rfl fun k _ => ?_
  have e2 := rdK_val D o hf (hd n) k (pl n)
  rw [col_hd] at e2
  rw [← e2, ← pr_kp D Q c o hf off ho i (hd n) k]
  rfl

/-- A fold of a sub-block adds its weighted values to the numerator. -/
theorem stA'_at (o : Dev nD) (hf : Fin 2) (r : ℕ) (hr : r ≤ 256) (off : ℕ) (ho : 64 * off = 512 * hf.val + r) (my org : BitVec 32) (hm : my = BitVec.ofNat 32 c.val)
    (hg : org = BitVec.ofNat 32 o.val) (A : S1024x1024.Idx → EReal) (i : Fin 1024) (n : Fin 1024) :
    stA' (F := Ideal) Q (D.kv o hf) r hr (bias256 my org (BitVec.ofNat 32 off)) A (ix2 i n)
      = A (ix2 i n) + ∑ k : Fin 256, kp D Q c i (hd n) o ⟨hf.val * 512 + (r + k.val), by omega⟩ * D.V o (ix2 ⟨hf.val * 512 + (r + k.val), by omega⟩ n) := by
  subst hm hg
  refine (aUp256_at _ _ _ _ _ i (pl n)).trans ?_
  show rdQ A (hd n) (ix2 i (pl n)) + _ = _
  have e : rdQ A (hd n) (ix2 i (pl n)) = A (ix2 i n) := by show A (ix2 i (col (hd n) (pl n))) = _; rw [col_hd]
  rw [e]
  congr 1
  refine Finset.sum_congr rfl fun k _ => ?_
  have e2 := rdK_val' D o hf r hr (hd n) k (pl n)
  rw [col_hd] at e2
  rw [← e2, ← pr_kp' D Q c o hf r hr off ho i (hd n) k]
  rfl

/-! ## All the folds -/

/-- The sum over one half of a device's keys, and over a quarter. -/
def hs (f : Dev nD → Fin 1024 → EReal) (o : Dev nD) (hf : Fin 2) : EReal := ∑ k : Fin 512, f o ⟨hf.val * 512 + k.val, by omega⟩
def qs (f : Dev nD → Fin 1024 → EReal) (o : Dev nD) (hf : Fin 2) (r : ℕ) (hr : r ≤ 256) : EReal :=
  ∑ k : Fin 256, f o ⟨hf.val * 512 + (r + k.val), by omega⟩

/-- A device's keys are two halves. -/
theorem dev_halves (f : Dev nD → Fin 1024 → EReal) (o : Dev nD) : ∑ t, f o t = hs f o 0 + hs f o 1 := by
  rw [Fin.sum_univ_two_halves 512 512 rfl (f o)]
  unfold hs
  congr 1

/-- A half is two quarters. -/
theorem half_quarters (f : Dev nD → Fin 1024 → EReal) (o : Dev nD) (hf : Fin 2) : hs f o hf = qs f o hf 0 (by omega) + qs f o hf 256 (by omega) := by
  unfold hs qs
  rw [Fin.sum_univ_two_halves 256 256 rfl]
  congr 1

/-- There are four devices. -/
theorem four : ∀ c : Dev nD, c = 0 ∨ c = 1 ∨ c = 2 ∨ c = 3 := by decide
/-- The left neighbours. -/
theorem lfs : lf (0 : Dev nD) = 3 ∧ lf (1 : Dev nD) = 0 ∧ lf (2 : Dev nD) = 1 ∧ lf (3 : Dev nD) = 2 := by decide
/-- The right neighbours. -/
theorem rts : rt (0 : Dev nD) = 1 ∧ rt (1 : Dev nD) = 2 ∧ rt (2 : Dev nD) = 3 ∧ rt (3 : Dev nD) = 0 := by decide

/-- The ten parts cover every device's keys once. -/
theorem parts (f : Dev nD → Fin 1024 → EReal) :
    0 + hs f c 0 + hs f c 1 + hs f (lf c) 0 + hs f (rt c) 1 + hs f (lf (lf c)) 0 + hs f (rt (rt c)) 1
      + qs f (lf (lf (lf c))) 0 0 (by omega) + qs f (rt (rt (rt c))) 1 0 (by omega) + qs f (lf (lf (lf c))) 0 256 (by omega) + qs f (rt (rt (rt c))) 1 256 (by omega)
      = ∑ o : Dev nD, ∑ t, f o t := by
  have e : (∑ o : Dev nD, ∑ t, f o t) = (hs f c 0 + hs f (lf c) 0 + hs f (lf (lf c)) 0 + hs f (lf (lf (lf c))) 0)
      + (hs f c 1 + hs f (rt c) 1 + hs f (rt (rt c)) 1 + hs f (rt (rt (rt c))) 1) := by
    simp only [dev_halves, Finset.sum_add_distrib]
    generalize hs f = S
    have e0 : ∀ g : Dev nD → EReal, ∑ o, g o = g c + g (lf c) + g (lf (lf c)) + g (lf (lf (lf c))) := by
      intro g
      rw [show (∑ o : Dev nD, g o) = g 0 + g 1 + g 2 + g 3 from Fin.sum_univ_four g]
      rcases four c with rfl | rfl | rfl | rfl
      · rw [lfs.1, lfs.2.2.2, lfs.2.2.1]; abel
      · rw [lfs.2.1, lfs.1, lfs.2.2.2]; abel
      · rw [lfs.2.2.1, lfs.2.1, lfs.1]; abel
      · rw [lfs.2.2.2, lfs.2.2.1, lfs.2.1]; abel
    have e1 : ∀ g : Dev nD → EReal, ∑ o, g o = g c + g (rt c) + g (rt (rt c)) + g (rt (rt (rt c))) := by
      intro g
      rw [show (∑ o : Dev nD, g o) = g 0 + g 1 + g 2 + g 3 from Fin.sum_univ_four g]
      rcases four c with rfl | rfl | rfl | rfl
      · rw [rts.1, rts.2.1, rts.2.2.1]
      · rw [rts.2.1, rts.2.2.1, rts.2.2.2]; abel
      · rw [rts.2.2.1, rts.2.2.2, rts.1]; abel
      · rw [rts.2.2.2, rts.1, rts.2.1]; abel
    rw [e0 fun o => S o 0, e1 fun o => S o 1]
  rw [e, half_quarters f (lf (lf (lf c))) 0, half_quarters f (rt (rt (rt c))) 1]
  abel

/-- The denominator: the sum of the weights of all keys. -/
theorem L5_at (i : Fin 1024) (h : Fin 8) : L5 (F := Ideal) D Q c (ix2 i h) = ∑ o : Dev nD, ∑ t, kp D Q c i h o t := by
  rw [← parts c (kp D Q c i h)]
  refine (stL'_at D Q c _ 1 256 (by omega) 12 (by decide) _ _ (myW_eq c) (lf3_eq c) _ i h).trans ?_
  refine congrArg (· + _) ?_
  refine (stL'_at D Q c _ 0 256 (by omega) 4 (by decide) _ _ (myW_eq c) (rt3_eq c) _ i h).trans ?_
  refine congrArg (· + _) ?_
  refine (stL'_at D Q c _ 1 0 (by omega) 8 (by decide) _ _ (myW_eq c) (lf3_eq c) _ i h).trans ?_
  refine congrArg (· + _) ?_
  refine (stL'_at D Q c _ 0 0 (by omega) 0 (by decide) _ _ (myW_eq c) (rt3_eq c) _ i h).trans ?_
  refine congrArg (· + _) ?_
  refine (stL_at D Q c _ 1 8 (by decide) _ _ (myW_eq c) (rt2_eq c) _ i h).trans ?_
  refine congrArg (· + _) ?_
  refine (stL_at D Q c _ 0 0 (by decide) _ _ (myW_eq c) (lf2_eq c) _ i h).trans ?_
  refine congrArg (· + _) ?_
  refine (stL_at D Q c _ 1 8 (by decide) _ _ (myW_eq c) (rt1_eq c) _ i h).trans ?_
  refine congrArg (· + _) ?_
  refine (stL_at D Q c _ 0 0 (by decide) _ _ (myW_eq c) (lf1_eq c) _ i h).trans ?_
  refine congrArg (· + _) ?_
  refine (stL_at D Q c _ 1 8 (by decide) _ _ (myW_eq c) (rt0_eq c) _ i h).trans ?_
  refine congrArg (· + _) ?_
  refine (stL_at D Q c _ 0 0 (by decide) _ _ (myW_eq c) (lf0_eq c) _ i h).trans ?_
  refine congrArg (· + _) ?_
  exact z8_at _

/-- The numerator: the sum of the weighted values of all keys. -/
theorem A5_at (i n : Fin 1024) : A5 (F := Ideal) D Q c (ix2 i n) = ∑ o : Dev nD, ∑ t, kp D Q c i (hd n) o t * D.V o (ix2 t n) := by
  rw [← parts c (fun o t => kp D Q c i (hd n) o t * D.V o (ix2 t n))]
  refine (stA'_at D Q c _ 1 256 (by omega) 12 (by decide) _ _ (myW_eq c) (lf3_eq c) _ i n).trans ?_
  refine congrArg (· + _) ?_
  refine (stA'_at D Q c _ 0 256 (by omega) 4 (by decide) _ _ (myW_eq c) (rt3_eq c) _ i n).trans ?_
  refine congrArg (· + _) ?_
  refine (stA'_at D Q c _ 1 0 (by omega) 8 (by decide) _ _ (myW_eq c) (lf3_eq c) _ i n).trans ?_
  refine congrArg (· + _) ?_
  refine (stA'_at D Q c _ 0 0 (by omega) 0 (by decide) _ _ (myW_eq c) (rt3_eq c) _ i n).trans ?_
  refine congrArg (· + _) ?_
  refine (stA_at D Q c _ 1 8 (by decide) _ _ (myW_eq c) (rt2_eq c) _ i n).trans ?_
  refine congrArg (· + _) ?_
  refine (stA_at D Q c _ 0 0 (by decide) _ _ (myW_eq c) (lf2_eq c) _ i n).trans ?_
  refine congrArg (· + _) ?_
  refine (stA_at D Q c _ 1 8 (by decide) _ _ (myW_eq c) (rt1_eq c) _ i n).trans ?_
  refine congrArg (· + _) ?_
  refine (stA_at D Q c _ 0 0 (by decide) _ _ (myW_eq c) (lf1_eq c) _ i n).trans ?_
  refine congrArg (· + _) ?_
  refine (stA_at D Q c _ 1 8 (by decide) _ _ (myW_eq c) (rt0_eq c) _ i n).trans ?_
  refine congrArg (· + _) ?_
  refine (stA_at D Q c _ 0 0 (by decide) _ _ (myW_eq c) (lf0_eq c) _ i n).trans ?_
  refine congrArg (· + _) ?_
  exact z1024_at _

/-- The kernel's block of the result. -/
theorem outOf_at (X W U : S1024x1024.Idx → EReal) (i n : Fin 1024) :
    outOf (F := Ideal) D c X W U (ix2 i n)
      = ∑ t : Fin 1024, Ideal.div (∑ o : Dev nD, ∑ k, kp D (qUp (F := Ideal) X W) c i (hd t) o k * D.V o (ix2 k t))
          (∑ o : Dev nD, ∑ k, kp D (qUp (F := Ideal) X W) c i (hd t) o k) * U (ix2 t n) := by
  refine (oUp_at _ _ i n).trans ?_
  refine Finset.sum_congr rfl fun t _ => congrArg (· * U (ix2 t n)) ?_
  refine (nUp_at _ _ i (pl t)).trans ?_
  rw [← A5_at, ← L5_at]
  have e : rdQ (A5 (F := Ideal) D (qUp (F := Ideal) X W) c) (hd t) (ix2 i (pl t)) = A5 (F := Ideal) D (qUp (F := Ideal) X W) c (ix2 i t) := by
    show A5 (F := Ideal) D (qUp (F := Ideal) X W) c (ix2 i (col (hd t) (pl t))) = _; rw [col_hd]
  rw [← e]
  rfl

end Cert.KernelIdeal.Sums

end
-- ==== Proof.RDef.lean ====
/- The reference's result in stages, over the extended reals. -/
module

public import proofs.«01_k».proof.Proof.Mask
public import proofs.«01_k».proof.Proof.Gen.ReferenceIdeal.Run
public import Idealize.ShloMosaic.Lib.Tactic.CleanTypes
public import Idealize.ShloMosaic.Lib.Routing.OpsOrder

@[expose] public section

set_option maxRecDepth 65536

noncomputable section

namespace Cert.ReferenceIdeal.Val

open Idealize.ShloMosaic Idealize.ShloMosaic.TcCoe Idealize.ShloMosaic.StableHlo Cert.Mask
open Cert.ReferenceIdeal Cert.ReferenceIdeal.Gen

/-- The block number of every position. -/
def bks : IVec S4096 32 :=
  select (andi (cmpi .ne (signi (iotaInDim S4096 32 0)) (broadcastInDim S4096 ![] bcast_S_S4096 (signi (constantI S_ 32 64#32))))
      (cmpi .ne (Host.remsi (iotaInDim S4096 32 0) (broadcastInDim S4096 ![] bcast_S_S4096 (constantI S_ 32 64#32))) (broadcastInDim S4096 ![] bcast_S_S4096 (constantI S_ 32 0#32))))
    (subi (Host.divsi (iotaInDim S4096 32 0) (broadcastInDim S4096 ![] bcast_S_S4096 (constantI S_ 32 64#32))) (broadcastInDim S4096 ![] bcast_S_S4096 (constantI S_ 32 1#32)))
    (Host.divsi (iotaInDim S4096 32 0) (broadcastInDim S4096 ![] bcast_S_S4096 (constantI S_ 32 64#32)))

/-- Block numbers as a column, and as a row. -/
def bCol : IVec S4096x1 32 := broadcastInDim S4096x1 ![0] bcast_S4096_S4096x1_0 bks
def bRow : IVec S1x4096 32 := broadcastInDim S1x4096 ![1] bcast_S4096_S1x4096_1 bks

/-- The sums of block numbers. -/
def bSum : IVec S4096x4096 32 :=
  addi (broadcastInDim S4096x4096 ![0, 1] bcast_S4096x1_S4096x4096_0_1 bCol) (broadcastInDim S4096x4096 ![0, 1] bcast_S1x4096_S4096x4096_0_1 bRow)

/-- The divisor three. -/
def three : IVec S_ 32 := select (cmpi .eq (constantI S_ 32 3#32) (constantI S_ 32 0#32)) (constantI S_ 32 1#32) (constantI S_ 32 3#32)

/-- The remainder as the host takes it. -/
def rem0 : IVec S4096x4096 32 := Host.remsi bSum (broadcastInDim S4096x4096 ![] bcast_S_S4096x4096 three)

/-- The remainder with the divisor's sign. -/
def rem3 : IVec S4096x4096 32 :=
  select (andi (cmpi .ne (cmpi .slt rem0 (broadcastInDim S4096x4096 ![] bcast_S_S4096x4096 (constantI S_ 32 0#32))) (broadcastInDim S4096x4096 ![] bcast_S_S4096x4096 (cmpi .slt three (constantI S_ 32 0#32))))
      (cmpi .ne rem0 (broadcastInDim S4096x4096 ![] bcast_S_S4096x4096 (constantI S_ 32 0#32))))
    (addi rem0 (broadcastInDim S4096x4096 ![] bcast_S_S4096x4096 three)) rem0

/-- The mask. -/
def msk : IVec S4096x4096 1 :=
  ori (ori (cmpi .eq (broadcastInDim S4096x4096 ![0, 1] bcast_S4096x1_S4096x4096_0_1 bCol) (broadcastInDim S4096x4096 ![0, 1] bcast_S1x4096_S4096x4096_0_1 bRow))
      (broadcastInDim S4096x4096 ![0, 1] bcast_S1x4096_S4096x4096_0_1 (cmpi .eq bRow (broadcastInDim S1x4096 ![] bcast_S_S1x4096 (constantI S_ 32 0#32)))))
    (cmpi .eq rem3 (broadcastInDim S4096x4096 ![] bcast_S_S4096x4096 (constantI S_ 32 0#32)))

/-- Which rows see any key. -/
def keep : IVec S4096 1 := Host.reduce IntOp.ori msk (constantI S_ 1 0#1) reducesTo_S4096x4096_S4096_d1 h_S_
def keepB : IVec S1x1x4096x1 1 := broadcastInDim S1x1x4096x1 ![2] bcast_S4096_S1x1x4096x1_2 keep

/-- The masked scores. -/
def scs (x : FVec Ideal S1x4096x1024 .f32) (w : FVec Ideal S1024x1024 .f32) (k : FVec Ideal S1x4096x8x128 .f32) : FVec Ideal S1x8x4096x4096 .f32 :=
  select (broadcastInDim S1x8x4096x4096 ![0, 1, 2, 3] bcast_S1x1x4096x4096_S1x8x4096x4096_0_1_2_3 (broadcastInDim S1x1x4096x4096 ![2, 3] bcast_S4096x4096_S1x1x4096x4096_2_3 msk))
    (mulf (Host.dotGeneral dot_S1x4096x8x128_S1x4096x8x128_S1x8x4096x4096_3_3_1_1_02_02 none
        (shapeCast S1x4096x8x128 (Host.dotGeneral dot_S1x4096x1024_S1024x1024_S1x4096x1024_2_0_01_1_n_n none x w : FVec Ideal S1x4096x1024 .f32) shapeCasts_S1x4096x1024_S1x4096x8x128 : FVec Ideal S1x4096x8x128 .f32) k)
      (broadcastInDim S1x8x4096x4096 ![] bcast_S_S1x8x4096x4096 (constant S_ .f32 0x3DB504F3#32)))
    (broadcastInDim S1x8x4096x4096 ![] bcast_S_S1x8x4096x4096 (constant S_ .f32 0xFF800000#32))

/-- The row maxima, the exponentials, the row sums. -/
def mxs (s : FVec Ideal S1x8x4096x4096 .f32) : FVec Ideal S1x8x4096 .f32 :=
  Host.reduce FloatOps.maximumf s (constant S_ .f32 0xFF800000#32) reducesTo_S1x8x4096x4096_S1x8x4096_d3 h_S_
def exs (s : FVec Ideal S1x8x4096x4096 .f32) : FVec Ideal S1x8x4096x4096 .f32 :=
  Host.exp (subf s (broadcastInDim S1x8x4096x4096 ![0, 1, 2, 3] bcast_S1x8x4096x1_S1x8x4096x4096_0_1_2_3 (broadcastInDim S1x8x4096x1 ![0, 1, 2] bcast_S1x8x4096_S1x8x4096x1_0_1_2 (mxs s))))
def sms (e : FVec Ideal S1x8x4096x4096 .f32) : FVec Ideal S1x8x4096x1 .f32 :=
  select (broadcastInDim S1x8x4096x1 ![0, 1, 2, 3] bcast_S1x1x4096x1_S1x8x4096x1_0_1_2_3 keepB)
    (broadcastInDim S1x8x4096x1 ![0, 1, 2] bcast_S1x8x4096_S1x8x4096x1_0_1_2 (Host.reduceAdd e (constant S_ .f32 0x00000000#32) reducesTo_S1x8x4096x4096_S1x8x4096_d3 h_S_))
    (broadcastInDim S1x8x4096x1 ![] bcast_S_S1x8x4096x1 (constant S_ .f32 0x3F800000#32))

/-- The weights. -/
def wts (e : FVec Ideal S1x8x4096x4096 .f32) : FVec Ideal S1x8x4096x4096 .f32 :=
  select (broadcastInDim S1x8x4096x4096 ![0, 1, 2, 3] bcast_S1x1x4096x1_S1x8x4096x4096_0_1_2_3 keepB)
    (Host.divf e (broadcastInDim S1x8x4096x4096 ![0, 1, 2, 3] bcast_S1x8x4096x1_S1x8x4096x4096_0_1_2_3 (sms e)))
    (broadcastInDim S1x8x4096x4096 ![] bcast_S_S1x8x4096x4096 (constant S_ .f32 0x00000000#32))

/-- The heads' contexts side by side. -/
def ctx (v : FVec Ideal S1x4096x8x128 .f32) (p : FVec Ideal S1x8x4096x4096 .f32) : FVec Ideal S1x4096x1024 .f32 :=
  shapeCast S1x4096x1024 (transpose S1x4096x8x128 [0, 3, 1, 2] (Host.dotGeneral dot_S1x4096x8x128_S1x8x4096x4096_S1x8x128x4096_1_3_3_2_02_01 none v p : FVec Ideal S1x8x128x4096 .f32)
    transposes_S1x8x128x4096_S1x4096x8x128_0_3_1_2 : FVec Ideal S1x4096x8x128 .f32) shapeCasts_S1x4096x8x128_S1x4096x1024

/-- The result. -/
def out (x : FVec Ideal S1x4096x1024 .f32) (w : FVec Ideal S1024x1024 .f32) (k v : FVec Ideal S1x4096x8x128 .f32) (u : FVec Ideal S1024x1024 .f32) : FVec Ideal S1x4096x1024 .f32 :=
  Host.dotGeneral dot_S1x4096x1024_S1024x1024_S1x4096x1024_2_0_01_1_n_n none (ctx v (wts (exs (scs x w k)))) u

/-- The reference's result is the chain of the stages. -/
theorem out_eq (m : (ℓ : Loc nD τ sig) → Buf (Elt Ideal) ℓ) (c : Dev nD) :
    Value.res_main_v44 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v44
  rfl

end Cert.ReferenceIdeal.Val

end
-- ==== Proof.RVal.lean ====
/- The reference's stages over the extended reals, each read at an index. -/
module

public import proofs.«01_k».proof.Proof.RDef
public import Idealize.ShloMosaic.Lib.Routing.OpsOrder

@[expose] public section

set_option maxRecDepth 65536

noncomputable section

namespace Cert.ReferenceIdeal.Val

open Idealize.ShloMosaic Idealize.ShloMosaic.TcCoe Idealize.ShloMosaic.StableHlo Cert.Mask
open Cert.ReferenceIdeal Cert.ReferenceIdeal.Gen

/-! ## At an index -/

/-- The host's division by 64 rounded down, on a word. -/
theorem flH {a : ℕ} (ha : a < 2 ^ 31) :
    Scalar.select
      (IntOp.andi
        (IntOp.cmpi .ne
          (if BitVec.ofNat 32 a = 0 then (0 : BitVec 32) else if (BitVec.ofNat 32 a).msb = true then -1 else 1)
          (if (64#32 : BitVec 32) = 0 then (0 : BitVec 32) else if (64#32 : BitVec 32).msb = true then -1 else 1))
        (IntOp.cmpi .ne (IntOp.remsi .host (BitVec.ofNat 32 a) 64#32) 0#32))
      (IntOp.subi (IntOp.divsi .host (BitVec.ofNat 32 a) 64#32) 1#32)
      (IntOp.divsi .host (BitVec.ofNat 32 a) 64#32) = BitVec.ofNat 32 (a / 64) := by
  rw [Routing.remsi_word .host ha (show 0 < 64 by decide) (by decide), Routing.divsi_word .host ha (show 0 < 64 by decide) (by decide)]
  rcases Nat.eq_zero_or_pos a with h | h
  · subst h; decide
  · rw [if_neg (Routing.ofNat32_ne_zero h (show a < 2 ^ 32 by omega)), Routing.msb_ofNat32 ha]
    have e : IntOp.cmpi .ne (if false = true then (-1 : BitVec 32) else 1) (if (64#32 : BitVec 32) = 0 then (0 : BitVec 32) else if (64#32 : BitVec 32).msb = true then -1 else 1) = 0#1 := by decide
    rw [e]
    show Scalar.select (0#1 &&& _) _ _ = _
    rw [BitVec.zero_and]
    rfl

/-- The block of a position. -/
theorem bks_at (i : Fin 4096) : bks (ix1 i) = BitVec.ofNat 32 (i.val / 64) := by
  refine Eq.trans ?_ (flH (a := i.val) (by omega))
  pointwise [bks]

/-- The host's remainder by three with the divisor's sign, on a word. -/
theorem rmH {a : ℕ} (ha : a < 2 ^ 31) :
    Scalar.select
      (IntOp.andi
        (IntOp.cmpi .ne (IntOp.cmpi .slt (BitVec.ofNat 32 (a % 3)) 0#32) (IntOp.cmpi .slt (3#32 : BitVec 32) 0#32))
        (IntOp.cmpi .ne (BitVec.ofNat 32 (a % 3)) 0#32))
      (IntOp.addi (BitVec.ofNat 32 (a % 3)) 3#32) (BitVec.ofNat 32 (a % 3)) = BitVec.ofNat 32 (a % 3) := by
  rw [sltW (by omega)]
  have e : IntOp.cmpi .ne (0#1) (IntOp.cmpi .slt (3#32 : BitVec 32) 0#32) = 0#1 := by decide
  rw [e]
  show Scalar.select (0#1 &&& _) _ _ = _
  rw [BitVec.zero_and]
  rfl

/-- The divisor. -/
theorem three_at : three ix0 = 3#32 := by decide

/-- The remainder of the sum of two blocks by three. -/
theorem rem0_at (i j : Fin 4096) : rem0 (ix2 i j) = BitVec.ofNat 32 ((i.val / 64 + j.val / 64) % 3) := by
  pointwise [rem0, bSum, bCol, bRow, bks_at, three_at]
  rw [addW, Routing.remsi_word .host (by omega) (show 0 < 3 by decide) (by decide)]

/-- So is the remainder with its sign set right. -/
theorem rem3_at (i j : Fin 4096) : rem3 (ix2 i j) = BitVec.ofNat 32 ((i.val / 64 + j.val / 64) % 3) := by
  refine Eq.trans ?_ (rmH (a := i.val / 64 + j.val / 64) (by omega))
  pointwise [rem3, rem0_at, three_at]

/-- The reference's mask. -/
theorem msk_at (i j : Fin 4096) : msk (ix2 i j) = BitVec.ofBool (decide (See i j)) := by
  refine Eq.trans ?_ (bit_iff .host (a := i.val / 64) (b := j.val / 64) (by omega) (by omega))
  pointwise [msk, rem3_at, bCol, bRow, bks_at]
  rw [addW, Routing.remsi_word .host (by omega) (show 0 < 3 by decide) (by decide)]

/-- Every row keeps a key: the first block's. -/
theorem keep_at (i : Fin 4096) : keep (ix1 i) = 1#1 := by
  pointwise [keep, msk_at]
  rw [Routing.fold_ori]
  refine ⟨0, Finset.mem_univ _, ?_⟩
  have : See i.val (0 : Fin 4096).val := Or.inr (Or.inl rfl)
  rw [decide_eq_true this]; rfl

/-- So does every row, as the masks are laid out. -/
theorem keepB_at (i : Fin 4096) : keepB (ix4 0 0 i 0) = 1#1 := by
  pointwise [keepB, keep_at]

/-- The word of minus infinity. -/
theorem ninf : Ideal.ofBits .f32 0xFF800000#32 = ⊥ := by
  simp [Ideal.ofBits, Ideal.ieee]

/-- The masked scores. -/
theorem scs_at (x : FVec Ideal S1x4096x1024 .f32) (w : FVec Ideal S1024x1024 .f32) (k : FVec Ideal S1x4096x8x128 .f32) (h : Fin 8) (i j : Fin 4096) :
    scs x w k (ix4 0 h i j) = if See i j then (∑ e : Fin 128, (∑ t : Fin 1024, x (ix3 0 i t) * w (ix2 t ⟨h.val * 128 + e.val, by omega⟩)) * k (ix4 0 j h e))
      * Ideal.ofBits .f32 0x3DB504F3#32 else ⊥ := by
  pointwise [scs, msk_at, ninf]

/-- The row maxima. -/
theorem mxs_at (s : FVec Ideal S1x8x4096x4096 .f32) (h : Fin 8) (i : Fin 4096) :
    mxs s (ix3 0 h i) = Finset.univ.fold max ⊥ (fun j : Fin 4096 => s (ix4 0 h i j)) := by
  pointwise [mxs, ninf]

/-- The exponentials. -/
theorem exs_at (s : FVec Ideal S1x8x4096x4096 .f32) (h : Fin 8) (i j : Fin 4096) :
    exs s (ix4 0 h i j) = Ideal.exp (s (ix4 0 h i j) - mxs s (ix3 0 h i)) := by
  pointwise [exs]

/-- A row's sum of exponentials. -/
theorem sms_at (e : FVec Ideal S1x8x4096x4096 .f32) (h : Fin 8) (i : Fin 4096) :
    sms e (ix4 0 h i 0) = ∑ j : Fin 4096, e (ix4 0 h i j) := by
  pointwise [sms]
  rw [keepB_at]
  rfl

/-- A choice whose condition holds. -/
theorem selOne {α : Type} (a b : α) : Scalar.select (1#1) a b = a := rfl

/-- A quotient, entry by entry. -/
theorem divAt {s : Shape} (e z : FVec Ideal s .f32) (i : s.Idx) : Host.divf e z i = Ideal.div (e i) (z i) := rfl

/-- The rows kept, over the scores. -/
theorem keepW_at (h : Fin 8) (i j : Fin 4096) :
    (broadcastInDim S1x8x4096x4096 ![0, 1, 2, 3] bcast_S1x1x4096x1_S1x8x4096x4096_0_1_2_3 keepB) (ix4 0 h i j) = 1#1 := by
  pointwise
  exact keepB_at i

/-- The row sums, over the scores. -/
theorem smsW_at (e : FVec Ideal S1x8x4096x4096 .f32) (h : Fin 8) (i j : Fin 4096) :
    (broadcastInDim S1x8x4096x4096 ![0, 1, 2, 3] bcast_S1x8x4096x1_S1x8x4096x4096_0_1_2_3 (sms e)) (ix4 0 h i j) = sms e (ix4 0 h i 0) := by
  pointwise

/-- A weight: its exponential over the row's sum. -/
theorem wts_at (e : FVec Ideal S1x8x4096x4096 .f32) (h : Fin 8) (i j : Fin 4096) :
    wts e (ix4 0 h i j) = Ideal.div (e (ix4 0 h i j)) (∑ j : Fin 4096, e (ix4 0 h i j)) := by
  unfold wts
  rw [ValueIdx.select_apply, keepW_at, selOne, divAt, smsW_at, sms_at]

/-- The reference's result, entry by entry. -/
theorem out_at (x : FVec Ideal S1x4096x1024 .f32) (w : FVec Ideal S1024x1024 .f32) (k v : FVec Ideal S1x4096x8x128 .f32) (u : FVec Ideal S1024x1024 .f32) (i : Fin 4096) (n : Fin 1024) :
    out x w k v u (ix3 0 i n) = ∑ t : Fin 1024,
      (∑ j : Fin 4096, v (ix4 0 j ⟨t.val / 128, by omega⟩ ⟨t.val % 128, by omega⟩) * wts (exs (scs x w k)) (ix4 0 ⟨t.val / 128, by omega⟩ i j)) * u (ix2 t n) := by
  pointwise [out, ctx]

end Cert.ReferenceIdeal.Val

end
-- ==== Proof.Attn.lean ====
/- The kernel's block of the result is the reference's: the two attentions agree. -/
module

public import proofs.«01_k».proof.Proof.KSum
public import proofs.«01_k».proof.Proof.RVal

@[expose] public section

set_option maxRecDepth 65536

noncomputable section

namespace Cert.Attn

open Idealize.ShloMosaic Cert.Mask
open Cert.KernelIdeal.Str Cert.KernelIdeal.Slots Cert.KernelIdeal.Talk Cert.KernelIdeal.Val Cert.KernelIdeal.Sums
open Cert.ReferenceIdeal.Val (scs mxs exs wts out scs_at mxs_at exs_at wts_at out_at)

/-- The place in the whole sequence of position `i` of device `c`'s block. -/
def gl (c : Dev Cert.KernelIdeal.nD) (i : Fin 1024) : Fin 4096 := ⟨1024 * c.val + i.val, by have : c.val < 4 := c.isLt; omega⟩

/-- A sum over the whole sequence, device by device. -/
theorem sum_dev (f : Fin 4096 → EReal) : ∑ j, f j = ∑ o : Dev Cert.KernelIdeal.nD, ∑ t : Fin 1024, f (gl o t) := by
  have e := (finProdFinEquiv (m := 4) (n := 1024)).sum_comp f
  rw [← e, Fintype.sum_prod_type]
  refine Finset.sum_congr rfl fun o _ => Finset.sum_congr rfl fun t _ => congrArg f (Fin.ext ?_)
  exact Nat.add_comm _ _

/-- The scale is a real number. -/
theorem scale_real : ∃ s : ℝ, Ideal.ofBits .f32 0x3DB504F3#32 = (s : EReal) := by
  refine ⟨EReal.toReal (Ideal.ofBits .f32 0x3DB504F3#32), (EReal.coe_toReal ?_ ?_).symm⟩
  · simp [Ideal.ofBits, Ideal.ieee]
    rw [← EReal.coe_mul]
    exact EReal.coe_ne_top _
  · simp [Ideal.ofBits, Ideal.ieee]
    rw [← EReal.coe_mul]
    exact EReal.coe_ne_bot _

variable (x : Cert.ReferenceIdeal.S1x4096x1024.Idx → EReal) (w : Cert.ReferenceIdeal.S1024x1024.Idx → EReal) (k v : Cert.ReferenceIdeal.S1x4096x8x128.Idx → EReal)
  (u : Cert.ReferenceIdeal.S1024x1024.Idx → EReal)
  (D : Cts Ideal) (c : Dev Cert.KernelIdeal.nD) (X W U : Cert.KernelIdeal.S1024x1024.Idx → EReal)

/-- For finite queries' inputs and keys, a row's context is the same on both sides. -/
theorem ctx_eq (hx : ∀ i t, ∃ r : ℝ, x (ix3 0 i t) = r) (hw : ∀ t n, ∃ r : ℝ, w (ix2 t n) = r) (hk : ∀ j h e, ∃ r : ℝ, k (ix4 0 j h e) = r)
    (hX : ∀ i t, X (ix2 i t) = x (ix3 0 (gl c i) t)) (hW : ∀ t n, W (ix2 t n) = w (ix2 t n))
    (hK : ∀ o t h e, D.K o (ix2 t (col h e)) = k (ix4 0 (gl o t) h e)) (hV : ∀ o t h e, D.V o (ix2 t (col h e)) = v (ix4 0 (gl o t) h e))
    (i : Fin 1024) (h : Fin 8) (e : Fin 128) :
    Ideal.div (∑ o : Dev Cert.KernelIdeal.nD, ∑ t, kp D (qUp (F := Ideal) X W) c i h o t * D.V o (ix2 t (col h e))) (∑ o : Dev Cert.KernelIdeal.nD, ∑ t, kp D (qUp (F := Ideal) X W) c i h o t)
      = ∑ j : Fin 4096, v (ix4 0 j h e) * wts (exs (scs x w k)) (ix4 0 h (gl c i) j) := by
  choose xr hxr using hx
  choose wr hwr using hw
  choose kr hkr using hk
  obtain ⟨s, hs⟩ := scale_real
  set r : Fin 4096 → ℝ := fun j => (∑ e : Fin 128, (∑ t : Fin 1024, xr (gl c i) t * wr t (col h e)) * kr j h e) * s with hr
  set P : Fin 4096 → Prop := fun j => See (gl c i).val j.val with hP
  have hms : ∀ j, scs x w k (ix4 0 h (gl c i) j) = if P j then (r j : EReal) else ⊥ := by
    intro j
    rw [scs_at, hs]
    have hc : ∀ e : Fin 128, (⟨h.val * 128 + e.val, by omega⟩ : Fin 1024) = col h e := fun e => Fin.ext (by show h.val * 128 + e.val = 128 * h.val + e.val; omega)
    simp only [hxr, hwr, hkr, hc, ← EReal.coe_mul, ← Soft.coe_sum]
    rfl
  have hkp : ∀ o t, kp D (qUp (F := Ideal) X W) c i h o t = (Soft.wt P r (gl o t) : EReal) := by
    intro o t
    rw [← Soft.exp_bias]
    unfold kp
    simp only [qUp_at, hX, hW, hK, hxr, hwr, hkr, hs, ← EReal.coe_mul, ← Soft.coe_sum]
    have e1 : (∑ e : Fin 128, (∑ t : Fin 1024, xr (gl c i) t * wr t (col h e)) * s * kr (gl o t) h e) = r (gl o t) := by
      rw [hr]; simp only; rw [Finset.sum_mul]
      exact Finset.sum_congr rfl fun e _ => by ring
    rw [e1]
    rfl
  have hsoft := Soft.soft P r 0 (Or.inr (Or.inl rfl)) (fun j => v (ix4 0 j h e)) (fun j => scs x w k (ix4 0 h (gl c i) j)) hms
  simp only [wts_at, exs_at, mxs_at]
  rw [hsoft, sum_dev, sum_dev]
  simp only [hkp, hV]

/-- The kernel's result on device `c` is the reference's rows of that device. -/
theorem out_rows (hx : ∀ i t, ∃ r : ℝ, x (ix3 0 i t) = r) (hw : ∀ t n, ∃ r : ℝ, w (ix2 t n) = r) (hk : ∀ j h e, ∃ r : ℝ, k (ix4 0 j h e) = r)
    (hX : ∀ i t, X (ix2 i t) = x (ix3 0 (gl c i) t)) (hW : ∀ t n, W (ix2 t n) = w (ix2 t n)) (hU : ∀ t n, U (ix2 t n) = u (ix2 t n))
    (hK : ∀ o t h e, D.K o (ix2 t (col h e)) = k (ix4 0 (gl o t) h e)) (hV : ∀ o t h e, D.V o (ix2 t (col h e)) = v (ix4 0 (gl o t) h e))
    (i n : Fin 1024) : outOf (F := Ideal) D c X W U (ix2 i n) = out x w k v u (ix3 0 (gl c i) n) := by
  rw [outOf_at, out_at]
  refine Finset.sum_congr rfl fun t _ => ?_
  rw [hU]
  refine congrArg (· * u (ix2 t n)) ?_
  have e := ctx_eq x w k v D c X W hx hw hk hX hW hK hV i (hd t) (pl t)
  rw [col_hd] at e
  exact e

end Cert.Attn

end
-- ==== Proof.Value.lean ====
/- The value: the idealized kernel computes the reference's blocks, for finite inputs, query weights and keys. -/
module

public import proofs.«01_k».proof.Defs
public import proofs.«01_k».proof.Proof.Stage
public import proofs.«01_k».proof.Proof.Attn
public import proofs.«01_k».proof.Proof.Gen.ReferenceIdeal.Run
public import Idealize.ShloMosaic.Lib.StableHlo.RunHlo
public import Idealize.ShloMosaic.Lib.Quiescent

@[expose] public section

set_option maxRecDepth 65536

noncomputable section

namespace Cert.Proof

open Idealize.ShloMosaic Idealize.SL.Sem
open Cert.KernelIdeal.Stage Cert.Attn

/-- The shape relations the precondition's function states. -/
theorem preFacts : Cert.Pre_finite_KernelIdeal.Facts := ⟨by decide, by decide, by decide⟩
/-- The same for the whole arrays. -/
theorem preFacts' : Cert.Pre_finite_ReferenceIdeal.Facts := ⟨by decide, by decide, by decide⟩

/-- The word of infinity. -/
theorem inf_word : Ideal.ofBits .f32 0x7F800000#32 = ⊤ := by
  simp [Ideal.ofBits, Ideal.ieee]

/-- An entry whose absolute value lies below infinity is a real number. -/
theorem real_of_lt {s : Shape} (x y : FVec Ideal s .f32) (i : s.Idx) (hy : y i = (⊤ : EReal)) (h : cmpf .olt (Host.absf x) y i = 1#1) :
    ∃ r : ℝ, x i = (r : EReal) := by
  have h1 : BitVec.ofBool (decide ((max (x i) (-(x i)) : EReal) < y i)) = 1#1 := h
  have h2 : (max (x i) (-(x i)) : EReal) < ⊤ := by
    rw [hy] at h1
    by_contra hn
    rw [decide_eq_false hn] at h1
    exact absurd h1 (by decide)
  have ht : (x i : EReal) ≠ ⊤ := fun e => by rw [e] at h2; simp at h2
  have hb : (x i : EReal) ≠ ⊥ := fun e => by rw [e] at h2; simp at h2
  exact ⟨EReal.toReal (x i), (EReal.coe_toReal ht hb).symm⟩

/-- What the precondition says of a device's buffers. -/
theorem pre_real [hP : Cert.Pre_finite_KernelIdeal.Facts] (a0 : FVec Ideal Cert.Pre_finite_KernelIdeal.S1x1024x1024 .f32) (a1 a4 : FVec Ideal Cert.Pre_finite_KernelIdeal.S1024x1024 .f32)
    (a2 a3 : FVec Ideal Cert.Pre_finite_KernelIdeal.S1x1024x8x128 .f32)
    (h0 : (Cert.Pre_finite_KernelIdeal.fn (F := Ideal) a0 a1 a2 a3 a4).1 = (fun _ => 1#1)) (h1 : (Cert.Pre_finite_KernelIdeal.fn (F := Ideal) a0 a1 a2 a3 a4).2.1 = (fun _ => 1#1))
    (h2 : (Cert.Pre_finite_KernelIdeal.fn (F := Ideal) a0 a1 a2 a3 a4).2.2 = (fun _ => 1#1)) :
    (∀ i, ∃ r : ℝ, a0 i = (r : EReal)) ∧ (∀ i, ∃ r : ℝ, a1 i = (r : EReal)) ∧ (∀ i, ∃ r : ℝ, a2 i = (r : EReal)) :=
  ⟨fun i => real_of_lt a0 _ i inf_word (congrFun h0 i), fun i => real_of_lt a1 _ i inf_word (congrFun h1 i), fun i => real_of_lt a2 _ i inf_word (congrFun h2 i)⟩

/-- Blocks of the whole arrays, entry by entry. -/
theorem block3_at {α : Type} (c : Fin 4) (v : Cert.ReferenceIdeal.S1x4096x1024.Idx → α) (i n : Fin 1024) :
    Layout.block ⟨3, ![1, 1024, 1024]⟩ ⟨3, ![1, 4096, 1024]⟩ 1 4 c v (by decide) (ix3 0 i n) = v (ix3 0 (gl c i) n) := by
  refine congrArg v (funext fun b => Fin.ext ?_)
  match b with
  | ⟨0, _⟩ => rfl
  | ⟨1, _⟩ => exact congrArg (· + i.val) (Nat.mul_comm _ _)
  | ⟨2, _⟩ => rfl

/-- The same for keys and values. -/
theorem block4_at {α : Type} (c : Fin 4) (v : Cert.ReferenceIdeal.S1x4096x8x128.Idx → α) (i : Fin 1024) (h : Fin 8) (e : Fin 128) :
    Layout.block ⟨4, ![1, 1024, 8, 128]⟩ ⟨4, ![1, 4096, 8, 128]⟩ 1 4 c v (by decide) (ix4 0 i h e) = v (ix4 0 (gl c i) h e) := by
  refine congrArg v (funext fun b => Fin.ext ?_)
  match b with
  | ⟨0, _⟩ => rfl
  | ⟨1, _⟩ => exact congrArg (· + i.val) (Nat.mul_comm _ _)
  | ⟨2, _⟩ => rfl
  | ⟨3, _⟩ => rfl

/-- A position of the whole sequence lies in some device's block. -/
theorem gl_onto (j : Fin 4096) : ∃ (c : Dev Cert.KernelIdeal.nD) (i : Fin 1024), gl c i = j :=
  ⟨(⟨j.val / 1024, by omega⟩ : Fin 4), ⟨j.val % 1024, by omega⟩, Fin.ext (Nat.div_add_mod _ _)⟩

/-- The value claim. -/
theorem value : Cert.algebraic_KernelIdeal_ReferenceIdeal_pre_finite_KernelIdeal (hPre_finite_KernelIdeal := preFacts) := by
  intro m g m' g' hpre hin
  have hp := fun c => @pre_real preFacts _ _ _ _ _ (hpre c).1 (hpre c).2.1 (hpre c).2.2
  refine ⟨Cert.ReferenceIdeal.Value.res_main_v44 m' 0, θ_run_mono (Cert.KernelIdeal.Talk.run_main (F := Ideal) m g) fun r hr c => ?_,
    θ_run_mono (Cert.ReferenceIdeal.Value.run (F := Ideal) m' g') fun r hr => hr 0⟩
  obtain ⟨h0, h1, h2, h3, h4, h5⟩ := hr.1 c
  refine ⟨h5.trans ?_, h0, h1, h2, h3, h4⟩
  rw [Cert.ReferenceIdeal.Val.out_eq]
  funext j
  idx_vars j
  obtain rfl : j0 = 0 := Subsingleton.elim _ _
  refine Eq.trans ?_ (block3_at c _ j1 j2).symm
  refine (res_at m c j1 j2).trans ?_
  have hK : ∀ (o : Dev Cert.KernelIdeal.nD) t h e, (Cert.KernelIdeal.Talk.Dm m).K o (ix2 t (Cert.KernelIdeal.Talk.col h e)) = m' (((0 : Dev Cert.ReferenceIdeal.nD).tc : Thread Cert.ReferenceIdeal.nD Cert.ReferenceIdeal.τ).loc Cert.ReferenceIdeal.main_arg2) (ix4 0 (gl o t) h e) := by
    intro o t h e
    refine (congrFun (V1_v4 m o) _).trans ?_
    rw [sk_at, (hin o).2.2.1]
    exact block4_at o _ t h e
  have hV : ∀ (o : Dev Cert.KernelIdeal.nD) t h e, (Cert.KernelIdeal.Talk.Dm m).V o (ix2 t (Cert.KernelIdeal.Talk.col h e)) = m' (((0 : Dev Cert.ReferenceIdeal.nD).tc : Thread Cert.ReferenceIdeal.nD Cert.ReferenceIdeal.τ).loc Cert.ReferenceIdeal.main_arg3) (ix4 0 (gl o t) h e) := by
    intro o t h e
    refine (congrFun (V1_v6 m o) _).trans ?_
    rw [sk_at, (hin o).2.2.2.1]
    exact block4_at o _ t h e
  refine out_rows _ _ _ _ _ _ c _ _ _ ?_ ?_ ?_ ?_ ?_ ?_ hK hV j1 j2
  · intro j t
    obtain ⟨o, i, rfl⟩ := gl_onto j
    obtain ⟨q, hq⟩ := (hp o).1 (ix3 0 i t)
    rw [(hin o).1] at hq
    exact ⟨q, (block3_at o _ i t).symm.trans hq⟩
  · intro t n
    obtain ⟨q, hq⟩ := (hp 0).2.1 (ix2 t n)
    rw [(hin 0).2.1] at hq
    exact ⟨q, hq⟩
  · intro j h e
    obtain ⟨o, i, rfl⟩ := gl_onto j
    obtain ⟨q, hq⟩ := (hp o).2.2 (ix4 0 i h e)
    rw [(hin o).2.2.1] at hq
    exact ⟨q, (block4_at o _ i h e).symm.trans hq⟩
  · intro i t
    refine (congrFun (V1_v2 m c) _).trans ?_
    rw [sx_at, (hin c).1]
    exact block3_at c _ i t
  · intro t n
    refine (congrFun (V1_v7 m c) _).trans ?_
    rw [sw_at, (hin c).2.1]
  · intro t n
    refine (congrFun (V1_v8 m c) _).trans ?_
    rw [sw_at, (hin c).2.2.2.2]

end Cert.Proof

end
-- ==== Proof.lean ====
/- The assembled claim: the frames, what idealizing keeps, and the value. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts, preFacts, preFacts',
  frame_kernel, frame_ideal, fun m ρ _ => frame_ideal m ρ trivial, frame_reference, fun m ρ _ => frame_reference m ρ trivial, keeps, value⟩

end Cert.Proof

end
